-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x81 : Shape := ⟨2, ![20000, 81]⟩
abbrev S20000x324 : Shape := ⟨2, ![20000, 324]⟩
abbrev S20000x4 : Shape := ⟨2, ![20000, 4]⟩
abbrev S20000x81x4 : Shape := ⟨3, ![20000, 81, 4]⟩
abbrev S20000x80x1 : Shape := ⟨3, ![20000, 80, 1]⟩
abbrev S20000x80 : Shape := ⟨2, ![20000, 80]⟩
abbrev S1600000 : Shape := ⟨1, ![1600000]⟩
abbrev S1000 : Shape := ⟨1, ![1000]⟩
abbrev S_ : Shape := ⟨0, ![]⟩
abbrev S1000x1 : Shape := ⟨2, ![1000, 1]⟩
abbrev S1000x2 : Shape := ⟨2, ![1000, 2]⟩
abbrev S1000x4 : Shape := ⟨2, ![1000, 4]⟩
abbrev S24 : Shape := ⟨1, ![24]⟩
abbrev S1024 : Shape := ⟨1, ![1024]⟩
abbrev S24x4 : Shape := ⟨2, ![24, 4]⟩
abbrev S1024x4 : Shape := ⟨2, ![1024, 4]⟩
abbrev S1024x1 : Shape := ⟨2, ![1024, 1]⟩
abbrev S8x128 : Shape := ⟨2, ![8, 128]⟩
abbrev S100x5 : Shape := ⟨2, ![100, 5]⟩
abbrev S2000x81 : Shape := ⟨2, ![2000, 81]⟩
abbrev S2000x80 : Shape := ⟨2, ![2000, 80]⟩
abbrev S2000x4 : Shape := ⟨2, ![2000, 4]⟩
abbrev S2000 : Shape := ⟨1, ![2000]⟩
abbrev S2000x1 : Shape := ⟨2, ![2000, 1]⟩
abbrev S1x8x128 : Shape := ⟨3, ![1, 8, 128]⟩
abbrev S1 : Shape := ⟨1, ![1]⟩
abbrev S1x1x1 : Shape := ⟨3, ![1, 1, 1]⟩
abbrev S128x8 : Shape := ⟨2, ![128, 8]⟩

abbrev nBuf : Space → Nat
  | .hbm => 130
  | .vmem => 25
  | .smem => 0
  | _ => 0

abbrev hbmTy0_0 (i : Nat) : BufTy := match i % 128 with
  | 0 => ⟨S20000x81, .f32⟩
  | 1 => ⟨S20000x324, .f32⟩
  | 2 => ⟨S20000x4, .f32⟩
  | 3 => ⟨S20000x81x4, .f32⟩
  | 4 => ⟨S20000x80x1, .f32⟩
  | 5 => ⟨S20000x80, .f32⟩
  | 6 => ⟨S20000x80x1, .f32⟩
  | 7 => ⟨S20000x80, .f32⟩
  | 8 => ⟨S20000x80x1, .f32⟩
  | 9 => ⟨S20000x80, .f32⟩
  | 10 => ⟨S20000x80x1, .f32⟩
  | 11 => ⟨S20000x80, .f32⟩
  | 12 => ⟨S20000x80, .f32⟩
  | 13 => ⟨S1600000, .f32⟩
  | 14 => ⟨S1000, .f32⟩
  | 15 => ⟨S1000, .i32⟩
  | 16 => ⟨S_, .i32⟩
  | 17 => ⟨S_, .i32⟩
  | 18 => ⟨S1000, .i32⟩
  | 19 => ⟨S1000, .i32⟩
  | 20 => ⟨S1000, .i32⟩
  | 21 => ⟨S_, .i32⟩
  | 22 => ⟨S1000, .i32⟩
  | 23 => ⟨S1000, .i1⟩
  | 24 => ⟨S1000, .i32⟩
  | 25 => ⟨S1000, .i32⟩
  | 26 => ⟨S_, .i32⟩
  | 27 => ⟨S1000, .i32⟩
  | 28 => ⟨S1000, .i1⟩
  | 29 => ⟨S1000, .i1⟩
  | 30 => ⟨S_, .i32⟩
  | 31 => ⟨S1000, .i32⟩
  | 32 => ⟨S1000, .i32⟩
  | 33 => ⟨S1000, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S1000, .i32⟩
  | 41 => ⟨S1000, .i32⟩
  | 42 => ⟨S_, .i32⟩
  | 43 => ⟨S1000, .i32⟩
  | 44 => ⟨S1000, .i1⟩
  | 45 => ⟨S_, .i32⟩
  | 46 => ⟨S1000, .i32⟩
  | 47 => ⟨S1000, .i1⟩
  | 48 => ⟨S_, .i32⟩
  | 49 => ⟨S_, .i1⟩
  | 50 => ⟨S1000, .i1⟩
  | 51 => ⟨S1000, .i1⟩
  | 52 => ⟨S1000, .i1⟩
  | 53 => ⟨S1000, .i32⟩
  | 54 => ⟨S1000, .i32⟩
  | 55 => ⟨S1000, .i32⟩
  | 56 => ⟨S20000x81x4, .f32⟩
  | 57 => ⟨S_, .i32⟩
  | 58 => ⟨S1000, .i32⟩
  | 59 => ⟨S1000, .i32⟩
  | 60 => ⟨S_, .i32⟩
  | 61 => ⟨S1000, .i32⟩
  | 62 => ⟨S1000, .i1⟩
  | 63 => ⟨S_, .i32⟩
  | 64 => ⟨S1000, .i32⟩
  | 65 => ⟨S1000, .i32⟩
  | 66 => ⟨S1000, .i32⟩
  | 67 => ⟨S_, .i32⟩
  | 68 => ⟨S1000, .i32⟩
  | 69 => ⟨S1000, .i1⟩
  | 70 => ⟨S_, .i32⟩
  | 71 => ⟨S1000, .i32⟩
  | 72 => ⟨S1000, .i32⟩
  | 73 => ⟨S1000, .i32⟩
  | 74 => ⟨S1000x1, .i32⟩
  | 75 => ⟨S1000x1, .i32⟩
  | 76 => ⟨S1000x2, .i32⟩
  | 77 => ⟨S1000x4, .f32⟩
  | 78 => ⟨S_, .i32⟩
  | 79 => ⟨S1000, .i32⟩
  | 80 => ⟨S1000, .i1⟩
  | 81 => ⟨S_, .i32⟩
  | 82 => ⟨S1000, .i32⟩
  | 83 => ⟨S1000, .i32⟩
  | 84 => ⟨S1000, .i32⟩
  | 85 => ⟨S1000x1, .i32⟩
  | 86 => ⟨S1000x4, .f32⟩
  | 87 => ⟨S_, .i32⟩
  | 88 => ⟨S1000, .i32⟩
  | 89 => ⟨S1000, .i32⟩
  | 90 => ⟨S1000, .f32⟩
  | 91 => ⟨S_, .f32⟩
  | 92 => ⟨S24, .f32⟩
  | 93 => ⟨S1024, .f32⟩
  | 94 => ⟨S_, .f32⟩
  | 95 => ⟨S24x4, .f32⟩
  | 96 => ⟨S1024x4, .f32⟩
  | 97 => ⟨S_, .f32⟩
  | 98 => ⟨S24x4, .f32⟩
  | 99 => ⟨S1024x4, .f32⟩
  | 100 => ⟨S_, .f32⟩
  | 101 => ⟨S24, .f32⟩
  | 102 => ⟨S1024, .f32⟩
  | 103 => ⟨S1024x1, .f32⟩
  | 104 => ⟨S1024, .f32⟩
  | 105 => ⟨S1024x1, .f32⟩
  | 106 => ⟨S1024, .f32⟩
  | 107 => ⟨S1024x1, .f32⟩
  | 108 => ⟨S1024, .f32⟩
  | 109 => ⟨S1024x1, .f32⟩
  | 110 => ⟨S1024, .f32⟩
  | 111 => ⟨S1024x1, .f32⟩
  | 112 => ⟨S1024, .f32⟩
  | 113 => ⟨S1024x1, .f32⟩
  | 114 => ⟨S1024, .f32⟩
  | 115 => ⟨S1024x1, .f32⟩
  | 116 => ⟨S1024, .f32⟩
  | 117 => ⟨S1024x1, .f32⟩
  | 118 => ⟨S1024, .f32⟩
  | 119 => ⟨S8x128, .f32⟩
  | 120 => ⟨S8x128, .f32⟩
  | 121 => ⟨S8x128, .f32⟩
  | 122 => ⟨S8x128, .f32⟩
  | 123 => ⟨S8x128, .f32⟩
  | 124 => ⟨S8x128, .f32⟩
  | 125 => ⟨S8x128, .f32⟩
  | 126 => ⟨S8x128, .f32⟩
  | 127 => ⟨S8x128, .f32⟩
  | _ => ⟨S20000x81, .f32⟩

abbrev hbmTy0_1 (i : Nat) : BufTy := match i % 128 with
  | 0 => ⟨S8x128, .f32⟩
  | 1 => ⟨S100x5, .f32⟩
  | _ => ⟨S20000x81, .f32⟩

abbrev hbmTy (i : Nat) : BufTy := match i / 128 with
  | 0 => hbmTy0_0 i
  | 1 => hbmTy0_1 i
  | _ => ⟨S20000x81, .f32⟩

abbrev bufTy : (tb : Table) → Fin (tcTables nBuf tb) → BufTy
  | .hbm, ⟨i, _⟩ => hbmTy i
  | .local _ .vmem, ⟨0, _⟩ => ⟨S2000x81, .f32⟩
  | .local _ .vmem, ⟨1, _⟩ => ⟨S2000x81, .f32⟩
  | .local _ .vmem, ⟨2, _⟩ => ⟨S2000x80, .f32⟩
  | .local _ .vmem, ⟨3, _⟩ => ⟨S2000x80, .f32⟩
  | .local _ .vmem, ⟨4, _⟩ => ⟨S2000x80, .f32⟩
  | .local _ .vmem, ⟨5, _⟩ => ⟨S2000x80, .f32⟩
  | .local _ .vmem, ⟨6, _⟩ => ⟨S2000x80, .f32⟩
  | .local _ .vmem, ⟨7, _⟩ => ⟨S2000x80, .f32⟩
  | .local _ .vmem, ⟨8, _⟩ => ⟨S2000x80, .f32⟩
  | .local _ .vmem, ⟨9, _⟩ => ⟨S2000x80, .f32⟩
  | .local _ .vmem, ⟨10, _⟩ => ⟨S2000x4, .f32⟩
  | .local _ .vmem, ⟨11, _⟩ => ⟨S2000x4, .f32⟩
  | .local _ .vmem, ⟨12, _⟩ => ⟨S2000x80, .f32⟩
  | .local _ .vmem, ⟨13, _⟩ => ⟨S2000x80, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S100x5, .f32⟩
  | _, _ => ⟨S20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_values : Ref sig .tc := ⟨.hbm, 14, rfl⟩
abbrev main_call0_indices : Ref sig .tc := ⟨.hbm, 15, rfl⟩
abbrev main_call0_c : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_c : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_c_0 : Ref sig .tc := ⟨.hbm, 30, rfl⟩
abbrev main_call0_call0_v12 : Ref sig .tc := ⟨.hbm, 31, rfl⟩
abbrev main_call0_call0_v13 : Ref sig .tc := ⟨.hbm, 32, rfl⟩
abbrev main_call0_v11 : Ref sig .tc := ⟨.hbm, 33, rfl⟩
abbrev main_call0_c_0 : Ref sig .tc := ⟨.hbm, 34, rfl⟩
abbrev main_call0_call1_v0 : Ref sig .tc := ⟨.hbm, 35, rfl⟩
abbrev main_call0_call1_c : Ref sig .tc := ⟨.hbm, 36, rfl⟩
abbrev main_call0_call1_v1 : Ref sig .tc := ⟨.hbm, 37, rfl⟩
abbrev main_call0_call1_c_0 : Ref sig .tc := ⟨.hbm, 38, rfl⟩
abbrev main_call0_call1_v2 : Ref sig .tc := ⟨.hbm, 39, rfl⟩
abbrev main_call0_call1_v3 : Ref sig .tc := ⟨.hbm, 40, rfl⟩
abbrev main_call0_call1_v4 : Ref sig .tc := ⟨.hbm, 41, rfl⟩
abbrev main_call0_call1_c_1 : Ref sig .tc := ⟨.hbm, 42, rfl⟩
abbrev main_call0_call1_v5 : Ref sig .tc := ⟨.hbm, 43, rfl⟩
abbrev main_call0_call1_v6 : Ref sig .tc := ⟨.hbm, 44, rfl⟩
abbrev main_call0_call1_c_2 : Ref sig .tc := ⟨.hbm, 45, rfl⟩
abbrev main_call0_call1_v7 : Ref sig .tc := ⟨.hbm, 46, rfl⟩
abbrev main_call0_call1_v8 : Ref sig .tc := ⟨.hbm, 47, rfl⟩
abbrev main_call0_call1_c_3 : Ref sig .tc := ⟨.hbm, 48, rfl⟩
abbrev main_call0_call1_v9 : Ref sig .tc := ⟨.hbm, 49, rfl⟩
abbrev main_call0_call1_v10 : Ref sig .tc := ⟨.hbm, 50, rfl⟩
abbrev main_call0_call1_v11 : Ref sig .tc := ⟨.hbm, 51, rfl⟩
abbrev main_call0_call1_v12 : Ref sig .tc := ⟨.hbm, 52, rfl⟩
abbrev main_call0_call1_v13 : Ref sig .tc := ⟨.hbm, 53, rfl⟩
abbrev main_call0_call1_v14 : Ref sig .tc := ⟨.hbm, 54, rfl⟩
abbrev main_call0_v12 : Ref sig .tc := ⟨.hbm, 55, rfl⟩
abbrev main_call0_v13 : Ref sig .tc := ⟨.hbm, 56, rfl⟩
abbrev main_call0_c_1 : Ref sig .tc := ⟨.hbm, 57, rfl⟩
abbrev main_call0_v14 : Ref sig .tc := ⟨.hbm, 58, rfl⟩
abbrev main_call0_v15 : Ref sig .tc := ⟨.hbm, 59, rfl⟩
abbrev main_call0_c_2 : Ref sig .tc := ⟨.hbm, 60, rfl⟩
abbrev main_call0_v16 : Ref sig .tc := ⟨.hbm, 61, rfl⟩
abbrev main_call0_v17 : Ref sig .tc := ⟨.hbm, 62, rfl⟩
abbrev main_call0_c_3 : Ref sig .tc := ⟨.hbm, 63, rfl⟩
abbrev main_call0_v18 : Ref sig .tc := ⟨.hbm, 64, rfl⟩
abbrev main_call0_v19 : Ref sig .tc := ⟨.hbm, 65, rfl⟩
abbrev main_call0_v20 : Ref sig .tc := ⟨.hbm, 66, rfl⟩
abbrev main_call0_c_4 : Ref sig .tc := ⟨.hbm, 67, rfl⟩
abbrev main_call0_v21 : Ref sig .tc := ⟨.hbm, 68, rfl⟩
abbrev main_call0_v22 : Ref sig .tc := ⟨.hbm, 69, rfl⟩
abbrev main_call0_c_5 : Ref sig .tc := ⟨.hbm, 70, rfl⟩
abbrev main_call0_v23 : Ref sig .tc := ⟨.hbm, 71, rfl⟩
abbrev main_call0_v24 : Ref sig .tc := ⟨.hbm, 72, rfl⟩
abbrev main_call0_v25 : Ref sig .tc := ⟨.hbm, 73, rfl⟩
abbrev main_call0_v26 : Ref sig .tc := ⟨.hbm, 74, rfl⟩
abbrev main_call0_v27 : Ref sig .tc := ⟨.hbm, 75, rfl⟩
abbrev main_call0_v28 : Ref sig .tc := ⟨.hbm, 76, rfl⟩
abbrev main_call0_v29 : Ref sig .tc := ⟨.hbm, 77, rfl⟩
abbrev main_call0_c_6 : Ref sig .tc := ⟨.hbm, 78, rfl⟩
abbrev main_call0_v30 : Ref sig .tc := ⟨.hbm, 79, rfl⟩
abbrev main_call0_v31 : Ref sig .tc := ⟨.hbm, 80, rfl⟩
abbrev main_call0_c_7 : Ref sig .tc := ⟨.hbm, 81, rfl⟩
abbrev main_call0_v32 : Ref sig .tc := ⟨.hbm, 82, rfl⟩
abbrev main_call0_v33 : Ref sig .tc := ⟨.hbm, 83, rfl⟩
abbrev main_call0_v34 : Ref sig .tc := ⟨.hbm, 84, rfl⟩
abbrev main_call0_v35 : Ref sig .tc := ⟨.hbm, 85, rfl⟩
abbrev main_call0_v36 : Ref sig .tc := ⟨.hbm, 86, rfl⟩
abbrev main_call0_c_8 : Ref sig .tc := ⟨.hbm, 87, rfl⟩
abbrev main_call0_v37 : Ref sig .tc := ⟨.hbm, 88, rfl⟩
abbrev main_call0_v38 : Ref sig .tc := ⟨.hbm, 89, rfl⟩
abbrev main_call0_v39 : Ref sig .tc := ⟨.hbm, 90, rfl⟩
abbrev main_call0_cst : Ref sig .tc := ⟨.hbm, 91, rfl⟩
abbrev main_call0_v40 : Ref sig .tc := ⟨.hbm, 92, rfl⟩
abbrev main_call0_v41 : Ref sig .tc := ⟨.hbm, 93, rfl⟩
abbrev main_call0_cst_9 : Ref sig .tc := ⟨.hbm, 94, rfl⟩
abbrev main_call0_v42 : Ref sig .tc := ⟨.hbm, 95, rfl⟩
abbrev main_call0_v43 : Ref sig .tc := ⟨.hbm, 96, rfl⟩
abbrev main_call0_cst_10 : Ref sig .tc := ⟨.hbm, 97, rfl⟩
abbrev main_call0_v44 : Ref sig .tc := ⟨.hbm, 98, rfl⟩
abbrev main_call0_v45 : Ref sig .tc := ⟨.hbm, 99, rfl⟩
abbrev main_call0_cst_11 : Ref sig .tc := ⟨.hbm, 100, rfl⟩
abbrev main_call0_v46 : Ref sig .tc := ⟨.hbm, 101, rfl⟩
abbrev main_call0_v47 : Ref sig .tc := ⟨.hbm, 102, rfl⟩
abbrev main_call0_v48 : Ref sig .tc := ⟨.hbm, 103, rfl⟩
abbrev main_call0_v49 : Ref sig .tc := ⟨.hbm, 104, rfl⟩
abbrev main_call0_v50 : Ref sig .tc := ⟨.hbm, 105, rfl⟩
abbrev main_call0_v51 : Ref sig .tc := ⟨.hbm, 106, rfl⟩
abbrev main_call0_v52 : Ref sig .tc := ⟨.hbm, 107, rfl⟩
abbrev main_call0_v53 : Ref sig .tc := ⟨.hbm, 108, rfl⟩
abbrev main_call0_v54 : Ref sig .tc := ⟨.hbm, 109, rfl⟩
abbrev main_call0_v55 : Ref sig .tc := ⟨.hbm, 110, rfl⟩
abbrev main_call0_v56 : Ref sig .tc := ⟨.hbm, 111, rfl⟩
abbrev main_call0_v57 : Ref sig .tc := ⟨.hbm, 112, rfl⟩
abbrev main_call0_v58 : Ref sig .tc := ⟨.hbm, 113, rfl⟩
abbrev main_call0_v59 : Ref sig .tc := ⟨.hbm, 114, rfl⟩
abbrev main_call0_v60 : Ref sig .tc := ⟨.hbm, 115, rfl⟩
abbrev main_call0_v61 : Ref sig .tc := ⟨.hbm, 116, rfl⟩
abbrev main_call0_v62 : Ref sig .tc := ⟨.hbm, 117, rfl⟩
abbrev main_call0_v63 : Ref sig .tc := ⟨.hbm, 118, rfl⟩
abbrev main_call0_v64 : Ref sig .tc := ⟨.hbm, 119, rfl⟩
abbrev main_call0_v65 : Ref sig .tc := ⟨.hbm, 120, rfl⟩
abbrev main_call0_v66 : Ref sig .tc := ⟨.hbm, 121, rfl⟩
abbrev main_call0_v67 : Ref sig .tc := ⟨.hbm, 122, rfl⟩
abbrev main_call0_v68 : Ref sig .tc := ⟨.hbm, 123, rfl⟩
abbrev main_call0_v69 : Ref sig .tc := ⟨.hbm, 124, rfl⟩
abbrev main_call0_v70 : Ref sig .tc := ⟨.hbm, 125, rfl⟩
abbrev main_call0_v71 : Ref sig .tc := ⟨.hbm, 126, rfl⟩
abbrev main_call0_v72 : Ref sig .tc := ⟨.hbm, 127, rfl⟩
abbrev main_call0_v73 : Ref sig .tc := ⟨.hbm, 128, rfl⟩
abbrev main_v0 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

@[reducible] def k1_t1_loop : Scf.Loop 32 :=
  let c0_i32 : BitVec 32 := 0#32
  let c100_i32 : BitVec 32 := 100#32
  let v105 : BitVec 32 := Scalar.addi c0_i32 c100_i32
  let c1_i32 : BitVec 32 := 1#32
  ⟨c0_i32, v105, c1_i32⟩
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S100x5 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== ReferenceIdeal.lean ====
abbrev S20000x81 : Shape := ⟨2, ![20000, 81]⟩
abbrev S20000x324 : Shape := ⟨2, ![20000, 324]⟩
abbrev S20000x4 : Shape := ⟨2, ![20000, 4]⟩
abbrev S_ : Shape := ⟨0, ![]⟩
abbrev S20000 : Shape := ⟨1, ![20000]⟩
abbrev S20000x1 : Shape := ⟨2, ![20000, 1]⟩
abbrev S20000x320 : Shape := ⟨2, ![20000, 320]⟩
abbrev S1600000x4 : Shape := ⟨2, ![1600000, 4]⟩
abbrev S20000x1x4 : Shape := ⟨3, ![20000, 1, 4]⟩
abbrev S20000x80x4 : Shape := ⟨3, ![20000, 80, 4]⟩
abbrev S1600000x1 : Shape := ⟨2, ![1600000, 1]⟩
abbrev S1600000 : Shape := ⟨1, ![1600000]⟩
abbrev S20000x80 : Shape := ⟨2, ![20000, 80]⟩
abbrev S80 : Shape := ⟨1, ![80]⟩
abbrev S1x80 : Shape := ⟨2, ![1, 80]⟩
abbrev S1000 : Shape := ⟨1, ![1000]⟩
abbrev S1000x1 : Shape := ⟨2, ![1000, 1]⟩
abbrev S1000x4 : Shape := ⟨2, ![1000, 4]⟩
abbrev S100 : Shape := ⟨1, ![100]⟩
abbrev S1 : Shape := ⟨1, ![1]⟩
abbrev S100x1 : Shape := ⟨2, ![100, 1]⟩
abbrev S100x4 : Shape := ⟨2, ![100, 4]⟩
abbrev S100x5 : Shape := ⟨2, ![100, 5]⟩

abbrev nBuf : Space → Nat
  | .hbm => 293
  | .vmem => 0
  | .smem => 0
  | _ => 0

abbrev hbmTy0_0 (i : Nat) : BufTy := match i % 128 with
  | 0 => ⟨S20000x81, .f32⟩
  | 1 => ⟨S20000x324, .f32⟩
  | 2 => ⟨S20000x4, .f32⟩
  | 3 => ⟨S_, .f32⟩
  | 4 => ⟨S20000, .f32⟩
  | 5 => ⟨S_, .f32⟩
  | 6 => ⟨S20000, .f32⟩
  | 7 => ⟨S20000, .f32⟩
  | 8 => ⟨S20000x1, .f32⟩
  | 9 => ⟨S20000x81, .f32⟩
  | 10 => ⟨S20000x81, .f32⟩
  | 11 => ⟨S20000x81, .f32⟩
  | 12 => ⟨S_, .f32⟩
  | 13 => ⟨S20000, .f32⟩
  | 14 => ⟨S20000x1, .f32⟩
  | 15 => ⟨S20000x81, .f32⟩
  | 16 => ⟨S20000x81, .f32⟩
  | 17 => ⟨S20000x320, .f32⟩
  | 18 => ⟨S1600000x4, .f32⟩
  | 19 => ⟨S20000x1x4, .f32⟩
  | 20 => ⟨S20000x80x4, .f32⟩
  | 21 => ⟨S1600000x4, .f32⟩
  | 22 => ⟨S1600000x1, .f32⟩
  | 23 => ⟨S1600000, .f32⟩
  | 24 => ⟨S1600000x1, .f32⟩
  | 25 => ⟨S1600000, .f32⟩
  | 26 => ⟨S1600000, .f32⟩
  | 27 => ⟨S1600000x1, .f32⟩
  | 28 => ⟨S1600000, .f32⟩
  | 29 => ⟨S1600000x1, .f32⟩
  | 30 => ⟨S1600000, .f32⟩
  | 31 => ⟨S1600000, .f32⟩
  | 32 => ⟨S1600000x1, .f32⟩
  | 33 => ⟨S1600000, .f32⟩
  | 34 => ⟨S_, .f32⟩
  | 35 => ⟨S1600000, .f32⟩
  | 36 => ⟨S1600000, .f32⟩
  | 37 => ⟨S1600000, .f32⟩
  | 38 => ⟨S1600000x1, .f32⟩
  | 39 => ⟨S1600000, .f32⟩
  | 40 => ⟨S_, .f32⟩
  | 41 => ⟨S1600000, .f32⟩
  | 42 => ⟨S1600000, .f32⟩
  | 43 => ⟨S1600000, .f32⟩
  | 44 => ⟨S1600000x1, .f32⟩
  | 45 => ⟨S1600000, .f32⟩
  | 46 => ⟨S1600000x1, .f32⟩
  | 47 => ⟨S1600000, .f32⟩
  | 48 => ⟨S1600000x1, .f32⟩
  | 49 => ⟨S1600000, .f32⟩
  | 50 => ⟨S1600000x1, .f32⟩
  | 51 => ⟨S1600000, .f32⟩
  | 52 => ⟨S_, .f32⟩
  | 53 => ⟨S1600000, .f32⟩
  | 54 => ⟨S1600000, .f32⟩
  | 55 => ⟨S_, .f32⟩
  | 56 => ⟨S1600000, .f32⟩
  | 57 => ⟨S1600000, .f32⟩
  | 58 => ⟨S1600000, .f32⟩
  | 59 => ⟨S1600000, .f32⟩
  | 60 => ⟨S1600000, .f32⟩
  | 61 => ⟨S1600000, .f32⟩
  | 62 => ⟨S1600000, .f32⟩
  | 63 => ⟨S1600000, .f32⟩
  | 64 => ⟨S1600000, .f32⟩
  | 65 => ⟨S1600000, .f32⟩
  | 66 => ⟨S_, .f32⟩
  | 67 => ⟨S1600000, .f32⟩
  | 68 => ⟨S1600000, .f32⟩
  | 69 => ⟨S1600000, .f32⟩
  | 70 => ⟨S_, .f32⟩
  | 71 => ⟨S1600000, .f32⟩
  | 72 => ⟨S1600000, .f32⟩
  | 73 => ⟨S1600000, .f32⟩
  | 74 => ⟨S_, .f32⟩
  | 75 => ⟨S1600000, .f32⟩
  | 76 => ⟨S1600000, .f32⟩
  | 77 => ⟨S1600000, .f32⟩
  | 78 => ⟨S_, .f32⟩
  | 79 => ⟨S1600000, .f32⟩
  | 80 => ⟨S1600000, .f32⟩
  | 81 => ⟨S1600000, .f32⟩
  | 82 => ⟨S1600000x1, .f32⟩
  | 83 => ⟨S1600000x1, .f32⟩
  | 84 => ⟨S1600000x1, .f32⟩
  | 85 => ⟨S1600000x1, .f32⟩
  | 86 => ⟨S1600000x4, .f32⟩
  | 87 => ⟨S20000x80, .f32⟩
  | 88 => ⟨S1600000, .f32⟩
  | 89 => ⟨S80, .i32⟩
  | 90 => ⟨S_, .i32⟩
  | 91 => ⟨S80, .i32⟩
  | 92 => ⟨S80, .i32⟩
  | 93 => ⟨S1x80, .i32⟩
  | 94 => ⟨S20000x80, .i32⟩
  | 95 => ⟨S1600000, .i32⟩
  | 96 => ⟨S1600000x1, .f32⟩
  | 97 => ⟨S1600000, .f32⟩
  | 98 => ⟨S1600000x1, .f32⟩
  | 99 => ⟨S1600000, .f32⟩
  | 100 => ⟨S1600000, .f32⟩
  | 101 => ⟨S1600000x1, .f32⟩
  | 102 => ⟨S1600000, .f32⟩
  | 103 => ⟨S1600000x1, .f32⟩
  | 104 => ⟨S1600000, .f32⟩
  | 105 => ⟨S1600000, .f32⟩
  | 106 => ⟨S1600000, .f32⟩
  | 107 => ⟨S_, .f32⟩
  | 108 => ⟨S1600000, .f32⟩
  | 109 => ⟨S1600000, .i1⟩
  | 110 => ⟨S_, .f32⟩
  | 111 => ⟨S1600000, .f32⟩
  | 112 => ⟨S1600000, .i1⟩
  | 113 => ⟨S1600000, .i1⟩
  | 114 => ⟨S_, .f32⟩
  | 115 => ⟨S_, .f32⟩
  | 116 => ⟨S1600000, .f32⟩
  | 117 => ⟨S1600000, .f32⟩
  | 118 => ⟨S1000, .f32⟩
  | 119 => ⟨S1000, .i32⟩
  | 120 => ⟨S_, .i32⟩
  | 121 => ⟨S1000, .i32⟩
  | 122 => ⟨S1000, .i1⟩
  | 123 => ⟨S_, .i32⟩
  | 124 => ⟨S1000, .i32⟩
  | 125 => ⟨S1000, .i32⟩
  | 126 => ⟨S1000, .i32⟩
  | 127 => ⟨S1000x1, .i32⟩
  | _ => ⟨S20000x81, .f32⟩

abbrev hbmTy0_1 (i : Nat) : BufTy := match i % 128 with
  | 0 => ⟨S1000x4, .f32⟩
  | 1 => ⟨S_, .i32⟩
  | 2 => ⟨S1000, .i32⟩
  | 3 => ⟨S1000, .i1⟩
  | 4 => ⟨S_, .i32⟩
  | 5 => ⟨S1000, .i32⟩
  | 6 => ⟨S1000, .i32⟩
  | 7 => ⟨S1000, .i32⟩
  | 8 => ⟨S1000x1, .i32⟩
  | 9 => ⟨S1000, .i32⟩
  | 10 => ⟨S_, .f32⟩
  | 11 => ⟨S_, .f32⟩
  | 12 => ⟨S_, .f32⟩
  | 13 => ⟨S_, .f32⟩
  | 14 => ⟨S1000, .f32⟩
  | 15 => ⟨S1000, .f32⟩
  | 16 => ⟨S1000, .f32⟩
  | 17 => ⟨S1000x1, .f32⟩
  | 18 => ⟨S1000x4, .f32⟩
  | 19 => ⟨S1000x4, .f32⟩
  | 20 => ⟨S1000x1, .f32⟩
  | 21 => ⟨S1000, .f32⟩
  | 22 => ⟨S1000x1, .f32⟩
  | 23 => ⟨S1000, .f32⟩
  | 24 => ⟨S1000x1, .f32⟩
  | 25 => ⟨S1000, .f32⟩
  | 26 => ⟨S1000x1, .f32⟩
  | 27 => ⟨S1000, .f32⟩
  | 28 => ⟨S1000, .f32⟩
  | 29 => ⟨S1000, .f32⟩
  | 30 => ⟨S1000, .f32⟩
  | 31 => ⟨S_, .i32⟩
  | 32 => ⟨S100, .i32⟩
  | 33 => ⟨S_, .i1⟩
  | 34 => ⟨S100, .i1⟩
  | 35 => ⟨S_, .i32⟩
  | 36 => ⟨S1000, .f32⟩
  | 37 => ⟨S1000, .f32⟩
  | 38 => ⟨S1000, .f32⟩
  | 39 => ⟨S1000, .f32⟩
  | 40 => ⟨S1000, .f32⟩
  | 41 => ⟨S_, .i32⟩
  | 42 => ⟨S1000, .f32⟩
  | 43 => ⟨S100, .i32⟩
  | 44 => ⟨S100, .i1⟩
  | 45 => ⟨S_, .i32⟩
  | 46 => ⟨S_, .i1⟩
  | 47 => ⟨S1000, .i32⟩
  | 48 => ⟨S_, .f32⟩
  | 49 => ⟨S_, .i32⟩
  | 50 => ⟨S_, .f32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S1, .f32⟩
  | 58 => ⟨S_, .f32⟩
  | 59 => ⟨S_, .f32⟩
  | 60 => ⟨S_, .i1⟩
  | 61 => ⟨S_, .i32⟩
  | 62 => ⟨S_, .i1⟩
  | 63 => ⟨S_, .i32⟩
  | 64 => ⟨S_, .i32⟩
  | 65 => ⟨S_, .i32⟩
  | 66 => ⟨S1, .f32⟩
  | 67 => ⟨S_, .f32⟩
  | 68 => ⟨S1000, .f32⟩
  | 69 => ⟨S1000, .f32⟩
  | 70 => ⟨S_, .i32⟩
  | 71 => ⟨S_, .i1⟩
  | 72 => ⟨S_, .i32⟩
  | 73 => ⟨S_, .i32⟩
  | 74 => ⟨S_, .i32⟩
  | 75 => ⟨S1, .f32⟩
  | 76 => ⟨S_, .f32⟩
  | 77 => ⟨S1000, .f32⟩
  | 78 => ⟨S1000, .f32⟩
  | 79 => ⟨S_, .i32⟩
  | 80 => ⟨S_, .i1⟩
  | 81 => ⟨S_, .i32⟩
  | 82 => ⟨S_, .i32⟩
  | 83 => ⟨S_, .i32⟩
  | 84 => ⟨S1, .f32⟩
  | 85 => ⟨S_, .f32⟩
  | 86 => ⟨S1000, .f32⟩
  | 87 => ⟨S1000, .f32⟩
  | 88 => ⟨S_, .i32⟩
  | 89 => ⟨S_, .i1⟩
  | 90 => ⟨S_, .i32⟩
  | 91 => ⟨S_, .i32⟩
  | 92 => ⟨S_, .i32⟩
  | 93 => ⟨S1, .f32⟩
  | 94 => ⟨S_, .f32⟩
  | 95 => ⟨S1000, .f32⟩
  | 96 => ⟨S1000, .f32⟩
  | 97 => ⟨S1000, .f32⟩
  | 98 => ⟨S_, .f32⟩
  | 99 => ⟨S_, .f32⟩
  | 100 => ⟨S1000, .f32⟩
  | 101 => ⟨S1000, .f32⟩
  | 102 => ⟨S1000, .f32⟩
  | 103 => ⟨S_, .f32⟩
  | 104 => ⟨S_, .f32⟩
  | 105 => ⟨S1000, .f32⟩
  | 106 => ⟨S1000, .f32⟩
  | 107 => ⟨S1000, .f32⟩
  | 108 => ⟨S_, .i32⟩
  | 109 => ⟨S_, .i1⟩
  | 110 => ⟨S_, .i32⟩
  | 111 => ⟨S_, .i32⟩
  | 112 => ⟨S_, .i32⟩
  | 113 => ⟨S1, .f32⟩
  | 114 => ⟨S_, .f32⟩
  | 115 => ⟨S1000, .f32⟩
  | 116 => ⟨S1000, .f32⟩
  | 117 => ⟨S1000, .f32⟩
  | 118 => ⟨S_, .f32⟩
  | 119 => ⟨S1000, .f32⟩
  | 120 => ⟨S1000, .f32⟩
  | 121 => ⟨S1000, .f32⟩
  | 122 => ⟨S_, .f32⟩
  | 123 => ⟨S1000, .f32⟩
  | 124 => ⟨S1000, .i1⟩
  | 125 => ⟨S_, .f32⟩
  | 126 => ⟨S_, .f32⟩
  | 127 => ⟨S1000, .f32⟩
  | _ => ⟨S20000x81, .f32⟩

abbrev hbmTy0_2 (i : Nat) : BufTy := match i % 128 with
  | 0 => ⟨S1000, .f32⟩
  | 1 => ⟨S1, .i32⟩
  | 2 => ⟨S100, .i32⟩
  | 3 => ⟨S1, .i1⟩
  | 4 => ⟨S100, .i1⟩
  | 5 => ⟨S_, .i32⟩
  | 6 => ⟨S_, .i32⟩
  | 7 => ⟨S100x1, .i1⟩
  | 8 => ⟨S_, .i32⟩
  | 9 => ⟨S100, .i32⟩
  | 10 => ⟨S100, .i1⟩
  | 11 => ⟨S_, .i32⟩
  | 12 => ⟨S100, .i32⟩
  | 13 => ⟨S100, .i32⟩
  | 14 => ⟨S100, .i32⟩
  | 15 => ⟨S100x1, .i32⟩
  | 16 => ⟨S100x4, .f32⟩
  | 17 => ⟨S_, .f32⟩
  | 18 => ⟨S_, .f32⟩
  | 19 => ⟨S100x4, .i1⟩
  | 20 => ⟨S100x4, .f32⟩
  | 21 => ⟨S100x4, .f32⟩
  | 22 => ⟨S_, .i32⟩
  | 23 => ⟨S100, .i32⟩
  | 24 => ⟨S100, .i1⟩
  | 25 => ⟨S_, .i32⟩
  | 26 => ⟨S100, .i32⟩
  | 27 => ⟨S100, .i32⟩
  | 28 => ⟨S100, .i32⟩
  | 29 => ⟨S100x1, .i32⟩
  | 30 => ⟨S100, .f32⟩
  | 31 => ⟨S_, .f32⟩
  | 32 => ⟨S_, .f32⟩
  | 33 => ⟨S100, .f32⟩
  | 34 => ⟨S100, .f32⟩
  | 35 => ⟨S100x1, .f32⟩
  | 36 => ⟨S100x5, .f32⟩
  | _ => ⟨S20000x81, .f32⟩

abbrev hbmTy (i : Nat) : BufTy := match i / 128 with
  | 0 => hbmTy0_0 i
  | 1 => hbmTy0_1 i
  | 2 => hbmTy0_2 i
  | _ => ⟨S20000x81, .f32⟩

abbrev bufTy : (tb : Table) → Fin (tcTables nBuf tb) → BufTy
  | .hbm, ⟨i, _⟩ => hbmTy i
  | _, _ => ⟨S20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_8 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_c : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_10 : Ref sig .tc := ⟨.hbm, 107, rfl⟩
abbrev main_v92 : Ref sig .tc := ⟨.hbm, 108, rfl⟩
abbrev main_v93 : Ref sig .tc := ⟨.hbm, 109, rfl⟩
abbrev main_cst_11 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_12 : Ref sig .tc := ⟨.hbm, 114, rfl⟩
abbrev main_call0_v0 : Ref sig .tc := ⟨.hbm, 115, rfl⟩
abbrev main_call0_v1 : Ref sig .tc := ⟨.hbm, 116, rfl⟩
abbrev main_v97 : Ref sig .tc := ⟨.hbm, 117, rfl⟩
abbrev main_values : Ref sig .tc := ⟨.hbm, 118, rfl⟩
abbrev main_indices : Ref sig .tc := ⟨.hbm, 119, rfl⟩
abbrev main_c_13 : Ref sig .tc := ⟨.hbm, 120, rfl⟩
abbrev main_v98 : Ref sig .tc := ⟨.hbm, 121, rfl⟩
abbrev main_v99 : Ref sig .tc := ⟨.hbm, 122, rfl⟩
abbrev main_c_14 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_c_15 : Ref sig .tc := ⟨.hbm, 129, rfl⟩
abbrev main_v105 : Ref sig .tc := ⟨.hbm, 130, rfl⟩
abbrev main_v106 : Ref sig .tc := ⟨.hbm, 131, rfl⟩
abbrev main_c_16 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_17 : Ref sig .tc := ⟨.hbm, 138, rfl⟩
abbrev main_v112 : Ref sig .tc := ⟨.hbm, 139, rfl⟩
abbrev main_cst_18 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_c_19 : Ref sig .tc := ⟨.hbm, 159, rfl⟩
abbrev main_v131 : Ref sig .tc := ⟨.hbm, 160, rfl⟩
abbrev main_c_20 : Ref sig .tc := ⟨.hbm, 161, rfl⟩
abbrev main_v132 : Ref sig .tc := ⟨.hbm, 162, rfl⟩
abbrev main_c_21 : Ref sig .tc := ⟨.hbm, 163, rfl⟩
abbrev main_v133_0 : Ref sig .tc := ⟨.hbm, 164, rfl⟩
abbrev main_v133_1 : Ref sig .tc := ⟨.hbm, 165, rfl⟩
abbrev main_v133_2 : Ref sig .tc := ⟨.hbm, 166, rfl⟩
abbrev main_v133_3 : Ref sig .tc := ⟨.hbm, 167, rfl⟩
abbrev main_v133_4 : Ref sig .tc := ⟨.hbm, 168, rfl⟩
abbrev main_v133_5 : Ref sig .tc := ⟨.hbm, 169, rfl⟩
abbrev main_v133_6 : Ref sig .tc := ⟨.hbm, 170, rfl⟩
abbrev main_v133_7 : Ref sig .tc := ⟨.hbm, 171, rfl⟩
abbrev main_v133_8 : Ref sig .tc := ⟨.hbm, 172, rfl⟩
abbrev main_while0c_c_36 : Ref sig .tc := ⟨.hbm, 173, rfl⟩
abbrev main_while0c_v153 : Ref sig .tc := ⟨.hbm, 174, rfl⟩
abbrev main_while0b_call1_v0 : Ref sig .tc := ⟨.hbm, 175, rfl⟩
abbrev main_while0b_call1_cst : Ref sig .tc := ⟨.hbm, 176, rfl⟩
abbrev main_while0b_call1_c : Ref sig .tc := ⟨.hbm, 177, rfl⟩
abbrev main_while0b_call1_v1_0 : Ref sig .tc := ⟨.hbm, 178, rfl⟩
abbrev main_while0b_v153 : Ref sig .tc := ⟨.hbm, 179, rfl⟩
abbrev main_while0b_c_36 : Ref sig .tc := ⟨.hbm, 180, rfl⟩
abbrev main_while0b_v154 : Ref sig .tc := ⟨.hbm, 181, rfl⟩
abbrev main_while0b_c_37 : Ref sig .tc := ⟨.hbm, 182, rfl⟩
abbrev main_while0b_v155 : Ref sig .tc := ⟨.hbm, 183, rfl⟩
abbrev main_while0b_v156 : Ref sig .tc := ⟨.hbm, 184, rfl⟩
abbrev main_while0b_v157 : Ref sig .tc := ⟨.hbm, 185, rfl⟩
abbrev main_while0b_v158 : Ref sig .tc := ⟨.hbm, 186, rfl⟩
abbrev main_while0b_cst_38 : Ref sig .tc := ⟨.hbm, 187, rfl⟩
abbrev main_while0b_v159 : Ref sig .tc := ⟨.hbm, 188, rfl⟩
abbrev main_while0b_c_39 : Ref sig .tc := ⟨.hbm, 189, rfl⟩
abbrev main_while0b_v160 : Ref sig .tc := ⟨.hbm, 190, rfl⟩
abbrev main_while0b_c_40 : Ref sig .tc := ⟨.hbm, 191, rfl⟩
abbrev main_while0b_v161 : Ref sig .tc := ⟨.hbm, 192, rfl⟩
abbrev main_while0b_v162 : Ref sig .tc := ⟨.hbm, 193, rfl⟩
abbrev main_while0b_v163 : Ref sig .tc := ⟨.hbm, 194, rfl⟩
abbrev main_while0b_v164 : Ref sig .tc := ⟨.hbm, 195, rfl⟩
abbrev main_while0b_v165 : Ref sig .tc := ⟨.hbm, 196, rfl⟩
abbrev main_while0b_v166 : Ref sig .tc := ⟨.hbm, 197, rfl⟩
abbrev main_while0b_c_41 : Ref sig .tc := ⟨.hbm, 198, rfl⟩
abbrev main_while0b_v167 : Ref sig .tc := ⟨.hbm, 199, rfl⟩
abbrev main_while0b_c_42 : Ref sig .tc := ⟨.hbm, 200, rfl⟩
abbrev main_while0b_v168 : Ref sig .tc := ⟨.hbm, 201, rfl⟩
abbrev main_while0b_v169 : Ref sig .tc := ⟨.hbm, 202, rfl⟩
abbrev main_while0b_v170 : Ref sig .tc := ⟨.hbm, 203, rfl⟩
abbrev main_while0b_v171 : Ref sig .tc := ⟨.hbm, 204, rfl⟩
abbrev main_while0b_v172 : Ref sig .tc := ⟨.hbm, 205, rfl⟩
abbrev main_while0b_v173 : Ref sig .tc := ⟨.hbm, 206, rfl⟩
abbrev main_while0b_c_43 : Ref sig .tc := ⟨.hbm, 207, rfl⟩
abbrev main_while0b_v174 : Ref sig .tc := ⟨.hbm, 208, rfl⟩
abbrev main_while0b_c_44 : Ref sig .tc := ⟨.hbm, 209, rfl⟩
abbrev main_while0b_v175 : Ref sig .tc := ⟨.hbm, 210, rfl⟩
abbrev main_while0b_v176 : Ref sig .tc := ⟨.hbm, 211, rfl⟩
abbrev main_while0b_v177 : Ref sig .tc := ⟨.hbm, 212, rfl⟩
abbrev main_while0b_v178 : Ref sig .tc := ⟨.hbm, 213, rfl⟩
abbrev main_while0b_v179 : Ref sig .tc := ⟨.hbm, 214, rfl⟩
abbrev main_while0b_v180 : Ref sig .tc := ⟨.hbm, 215, rfl⟩
abbrev main_while0b_c_45 : Ref sig .tc := ⟨.hbm, 216, rfl⟩
abbrev main_while0b_v181 : Ref sig .tc := ⟨.hbm, 217, rfl⟩
abbrev main_while0b_c_46 : Ref sig .tc := ⟨.hbm, 218, rfl⟩
abbrev main_while0b_v182 : Ref sig .tc := ⟨.hbm, 219, rfl⟩
abbrev main_while0b_v183 : Ref sig .tc := ⟨.hbm, 220, rfl⟩
abbrev main_while0b_v184 : Ref sig .tc := ⟨.hbm, 221, rfl⟩
abbrev main_while0b_v185 : Ref sig .tc := ⟨.hbm, 222, rfl⟩
abbrev main_while0b_v186 : Ref sig .tc := ⟨.hbm, 223, rfl⟩
abbrev main_while0b_v187 : Ref sig .tc := ⟨.hbm, 224, rfl⟩
abbrev main_while0b_v188 : Ref sig .tc := ⟨.hbm, 225, rfl⟩
abbrev main_while0b_cst_47 : Ref sig .tc := ⟨.hbm, 226, rfl⟩
abbrev main_while0b_call2_v0 : Ref sig .tc := ⟨.hbm, 227, rfl⟩
abbrev main_while0b_call2_v1 : Ref sig .tc := ⟨.hbm, 228, rfl⟩
abbrev main_while0b_v189 : Ref sig .tc := ⟨.hbm, 229, rfl⟩
abbrev main_while0b_v190 : Ref sig .tc := ⟨.hbm, 230, rfl⟩
abbrev main_while0b_cst_48 : Ref sig .tc := ⟨.hbm, 231, rfl⟩
abbrev main_while0b_call3_v0 : Ref sig .tc := ⟨.hbm, 232, rfl⟩
abbrev main_while0b_call3_v1 : Ref sig .tc := ⟨.hbm, 233, rfl⟩
abbrev main_while0b_v191 : Ref sig .tc := ⟨.hbm, 234, rfl⟩
abbrev main_while0b_v192 : Ref sig .tc := ⟨.hbm, 235, rfl⟩
abbrev main_while0b_c_49 : Ref sig .tc := ⟨.hbm, 236, rfl⟩
abbrev main_while0b_v193 : Ref sig .tc := ⟨.hbm, 237, rfl⟩
abbrev main_while0b_c_50 : Ref sig .tc := ⟨.hbm, 238, rfl⟩
abbrev main_while0b_v194 : Ref sig .tc := ⟨.hbm, 239, rfl⟩
abbrev main_while0b_v195 : Ref sig .tc := ⟨.hbm, 240, rfl⟩
abbrev main_while0b_v196 : Ref sig .tc := ⟨.hbm, 241, rfl⟩
abbrev main_while0b_v197 : Ref sig .tc := ⟨.hbm, 242, rfl⟩
abbrev main_while0b_v198 : Ref sig .tc := ⟨.hbm, 243, rfl⟩
abbrev main_while0b_v199 : Ref sig .tc := ⟨.hbm, 244, rfl⟩
abbrev main_while0b_v200 : Ref sig .tc := ⟨.hbm, 245, rfl⟩
abbrev main_while0b_cst_51 : Ref sig .tc := ⟨.hbm, 246, rfl⟩
abbrev main_while0b_v201 : Ref sig .tc := ⟨.hbm, 247, rfl⟩
abbrev main_while0b_v202 : Ref sig .tc := ⟨.hbm, 248, rfl⟩
abbrev main_while0b_v203 : Ref sig .tc := ⟨.hbm, 249, rfl⟩
abbrev main_while0b_cst_52 : Ref sig .tc := ⟨.hbm, 250, rfl⟩
abbrev main_while0b_v204 : Ref sig .tc := ⟨.hbm, 251, rfl⟩
abbrev main_while0b_v205 : Ref sig .tc := ⟨.hbm, 252, rfl⟩
abbrev main_while0b_cst_53 : Ref sig .tc := ⟨.hbm, 253, rfl⟩
abbrev main_while0b_call4_v0 : Ref sig .tc := ⟨.hbm, 254, rfl⟩
abbrev main_while0b_call4_v1 : Ref sig .tc := ⟨.hbm, 255, rfl⟩
abbrev main_while0b_v206 : Ref sig .tc := ⟨.hbm, 256, rfl⟩
abbrev main_while0b_call5_v0 : Ref sig .tc := ⟨.hbm, 257, rfl⟩
abbrev main_while0b_v207 : Ref sig .tc := ⟨.hbm, 258, rfl⟩
abbrev main_while0b_call6_v0 : Ref sig .tc := ⟨.hbm, 259, rfl⟩
abbrev main_while0b_v208 : Ref sig .tc := ⟨.hbm, 260, rfl⟩
abbrev main_while0b_c_54 : Ref sig .tc := ⟨.hbm, 261, rfl⟩
abbrev main_while0b_v209 : Ref sig .tc := ⟨.hbm, 262, rfl⟩
abbrev main_v134 : Ref sig .tc := ⟨.hbm, 263, rfl⟩
abbrev main_c_22 : Ref sig .tc := ⟨.hbm, 264, rfl⟩
abbrev main_v135 : Ref sig .tc := ⟨.hbm, 265, rfl⟩
abbrev main_v136 : Ref sig .tc := ⟨.hbm, 266, rfl⟩
abbrev main_c_23 : Ref sig .tc := ⟨.hbm, 267, rfl⟩
abbrev main_v137 : Ref sig .tc := ⟨.hbm, 268, rfl⟩
abbrev main_v138 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev main_cst_24 : Ref sig .tc := ⟨.hbm, 273, rfl⟩
abbrev main_call7_v0 : Ref sig .tc := ⟨.hbm, 274, rfl⟩
abbrev main_call7_v1 : Ref sig .tc := ⟨.hbm, 275, rfl⟩
abbrev main_call7_v2 : Ref sig .tc := ⟨.hbm, 276, rfl⟩
abbrev main_v142 : Ref sig .tc := ⟨.hbm, 277, rfl⟩
abbrev main_c_25 : Ref sig .tc := ⟨.hbm, 278, rfl⟩
abbrev main_v143 : Ref sig .tc := ⟨.hbm, 279, rfl⟩
abbrev main_v144 : Ref sig .tc := ⟨.hbm, 280, rfl⟩
abbrev main_c_26 : Ref sig .tc := ⟨.hbm, 281, rfl⟩
abbrev main_v145 : Ref sig .tc := ⟨.hbm, 282, rfl⟩
abbrev main_v146 : Ref sig .tc := ⟨.hbm, 283, rfl⟩
abbrev main_v147 : Ref sig .tc := ⟨.hbm, 284, rfl⟩
abbrev main_v148 : Ref sig .tc := ⟨.hbm, 285, rfl⟩
abbrev main_v149 : Ref sig .tc := ⟨.hbm, 286, rfl⟩
abbrev main_cst_27 : Ref sig .tc := ⟨.hbm, 287, rfl⟩
abbrev main_call8_v0 : Ref sig .tc := ⟨.hbm, 288, rfl⟩
abbrev main_call8_v1 : Ref sig .tc := ⟨.hbm, 289, rfl⟩
abbrev main_v150 : Ref sig .tc := ⟨.hbm, 290, rfl⟩
abbrev main_v151 : Ref sig .tc := ⟨.hbm, 291, rfl⟩
abbrev main_v152 : Ref sig .tc := ⟨.hbm, 292, rfl⟩

abbrev nD : Nat := 1
abbrev τ : Topo := Topo.v7x

variable {F : FTy → Type} [FloatOps F]

abbrev main_while0_count : Scf.Loop 32 := ⟨0#32, 100#32, 1#32⟩
-- ==== Proof.KernelIdealBodies.lean ====
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.Value
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's for the pipelines' staging cells. -/
abbrev UU : Type := UR sig nD τ

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The offsets the kernels' loads and stores are at: zero on both axes. -/
theorem off_zero : (![0, 0] : Fin 2 → Nat) = fun _ => 0 := by
  funext a; fin_cases a <;> rfl

/-- The block of masked scores the first kernel stores, as a function of its six operand blocks. -/
def scoresOut (b0 : Vec F S2000x81 .f32) (b1 b2 b3 b4 : Vec F S2000x80 .f32) (b5 : Vec F S2000x4 .f32) : Vec F S2000x80 .f32 :=
  k0_pay1 (k0_pay2 b0) (k0_pay3 b2) (k0_pay4 b3) (k0_pay5 b4) (k0_pay6 b5) (k0_pay7 b5) (k0_pay8 b5) (k0_pay9 b1 b5) (k0_pay10 b5)

/-- The first kernel's body, from its seven staging buffers held whole. -/
theorem scoresRun (c : Dev nD) (i : grid0.Coords)
    (M0 : Memref sig .tc .vmem S2000x81 .f32) (h0 : M0.IsWhole) (M1 : Memref sig .tc .vmem S2000x80 .f32) (h1 : M1.IsWhole)
    (M2 : Memref sig .tc .vmem S2000x80 .f32) (h2 : M2.IsWhole) (M3 : Memref sig .tc .vmem S2000x80 .f32) (h3 : M3.IsWhole)
    (M4 : Memref sig .tc .vmem S2000x80 .f32) (h4 : M4.IsWhole) (M5 : Memref sig .tc .vmem S2000x4 .f32) (h5 : M5.IsWhole)
    (M6 : Memref sig .tc .vmem S2000x80 .f32) (h6 : M6.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (Q : PUnit → sProp 𝕄) :
    iprop(pt c M0 f0 ∗ pt c M1 f1 ∗ pt c M2 f2 ∗ pt c M3 f3 ∗ pt c M4 f4 ∗ pt c M5 f5 ∗ pt c M6 f6
        ∗ (iprop(pt c M0 f0 ∗ pt c M1 f1 ∗ pt c M2 f2 ∗ pt c M3 f3 ∗ pt c M4 f4 ∗ pt c M5 f5
            ∗ ∃ W : Bf (F := F) c M6, ⌜M6.view.read (Elt F) W = scoresOut (M0.view.read (Elt F) f0) (M1.view.read (Elt F) f1) (M2.view.read (Elt F) f2)
                (M3.view.read (Elt F) f3) (M4.view.read (Elt F) f4) (M5.view.read (Elt F) f5)⌝ ∗ pt c M6 W) -∗ Q ⟨⟩))
      ⊢ wp frame (wpE (defs₀ (F := F)) Variants.none c none) Set.univ (cc0__scores_kernel i M0 h0 M1 h1 M2 h2 M3 h3 M4 h4 M5 h5 M6 h6) Q := by
  iintro ⟨H0, H1, H2, H3, H4, H5, H6, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  iexists _
  isplitr
  swap
  · iexact H6
  ipureintro
  sl_unfold_words
  rw [View.read_writes_eq_canon _ _ _ (fun y => ⟨_, List.mem_singleton_self _, View.mem_set_unit_zero off_zero inb_S2000x80_S2000x80_0_0 y⟩),
    View.canon_unit_zero off_zero]
  simp only [View.readAt_eq_ld, View.ld_unit_zero (S := S2000x81) off_zero, View.ld_unit_zero (S := S2000x80) off_zero,
    View.ld_unit_zero (S := S2000x4) off_zero]
  rfl

/-! ## The second kernel -/

/-- What the second kernel reads its ten operand blocks into before its loop: the four corners of the decoded boxes. -/
def corX1 (b1 b3 b5 b7 : Vec F S8x128 .f32) : FVec F S8x128 .f32 :=
  k1_pay37 (k1_pay26 b7 b5) (k1_pay28 b7 b5 b5) (k1_pay30 b3) b1
def corY1 (b2 b4 b6 b8 : Vec F S8x128 .f32) : FVec F S8x128 .f32 :=
  k1_pay38 (k1_pay27 b8 b6) (k1_pay29 b8 b6 b6) (k1_pay31 b4) (k1_pay32 (F := F)) b2
def corX2 (b1 b3 b5 b7 : Vec F S8x128 .f32) : FVec F S8x128 .f32 :=
  k1_pay39 (k1_pay26 b7 b5) (k1_pay28 b7 b5 b5) (k1_pay30 b3) b1
def corY2 (b2 b4 b6 b8 : Vec F S8x128 .f32) : FVec F S8x128 .f32 :=
  k1_pay40 (k1_pay27 b8 b6) (k1_pay29 b8 b6 b6) (k1_pay31 b4) (k1_pay32 (F := F)) b2

/-- The values of the second kernel that every trip of its loop reads. -/
structure LoopEnv (F : FTy → Type) where
  v4 : IVec S8x128 32
  v51 : FVec F S8x128 .f32
  v54 : FVec F S8x128 .f32
  v57 : FVec F S8x128 .f32
  v60 : FVec F S8x128 .f32
  v66 : F .f32
  v72 : F .f32
  v78 : F .f32
  v80 : FVec F S8x128 .f32
  v89 : Vec F S8x128 .f32
  v104 : IVec S128x8 32

/-- One trip of the loop, as a function of the trip's counter and of what the loop carries. -/
def nmsTrip (e : LoopEnv F) (j : BitVec 32) (acc : FVec F S8x128 .f32 × FVec F S128x8 .f32) : FVec F S8x128 .f32 × FVec F S128x8 .f32 :=
  let w := acc.1
  let x1 := k1_pay2 e.v51 e.v66 e.v72 e.v78 e.v80 e.v89
  let y1 := k1_pay3 e.v54 e.v66 e.v72 e.v78 e.v80 e.v89
  let x2 := k1_pay4 e.v57 e.v66 e.v72 e.v78 e.v80 e.v89
  let y2 := k1_pay5 e.v60 e.v66 e.v72 e.v78 e.v80 e.v89
  let ar := k1_pay6 e.v51 e.v54 e.v57 e.v60 e.v66 e.v72 e.v78 e.v80 e.v89
  let m := k1_pay12 w
  let sel := k1_pay13 e.v4 w
  (k1_pay10 e.v51 e.v54 e.v57 e.v60 e.v66 e.v72 e.v78 e.v80 e.v89 w (k1_pay14 e.v4 x1 w) (k1_pay15 e.v4 y1 w) (k1_pay16 e.v4 x2 w)
      (k1_pay17 e.v4 y2 w) (k1_pay18 e.v4 ar w),
    k1_pay9 acc.2 j m (k1_pay20 e.v60 sel) (Scalar.cmpf .ogt m (Scalar.ofBits .f32 0x00000000#32))
      (k1_pay21 e.v51 e.v54 e.v104 m sel (k1_pay19 (F := F))) (k1_pay22 e.v57 e.v104 m sel))

/-- What the loop carries before trip `k`. -/
def nmsIter (e : LoopEnv F) (init : FVec F S8x128 .f32 × FVec F S128x8 .f32) : ℕ → FVec F S8x128 .f32 × FVec F S128x8 .f32
  | 0 => init
  | k + 1 => nmsTrip e (Scf.iv 0#32 1#32 k) (nmsIter e init k)

/-- The loop's invariant: before trip `k` it carries `nmsIter … k`. The trips touch no memory. -/
@[sl_loop] def loopInv_k1_t1 (c : Dev nD) (arg0 : Memref sig .tc .vmem S8x128 .f32) (harg0 : arg0.IsWhole) (arg1 : Memref sig .tc .vmem S8x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S100x5 .f32) (harg10 : arg10.IsWhole) (v4 : IVec S8x128 32) (v51 : FVec F S8x128 .f32) (v54 : FVec F S8x128 .f32) (v57 : FVec F S8x128 .f32) (v60 : FVec F S8x128 .f32) (v66 : F .f32) (v72 : F .f32) (v78 : F .f32) (v80 : FVec F S8x128 .f32) (v89 : Vec F S8x128 .f32) (v104 : IVec S128x8 32) (init : FVec F S8x128 .f32 × FVec F S128x8 .f32) :
    LoopInvTy_k1_t1 (F := F) Unit ℕ UU ℕ Variants.none c none Set.univ arg0 harg0 arg1 harg1 arg2 harg2 arg3 harg3 arg4 harg4 arg5 harg5 arg6 harg6 arg7 harg7 arg8 harg8 arg9 harg9 arg10 harg10 v4 v51 v54 v57 v60 v66 v72 v78 v80 v89 v104 init where
  inv := fun k acc => iprop(⌜acc = nmsIter ⟨v4, v51, v54, v57, v60, v66, v72, v78, v80, v89, v104⟩ init k⌝)
  step := fun k acc => by
    unfold k1_t1_body
    iintro %h
    sl_exec
    sl_step
    ipureintro
    sl_unfold_words
    subst h
    rfl

/-- What the loop's trips read, as a function of the ten operand blocks. -/
def nmsEnv (b1 b2 b3 b4 b5 b6 b7 b8 b9 : Vec F S8x128 .f32) : LoopEnv F where
  v4 := k1_pay23
  v51 := corX1 b1 b3 b5 b7
  v54 := corY1 b2 b4 b6 b8
  v57 := corX2 b1 b3 b5 b7
  v60 := corY2 b2 b4 b6 b8
  v66 := k1_pay41 k1_pay24 (k1_pay26 b7 b5) (k1_pay28 b7 b5 b5) (k1_pay30 b3) b1
  v72 := k1_pay42 k1_pay24 (k1_pay27 b8 b6) (k1_pay29 b8 b6 b6) (k1_pay31 b4) (k1_pay32 (F := F)) b2
  v78 := k1_pay43 k1_pay24 (k1_pay26 b7 b5) (k1_pay28 b7 b5 b5) (k1_pay30 b3) b1
  v80 := k1_pay44 k1_pay24 (k1_pay27 b8 b6) (k1_pay29 b8 b6 b6) (k1_pay31 b4) (k1_pay32 (F := F)) b2
  v89 := b9
  v104 := iota .tc S128x8 32 [1] iota_S128x8_d1_w32

/-- The block the second kernel stores, as a function of its ten operand blocks. -/
def nmsOut (b0 b1 b2 b3 b4 b5 b6 b7 b8 b9 : Vec F S8x128 .f32) : Vec F S100x5 .f32 :=
  k1_pay11 (nmsIter (nmsEnv b1 b2 b3 b4 b5 b6 b7 b8 b9) (k1_pay7 k1_pay24 (k1_pay25 b0), k1_pay8 (F := F)) k1_t1_loop.trips).2

/-- The second kernel's body, from its eleven staging buffers held whole. -/
theorem nmsRun (c : Dev nD)
    (M0 : Memref sig .tc .vmem S8x128 .f32) (h0 : M0.IsWhole) (M1 : Memref sig .tc .vmem S8x128 .f32) (h1 : M1.IsWhole) (M2 : Memref sig .tc .vmem S8x128 .f32) (h2 : M2.IsWhole) (M3 : Memref sig .tc .vmem S8x128 .f32) (h3 : M3.IsWhole) (M4 : Memref sig .tc .vmem S8x128 .f32) (h4 : M4.IsWhole) (M5 : Memref sig .tc .vmem S8x128 .f32) (h5 : M5.IsWhole) (M6 : Memref sig .tc .vmem S8x128 .f32) (h6 : M6.IsWhole) (M7 : Memref sig .tc .vmem S8x128 .f32) (h7 : M7.IsWhole) (M8 : Memref sig .tc .vmem S8x128 .f32) (h8 : M8.IsWhole) (M9 : Memref sig .tc .vmem S8x128 .f32) (h9 : M9.IsWhole) (M10 : Memref sig .tc .vmem S100x5 .f32) (h10 : M10.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
        ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
            ∗ ∃ W : Bf (F := F) c M10, ⌜M10.view.read (Elt F) W = nmsOut (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9)⌝ ∗ pt c M10 W) -∗ Q ⟨⟩))
      ⊢ wp frame (wpE (defs₀ (F := F)) Variants.none c none) Set.univ (cc1__nms_kernel M0 h0 M1 h1 M2 h2 M3 h3 M4 h4 M5 h5 M6 h6 M7 h7 M8 h8 M9 h9 M10 h10) Q := by
  iintro ⟨H0, H1, H2, H3, H4, H5, H6, H7, H8, H9, H10, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _
  isplitr
  swap
  · iexact H10
  ipureintro
  sl_unfold_words
  rw [View.read_writes_eq_canon _ _ _ (fun y => ⟨_, List.mem_singleton_self _, View.mem_set_unit_zero off_zero inb_S100x5_S100x5_0_0 y⟩),
    View.canon_unit_zero off_zero]
  simp only [View.readAt_eq_ld, View.ld_unit_zero (S := S8x128) off_zero]
  rfl

/-- A whole memref owned at what it reads is its buffer held at some contents reading that. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The same run over what each staging buffer reads, whatever memref it is. -/
theorem scoresOwns (c : Dev nD) (i : grid0.Coords)
    (M0 : Memref sig .tc .vmem S2000x81 .f32) (h0 : M0.IsWhole) (M1 : Memref sig .tc .vmem S2000x80 .f32) (h1 : M1.IsWhole) (M2 : Memref sig .tc .vmem S2000x80 .f32) (h2 : M2.IsWhole) (M3 : Memref sig .tc .vmem S2000x80 .f32) (h3 : M3.IsWhole) (M4 : Memref sig .tc .vmem S2000x80 .f32) (h4 : M4.IsWhole) (M5 : Memref sig .tc .vmem S2000x4 .f32) (h5 : M5.IsWhole) (M6 : Memref sig .tc .vmem S2000x80 .f32) (h6 : M6.IsWhole)
    (X0 : Vec F S2000x81 .f32) (X1 : Vec F S2000x80 .f32) (X2 : Vec F S2000x80 .f32) (X3 : Vec F S2000x80 .f32) (X4 : Vec F S2000x80 .f32) (X5 : Vec F S2000x4 .f32) (X6 : Vec F S2000x80 .f32) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (scoresOut X0 X1 X2 X3 X4 X5)) -∗ Q ⟨⟩))
      ⊢ wp frame (wpE (defs₀ (F := F)) Variants.none c none) Set.univ (cc0__scores_kernel i M0 h0 M1 h1 M2 h2 M3 h3 M4 h4 M5 h5 M6 h6) Q := by
  rw [owns_pt c M0 h0, owns_pt c M1 h1, owns_pt c M2 h2, owns_pt c M3 h3, owns_pt c M4 h4, owns_pt c M5 h5, owns_pt c M6 h6, owns_pt c M6 h6 (scoresOut X0 X1 X2 X3 X4 X5)]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  iapply (scoresRun c i M0 h0 M1 h1 M2 h2 M3 h3 M4 h4 M5 h5 M6 h6 f0 f1 f2 f3 f4 f5 f6 Q)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, %W, %hW, H6⟩
  iapply Hk
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  iexists W; isplitr; swap; (· iexact H6); ipureintro
  rw [hW, hf0, hf1, hf2, hf3, hf4, hf5]

/-- The same run over what each staging buffer reads, whatever memref it is. -/
theorem nmsOwns (c : Dev nD)
    (M0 : Memref sig .tc .vmem S8x128 .f32) (h0 : M0.IsWhole) (M1 : Memref sig .tc .vmem S8x128 .f32) (h1 : M1.IsWhole) (M2 : Memref sig .tc .vmem S8x128 .f32) (h2 : M2.IsWhole) (M3 : Memref sig .tc .vmem S8x128 .f32) (h3 : M3.IsWhole) (M4 : Memref sig .tc .vmem S8x128 .f32) (h4 : M4.IsWhole) (M5 : Memref sig .tc .vmem S8x128 .f32) (h5 : M5.IsWhole) (M6 : Memref sig .tc .vmem S8x128 .f32) (h6 : M6.IsWhole) (M7 : Memref sig .tc .vmem S8x128 .f32) (h7 : M7.IsWhole) (M8 : Memref sig .tc .vmem S8x128 .f32) (h8 : M8.IsWhole) (M9 : Memref sig .tc .vmem S8x128 .f32) (h9 : M9.IsWhole) (M10 : Memref sig .tc .vmem S100x5 .f32) (h10 : M10.IsWhole)
    (X0 : Vec F S8x128 .f32) (X1 : Vec F S8x128 .f32) (X2 : Vec F S8x128 .f32) (X3 : Vec F S8x128 .f32) (X4 : Vec F S8x128 .f32) (X5 : Vec F S8x128 .f32) (X6 : Vec F S8x128 .f32) (X7 : Vec F S8x128 .f32) (X8 : Vec F S8x128 .f32) (X9 : Vec F S8x128 .f32) (X10 : Vec F S100x5 .f32) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare (nmsOut X0 X1 X2 X3 X4 X5 X6 X7 X8 X9)) -∗ Q ⟨⟩))
      ⊢ wp frame (wpE (defs₀ (F := F)) Variants.none c none) Set.univ (cc1__nms_kernel M0 h0 M1 h1 M2 h2 M3 h3 M4 h4 M5 h5 M6 h6 M7 h7 M8 h8 M9 h9 M10 h10) Q := by
  rw [owns_pt c M0 h0, owns_pt c M1 h1, owns_pt c M2 h2, owns_pt c M3 h3, owns_pt c M4 h4, owns_pt c M5 h5, owns_pt c M6 h6, owns_pt c M7 h7, owns_pt c M8 h8, owns_pt c M9 h9, owns_pt c M10 h10, owns_pt c M10 h10 (nmsOut X0 X1 X2 X3 X4 X5 X6 X7 X8 X9)]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  iapply (nmsRun c  M0 h0 M1 h1 M2 h2 M3 h3 M4 h4 M5 h5 M6 h6 M7 h7 M8 h8 M9 h9 M10 h10 f0 f1 f2 f3 f4 f5 f6 f7 f8 f9 f10 Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, %W, %hW, H10⟩
  iapply Hk
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  isplitl [H8]; · iexists f8; isplitr; swap; (· iexact H8); ipureintro; exact hf8
  isplitl [H9]; · iexists f9; isplitr; swap; (· iexact H9); ipureintro; exact hf9
  iexists W; isplitr; swap; (· iexact H10); ipureintro
  rw [hW, hf0, hf1, hf2, hf3, hf4, hf5, hf6, hf7, hf8, hf9]

end Cert.KernelIdeal.Hand

end
-- ==== Proof.KernelIdealRun.lean ====
module

public import proofs.«01_k».proof.Proof.KernelIdealBodies
public import proofs.«01_k».proof.Proof.Gen.KernelIdeal.Regions
public import Idealize.ShloMosaic.Lib.Pipeline.RegionsLoop

@[expose] public section

set_option maxRecDepth 2060
set_option maxHeartbeats 2000000

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ UU ℕ

/-! ## The kernels as regions -/

namespace R0

variable (V : (c : Dev nD) → (b : Ref sig .tc) → Buf (Elt F) ((c : Thread nD τ).loc b))

/-- Window `w`'s block at point `t`, read out of its array at the valuation the region is entered from. -/
abbrev stg (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Between the region's ends the scoped buffers its pipeline does not stage are held at something. -/
abbrev Φc (c : Dev nD) : sProp 𝕄 := Pipeline.scopedRest (Ix := Unit) (Name := ℕ) (U := UU) (Lvl := ℕ) (Val := Elt F) spec0 c

/-- The region's proof data from valuation `V`: every operand's staging buffer holds its block before and after the
    body, the result's holds the body's value of those blocks after it. -/
def dat (c : Dev nD) : Dat τ (Elt F) Unit ℕ UU ℕ cfg0 c where
  A w := V c (Pipeline.arrRef spec0 w)
  after w t := match w with
    | ⟨0, _⟩ => stg V c 0 t
    | ⟨1, _⟩ => stg V c 1 t
    | ⟨2, _⟩ => stg V c 2 t
    | ⟨3, _⟩ => stg V c 3 t
    | ⟨4, _⟩ => stg V c 4 t
    | ⟨5, _⟩ => stg V c 5 t
    | ⟨6, _⟩ => scoresOut (stg V c 0 t) (stg V c 1 t) (stg V c 2 t) (stg V c 3 t) (stg V c 4 t) (stg V c 5 t)
  Φ _ := Φc c
  q _ := fullShare
  owed _ := 0

theorem before_0 (c : Dev nD) (t : Fin cfg0.N) (d : (cfg0.win 0).block.Idx → Elt F (cfg0.win 0).elt) : (dat V c).before 0 t d = stg V c 0 t := by
  rw [Pipeline.Dat.before_fetched _ _ _ (fetch0_0 t)]; rfl
theorem before_1 (c : Dev nD) (t : Fin cfg0.N) (d : (cfg0.win 1).block.Idx → Elt F (cfg0.win 1).elt) : (dat V c).before 1 t d = stg V c 1 t := by
  rw [Pipeline.Dat.before_fetched _ _ _ (fetch0_1 t)]; rfl
theorem before_2 (c : Dev nD) (t : Fin cfg0.N) (d : (cfg0.win 2).block.Idx → Elt F (cfg0.win 2).elt) : (dat V c).before 2 t d = stg V c 2 t := by
  rw [Pipeline.Dat.before_fetched _ _ _ (fetch0_2 t)]; rfl
theorem before_3 (c : Dev nD) (t : Fin cfg0.N) (d : (cfg0.win 3).block.Idx → Elt F (cfg0.win 3).elt) : (dat V c).before 3 t d = stg V c 3 t := by
  rw [Pipeline.Dat.before_fetched _ _ _ (fetch0_3 t)]; rfl
theorem before_4 (c : Dev nD) (t : Fin cfg0.N) (d : (cfg0.win 4).block.Idx → Elt F (cfg0.win 4).elt) : (dat V c).before 4 t d = stg V c 4 t := by
  rw [Pipeline.Dat.before_fetched _ _ _ (fetch0_4 t)]; rfl
theorem before_5 (c : Dev nD) (t : Fin cfg0.N) (d : (cfg0.win 5).block.Idx → Elt F (cfg0.win 5).elt) : (dat V c).before 5 t d = stg V c 5 t := by
  rw [Pipeline.Dat.before_fetched _ _ _ (fetch0_5 t)]; rfl

/-- The pipeline's obligation about the body: at every point the staging buffers are taken apart, the body's run applied
    to them, and its result put together again. -/
theorem body_obligation (c : Dev nD) : BodyObligation (dat V c) (defs₀ (F := F)) Variants.none () Set.univ := fun t => by
  rw [bigSep_W0, bigSep_W0]
  rw [show (dat V c).Φ t.castSucc = Φc c from rfl, show (dat V c).Φ t.succ = Φc c from rfl,
    show (dat V c).owesAt () t.succ = (dat V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before_0 V c t d0, before_1 V c t d1, before_2 V c t d2, before_3 V c t d3, before_4 V c t d4, before_5 V c t d5]
  iapply (scoresOwns c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (stg V c 0 t) (stg V c 1 t) (stg V c 2 t) (stg V c 3 t) (stg V c 4 t) (stg V c 5 t) ((dat V c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

end R0

namespace R1

variable (V : (c : Dev nD) → (b : Ref sig .tc) → Buf (Elt F) ((c : Thread nD τ).loc b))

/-- Window `w`'s block at point `t`, read out of its array at the valuation the region is entered from. -/
abbrev stg (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Between the region's ends the scoped buffers its pipeline does not stage are held at something. -/
abbrev Φc (c : Dev nD) : sProp 𝕄 := Pipeline.scopedRest (Ix := Unit) (Name := ℕ) (U := UU) (Lvl := ℕ) (Val := Elt F) spec1 c

/-- The region's proof data from valuation `V`: every operand's staging buffer holds its block before and after the
    body, the result's holds the body's value of those blocks after it. -/
def dat (c : Dev nD) : Dat τ (Elt F) Unit ℕ UU ℕ cfg1 c where
  A w := V c (Pipeline.arrRef spec1 w)
  after w t := match w with
    | ⟨0, _⟩ => stg V c 0 t
    | ⟨1, _⟩ => stg V c 1 t
    | ⟨2, _⟩ => stg V c 2 t
    | ⟨3, _⟩ => stg V c 3 t
    | ⟨4, _⟩ => stg V c 4 t
    | ⟨5, _⟩ => stg V c 5 t
    | ⟨6, _⟩ => stg V c 6 t
    | ⟨7, _⟩ => stg V c 7 t
    | ⟨8, _⟩ => stg V c 8 t
    | ⟨9, _⟩ => stg V c 9 t
    | ⟨10, _⟩ => nmsOut (stg V c 0 t) (stg V c 1 t) (stg V c 2 t) (stg V c 3 t) (stg V c 4 t) (stg V c 5 t) (stg V c 6 t) (stg V c 7 t) (stg V c 8 t) (stg V c 9 t)
  Φ _ := Φc c
  q _ := fullShare
  owed _ := 0

theorem before_0 (c : Dev nD) (t : Fin cfg1.N) (d : (cfg1.win 0).block.Idx → Elt F (cfg1.win 0).elt) : (dat V c).before 0 t d = stg V c 0 t := by
  rw [Pipeline.Dat.before_fetched _ _ _ (fetch1_0 t)]; rfl
theorem before_1 (c : Dev nD) (t : Fin cfg1.N) (d : (cfg1.win 1).block.Idx → Elt F (cfg1.win 1).elt) : (dat V c).before 1 t d = stg V c 1 t := by
  rw [Pipeline.Dat.before_fetched _ _ _ (fetch1_1 t)]; rfl
theorem before_2 (c : Dev nD) (t : Fin cfg1.N) (d : (cfg1.win 2).block.Idx → Elt F (cfg1.win 2).elt) : (dat V c).before 2 t d = stg V c 2 t := by
  rw [Pipeline.Dat.before_fetched _ _ _ (fetch1_2 t)]; rfl
theorem before_3 (c : Dev nD) (t : Fin cfg1.N) (d : (cfg1.win 3).block.Idx → Elt F (cfg1.win 3).elt) : (dat V c).before 3 t d = stg V c 3 t := by
  rw [Pipeline.Dat.before_fetched _ _ _ (fetch1_3 t)]; rfl
theorem before_4 (c : Dev nD) (t : Fin cfg1.N) (d : (cfg1.win 4).block.Idx → Elt F (cfg1.win 4).elt) : (dat V c).before 4 t d = stg V c 4 t := by
  rw [Pipeline.Dat.before_fetched _ _ _ (fetch1_4 t)]; rfl
theorem before_5 (c : Dev nD) (t : Fin cfg1.N) (d : (cfg1.win 5).block.Idx → Elt F (cfg1.win 5).elt) : (dat V c).before 5 t d = stg V c 5 t := by
  rw [Pipeline.Dat.before_fetched _ _ _ (fetch1_5 t)]; rfl
theorem before_6 (c : Dev nD) (t : Fin cfg1.N) (d : (cfg1.win 6).block.Idx → Elt F (cfg1.win 6).elt) : (dat V c).before 6 t d = stg V c 6 t := by
  rw [Pipeline.Dat.before_fetched _ _ _ (fetch1_6 t)]; rfl
theorem before_7 (c : Dev nD) (t : Fin cfg1.N) (d : (cfg1.win 7).block.Idx → Elt F (cfg1.win 7).elt) : (dat V c).before 7 t d = stg V c 7 t := by
  rw [Pipeline.Dat.before_fetched _ _ _ (fetch1_7 t)]; rfl
theorem before_8 (c : Dev nD) (t : Fin cfg1.N) (d : (cfg1.win 8).block.Idx → Elt F (cfg1.win 8).elt) : (dat V c).before 8 t d = stg V c 8 t := by
  rw [Pipeline.Dat.before_fetched _ _ _ (fetch1_8 t)]; rfl
theorem before_9 (c : Dev nD) (t : Fin cfg1.N) (d : (cfg1.win 9).block.Idx → Elt F (cfg1.win 9).elt) : (dat V c).before 9 t d = stg V c 9 t := by
  rw [Pipeline.Dat.before_fetched _ _ _ (fetch1_9 t)]; rfl

/-- The pipeline's obligation about the body: at every point the staging buffers are taken apart, the body's run applied
    to them, and its result put together again. -/
theorem body_obligation (c : Dev nD) : BodyObligation (dat V c) (defs₀ (F := F)) Variants.none () Set.univ := fun t => by
  rw [bigSep_W1, bigSep_W1]
  rw [show (dat V c).Φ t.castSucc = Φc c from rfl, show (dat V c).Φ t.succ = Φc c from rfl,
    show (dat V c).owesAt () t.succ = (dat V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 V c t d0, before_1 V c t d1, before_2 V c t d2, before_3 V c t d3, before_4 V c t d4, before_5 V c t d5, before_6 V c t d6, before_7 V c t d7, before_8 V c t d8, before_9 V c t d9]
  iapply (nmsOwns c (win1_0.stage (cfg1.slots t 0)) (hstage1_0 0) (win1_1.stage (cfg1.slots t 1)) (hstage1_1 0) (win1_2.stage (cfg1.slots t 2)) (hstage1_2 0) (win1_3.stage (cfg1.slots t 3)) (hstage1_3 0) (win1_4.stage (cfg1.slots t 4)) (hstage1_4 0) (win1_5.stage (cfg1.slots t 5)) (hstage1_5 0) (win1_6.stage (cfg1.slots t 6)) (hstage1_6 0) (win1_7.stage (cfg1.slots t 7)) (hstage1_7 0) (win1_8.stage (cfg1.slots t 8)) (hstage1_8 0) (win1_9.stage (cfg1.slots t 9)) (hstage1_9 0) (win1_10.stage (cfg1.slots t 10)) (hstage1_10 0) (stg V c 0 t) (stg V c 1 t) (stg V c 2 t) (stg V c 3 t) (stg V c 4 t) (stg V c 5 t) (stg V c 6 t) (stg V c 7 t) (stg V c 8 t) (stg V c 9 t) ((dat V c).before 10 t d10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end R1

/-! ## The contents of the buffers between the items of the program -/

variable (m : (ℓ : Loc nD τ sig) → Buf (Elt F) ℓ)

/-- What the first kernel's pipeline leaves in its result's array. -/
def out0 (c : Dev nD) : Buf (Elt F) ((c : Thread nD τ).loc main_call0_v9) := (R0.dat (fun c b => V1 m c b) c).arrAt 6 cfg0.N
/-- Core `c`'s unscoped buffers after the first kernel, -/
def U2 (c : Dev nD) : Valuation τ sig (Elt F) := Function.update (V1 m c) main_call0_v9 (out0 m c)
/-- after the second host stretch, -/
def U3 (c : Dev nD) : Valuation τ sig (Elt F) := StableHlo.after hostOps1 (U2 m c)
/-- What the second kernel's pipeline leaves in its result's array. -/
def out1 (c : Dev nD) : Buf (Elt F) ((c : Thread nD τ).loc main_v0) := (R1.dat (fun c b => U3 m c b) c).arrAt 10 cfg1.N
/-- and after the second kernel. -/
def U4 (c : Dev nD) : Valuation τ sig (Elt F) := Function.update (U3 m c) main_v0 (out1 m c)

theorem U_out0 (c : Dev nD) : U2 m c main_call0_v9 = out0 m c := by unfold U2; exact Function.update_self ..
theorem U_ne0 (c : Dev nD) (b : Ref sig .tc) (h : b ≠ main_call0_v9) : U2 m c b = V1 m c b := by
  unfold U2; exact Function.update_of_ne (StableHlo.devRef_ne_of_ne h) ..
theorem U3_of (c : Dev nD) (b : Ref sig .tc) (h : b ∉ hostOps1_W) : U3 m c b = U2 m c b := by
  unfold U3; exact StableHlo.after_of_writes_sub hostOps1 _ hostOps1_writes h
theorem U_out1 (c : Dev nD) : U4 m c main_v0 = out1 m c := by unfold U4; exact Function.update_self ..
theorem U_ne1 (c : Dev nD) (b : Ref sig .tc) (h : b ≠ main_v0) : U4 m c b = U3 m c b := by
  unfold U4; exact Function.update_of_ne (StableHlo.devRef_ne_of_ne h) ..

/-- A buffer that no item of the program writes ends as launched. -/
theorem U4_kept (c : Dev nD) (b : Ref sig .tc) (h1 : b ≠ main_v0) (h2 : b ∉ hostOps1_W) (h3 : b ≠ main_call0_v9) (h4 : b ∉ hostOps0_W) :
    U4 m c b = m ((c : Thread nD τ).loc b) :=
  (U_ne1 m c b h1).trans <| (U3_of m c b h2).trans <| (U_ne0 m c b h3).trans <| V1_of m c b h4

/-- The valuation region `p` is entered from. -/
def Vr (p : Fin 2) (c : Dev nD) (b : Ref sig .tc) : Buf (Elt F) ((c : Thread nD τ).loc b) :=
  match p with
  | 0 => V1 m c b
  | 1 => U3 m c b

/-- Both regions' proof data. -/
def pdats : (p : Fin 2) → (c : Dev nD) → Dat τ (Elt F) Unit ℕ UU ℕ (Pipeline.pin (pcfgs (F := F)) adm p) c
  | ⟨0, _⟩ => fun c => R0.dat (Vr m 0) c
  | ⟨1, _⟩ => fun c => R1.dat (Vr m 1) c

/-- No core owes another anything: no level is assigned, and a core's dues are none. -/
abbrev Lv : GSem nD τ sig → Finset Unit := fun _ => ∅
abbrev lv : GSem nD τ sig → Unit → ℕ := fun _ _ => 0
abbrev Rest (c : Dev nD) : sProp 𝕄 := iprop(∃ W, owes (c : Thread nD τ) (0 : CellTallies nD τ sig Unit) W)

set_option backward.isDefEq.respectTransparency.types false in
/-- The region of the first kernel: entered with every unscoped buffer at the valuation before it, left with its
    result's array at what the pipeline's write-backs leave there. -/
def reg0 : Pipeline.RegionSeg (pcfgs (F := F)) adm (pdats m) () defs₀ Variants.none Lv lv 0 where
  win := launch0.win.to₀
  block_pos := launch0.block_pos
  stage_whole := launch0.stage_whole
  K := PEmpty
  osem k := k.elim
  ho := Pipeline.OwnSemFacts.none _
  hbody c := (R0.body_obligation (Vr m 0) c).loose
  hwaits := Pipeline.hwaits_of_owed_zero _ _ _ _ Lv lv 0 fun _ _ => rfl
  pre c := iprop(StableHlo.held (c : Thread nD τ) (Pipeline.ucRefs τ sig) (V1 m c) ∗ Rest c)
  post c := iprop(StableHlo.held (c : Thread nD τ) (Pipeline.ucRefs τ sig) (U2 m c) ∗ Rest c)
  X _ := BI.emp
  Y _ := BI.emp
  Z c := Pipeline.unscopedRest (Ix := Unit) (Name := ℕ) (U := UU) (Lvl := ℕ) spec0 c (Vr m 0 c)
  hentry c := by
    rw [Pipeline.ownSems0_none,
      show StableHlo.held (c : Thread nD τ) (Pipeline.ucRefs τ sig) (V1 m c) = unscopedBufs c (Vr m 0 c) from
        (Pipeline.unscopedBufs_held (Ix := Unit) (Name := ℕ) (U := UU) (Lvl := ℕ) c (V1 m c)).symm]
    have hsplit := Pipeline.arrays_of_unscopedBufs (p := 0) (pcfgs (F := F)) adm (pdats m) launch0.win launch0.arr_whole c
      ((pdats m 0 c).share_full fun _ => rfl) (Vr m 0 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = R0.Φc c from rfl]
    iintro ⟨-, -, Hr⟩; iexact Hr
  hout c := by
    rw [Pipeline.ownSems0_none, show (pdats m 0 c).Φ (Fin.last _) = R0.Φc c from rfl]
    iintro Hr
    isplitr; · iempintro
    isplitr; · iempintro
    iexact Hr
  hexit c := by
    rw [show StableHlo.held (c : Thread nD τ) (Pipeline.ucRefs τ sig) (U2 m c) = unscopedBufs c (fun b => U2 m c b) from
        (Pipeline.unscopedBufs_held (Ix := Unit) (Name := ℕ) (U := UU) (Lvl := ℕ) c (U2 m c)).symm]
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (Vr m 0 c) (fun b => U2 m c b) ((pdats m 0 c).arrAt · cfg0.N)
      (fun w => by
        fin_cases w
        · exact ((R0.dat (Vr m 0) c).arrAt_in 0 rfl _).trans (U_ne0 m c main_arg0 (by decide)).symm
        · exact ((R0.dat (Vr m 0) c).arrAt_in 1 rfl _).trans (U_ne0 m c main_call0_v2 (by decide)).symm
        · exact ((R0.dat (Vr m 0) c).arrAt_in 2 rfl _).trans (U_ne0 m c main_call0_v4 (by decide)).symm
        · exact ((R0.dat (Vr m 0) c).arrAt_in 3 rfl _).trans (U_ne0 m c main_call0_v6 (by decide)).symm
        · exact ((R0.dat (Vr m 0) c).arrAt_in 4 rfl _).trans (U_ne0 m c main_call0_v8 (by decide)).symm
        · exact ((R0.dat (Vr m 0) c).arrAt_in 5 rfl _).trans (U_ne0 m c main_arg2 (by decide)).symm
        · exact (U_out0 m c).symm)
      (fun b hb => U_ne0 m c b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The region of the second kernel: entered with every unscoped buffer at the valuation before it, left with its
    result's array at what the pipeline's write-backs leave there. -/
def reg1 : Pipeline.RegionSeg (pcfgs (F := F)) adm (pdats m) () defs₀ Variants.none Lv lv 1 where
  win := launch1.win.to₀
  block_pos := launch1.block_pos
  stage_whole := launch1.stage_whole
  K := PEmpty
  osem k := k.elim
  ho := Pipeline.OwnSemFacts.none _
  hbody c := (R1.body_obligation (Vr m 1) c).loose
  hwaits := Pipeline.hwaits_of_owed_zero _ _ _ _ Lv lv 1 fun _ _ => rfl
  pre c := iprop(StableHlo.held (c : Thread nD τ) (Pipeline.ucRefs τ sig) (U3 m c) ∗ Rest c)
  post c := iprop(StableHlo.held (c : Thread nD τ) (Pipeline.ucRefs τ sig) (U4 m c) ∗ Rest c)
  X _ := BI.emp
  Y _ := BI.emp
  Z c := Pipeline.unscopedRest (Ix := Unit) (Name := ℕ) (U := UU) (Lvl := ℕ) spec1 c (Vr m 1 c)
  hentry c := by
    rw [Pipeline.ownSems0_none,
      show StableHlo.held (c : Thread nD τ) (Pipeline.ucRefs τ sig) (U3 m c) = unscopedBufs c (Vr m 1 c) from
        (Pipeline.unscopedBufs_held (Ix := Unit) (Name := ℕ) (U := UU) (Lvl := ℕ) c (U3 m c)).symm]
    have hsplit := Pipeline.arrays_of_unscopedBufs (p := 1) (pcfgs (F := F)) adm (pdats m) launch1.win launch1.arr_whole c
      ((pdats m 1 c).share_full fun _ => rfl) (Vr m 1 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = R1.Φc c from rfl]
    iintro ⟨-, -, Hr⟩; iexact Hr
  hout c := by
    rw [Pipeline.ownSems0_none, show (pdats m 1 c).Φ (Fin.last _) = R1.Φc c from rfl]
    iintro Hr
    isplitr; · iempintro
    isplitr; · iempintro
    iexact Hr
  hexit c := by
    rw [show StableHlo.held (c : Thread nD τ) (Pipeline.ucRefs τ sig) (U4 m c) = unscopedBufs c (fun b => U4 m c b) from
        (Pipeline.unscopedBufs_held (Ix := Unit) (Name := ℕ) (U := UU) (Lvl := ℕ) c (U4 m c)).symm]
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (Vr m 1 c) (fun b => U4 m c b) ((pdats m 1 c).arrAt · cfg1.N)
      (fun w => by
        fin_cases w
        · exact ((R1.dat (Vr m 1) c).arrAt_in 0 rfl _).trans (U_ne1 m c main_call0_v64 (by decide)).symm
        · exact ((R1.dat (Vr m 1) c).arrAt_in 1 rfl _).trans (U_ne1 m c main_call0_v65 (by decide)).symm
        · exact ((R1.dat (Vr m 1) c).arrAt_in 2 rfl _).trans (U_ne1 m c main_call0_v66 (by decide)).symm
        · exact ((R1.dat (Vr m 1) c).arrAt_in 3 rfl _).trans (U_ne1 m c main_call0_v67 (by decide)).symm
        · exact ((R1.dat (Vr m 1) c).arrAt_in 4 rfl _).trans (U_ne1 m c main_call0_v68 (by decide)).symm
        · exact ((R1.dat (Vr m 1) c).arrAt_in 5 rfl _).trans (U_ne1 m c main_call0_v69 (by decide)).symm
        · exact ((R1.dat (Vr m 1) c).arrAt_in 6 rfl _).trans (U_ne1 m c main_call0_v70 (by decide)).symm
        · exact ((R1.dat (Vr m 1) c).arrAt_in 7 rfl _).trans (U_ne1 m c main_call0_v71 (by decide)).symm
        · exact ((R1.dat (Vr m 1) c).arrAt_in 8 rfl _).trans (U_ne1 m c main_call0_v72 (by decide)).symm
        · exact ((R1.dat (Vr m 1) c).arrAt_in 9 rfl _).trans (U_ne1 m c main_call0_v73 (by decide)).symm
        · exact (U_out1 m c).symm)
      (fun b hb => U_ne1 m c b fun h => hb (h ▸ Finset.mem_image.mpr ⟨10, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The second host stretch as a segment. -/
def hseg1 : HostSeg (Ix := Unit) (Name := ℕ) (U := UU) (Lvl := ℕ) (pcfgs (F := F)) defs₀ Variants.none Lv lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) Rest

/-- The program's items in order. -/
abbrev items : List (Seg (pcfgs (F := F)) adm (pdats m) () defs₀ Variants.none Lv lv) :=
  [.host (seg0 m Variants.none Lv lv fun _ => Rest), .region (reg0 m), .host (hseg1 m), .region (reg1 m)]

set_option backward.isDefEq.respectTransparency.types false in
/-- From any memory with counters at zero the program runs to an end, and at every end its result's buffer holds `out1`,
    its arguments are as launched, and every counter is zero. -/
theorem run_value (ρ : Dev nD → PrngReg) :
    θ_run defs (onTc (τ := τ) (main (F := F))) ⟨m, fun _ => 0, ρ⟩ (fun r => (∀ c : Dev nD,
      r.2.mem ((c.tc : Thread nD τ).loc main_v0) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj emb₁ defs₀ Variants.none Lv lv m ρ main
    (fun _ => items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Seg.pipes_host, Seg.pipes_region, Seg.pipes_nil]; decide) (fun _ => 0) (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rest c))
    (Tₙ := fun c => StableHlo.held (c : Thread nD τ) (Pipeline.ucRefs τ sig) (U4 m c))
    (hch := fun c => ⟨.rfl, .rfl, .rfl, .rfl, .rfl⟩)
    (hinit := ?_)
    (QY := fun c s => s.mem ((c.tc : Thread nD τ).loc main_v0) = out1 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach Lv lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    icases Hr with ⟨%h, HSI⟩
    imodintro
    isplitr
    · ipureintro
      exact ⟨(h (Proc.devRef .tc main_v0) (Finset.mem_filter.mpr ⟨StableHlo.devRef_mem_tcRefs main_v0, by decide⟩)).trans (U_out1 m c),
        (h (Proc.devRef .tc main_arg0) (Finset.mem_filter.mpr ⟨StableHlo.devRef_mem_tcRefs main_arg0, by decide⟩)).trans (U4_kept m c main_arg0 (by decide) (by decide) (by decide) (by decide)),
        (h (Proc.devRef .tc main_arg1) (Finset.mem_filter.mpr ⟨StableHlo.devRef_mem_tcRefs main_arg1, by decide⟩)).trans (U4_kept m c main_arg1 (by decide) (by decide) (by decide) (by decide)),
        (h (Proc.devRef .tc main_arg2) (Finset.mem_filter.mpr ⟨StableHlo.devRef_mem_tcRefs main_arg2, by decide⟩)).trans (U4_kept m c main_arg2 (by decide) (by decide) (by decide) (by decide))⟩
    · iexact HSI

end Cert.KernelIdeal.Hand

end
-- ==== Proof.Ssa.lean ====
/-
  Reading a buffer after a straight line of host operations each of which writes one buffer. When a buffer is written
  once in the line, and the operation that writes it reads buffers the line does not write from there on, the line's
  final contents satisfy that operation's own equation. One lemma per shape of operation; a line is given with the list
  `W` of the buffers its operations write, in order.
-/
module

public import Idealize.ShloMosaic.Lib.StableHlo.Run
public import Idealize.ShloMosaic.Lib.StableHlo.RunLoop

@[expose] public section

noncomputable section

namespace Cert.Ssa

open Idealize.ShloMosaic Idealize.ShloMosaic.StableHlo Idealize.ShloMosaic.TcCoe

variable {τ : Topo} {sig : RefSig} {Val : EltTy → Type}

/-- Operation `k` of the line writes buffer `W[k]` and no other. -/
def Line (ops : List (HloOp τ sig Val)) (W : List (Ref sig .tc)) : Prop :=
  ops.map HloOp.writes = W.map fun r => {Proc.devRef (τ := τ) .tc r}

variable {ops : List (HloOp τ sig Val)} {W : List (Ref sig .tc)}

/-- The tail of such a line is one. -/
theorem Line.drop (h : Line ops W) (k : ℕ) : Line (ops.drop k) (W.drop k) := by
  unfold Line at *; rw [List.map_drop, List.map_drop, h]

/-- A buffer that the line never writes is kept. -/
theorem Line.keep (h : Line ops W) (V : Valuation τ sig Val) {r : Ref sig .tc} (hr : r ∉ W) :
    after ops V (Proc.devRef .tc r) = V (Proc.devRef .tc r) :=
  after_of_writes_sub ops V (forall_writes_sub_of_map h) hr

/-- A buffer not written from operation `k` on holds at the end what it holds before operation `k`. -/
theorem Line.before (h : Line ops W) (V : Valuation τ sig Val) (k : ℕ) {r : Ref sig .tc} (hr : r ∉ W.drop k) :
    after (ops.take k) V (Proc.devRef .tc r) = after ops V (Proc.devRef .tc r) := by
  conv_rhs => rw [← List.take_append_drop k ops, after_append]
  exact ((h.drop k).keep _ hr).symm

/-- A buffer not written after operation `k` holds at the end what operation `k` leaves in it. -/
theorem Line.at (h : Line ops W) (V : Valuation τ sig Val) (k : ℕ) {op : HloOp τ sig Val} (hk : ops[k]? = some op)
    {y : Ref sig .tc} (hy : y ∉ W.drop (k + 1)) :
    after ops V (Proc.devRef .tc y) = op.result (after (ops.take k) V) (Proc.devRef .tc y) := by
  rw [← h.before V (k + 1) hy, List.take_add_one, hk, after_append]; rfl

variable {x y a b c e : Ref sig .tc}

/-! What the line leaves in the buffer that its operation `k` writes, for each kind of operation. -/

theorem Line.nullary (h : Line ops W) (V : Valuation τ sig Val) (k : ℕ) {v : y.ty.Contents Val} {hy}
    (hk : ops[k]? = some (StableHlo.nullary y v hy)) (hw : y ∉ W.drop (k + 1)) : after ops V y = v := by
  rw [h.at V k hk hw, nullary_result]

theorem Line.unary (h : Line ops W) (V : Valuation τ sig Val) (k : ℕ) {f : x.ty.Contents Val → y.ty.Contents Val} {hx hy}
    (hk : ops[k]? = some (StableHlo.unary x y f hx hy)) (hw : y ∉ W.drop (k + 1) ∧ x ∉ W.drop k) :
    after ops V y = f (after ops V x) := by
  rw [h.at V k hk hw.1, unary_result, h.before V k hw.2]

theorem Line.reshape (h : Line ops W) (V : Valuation τ sig Val) (k : ℕ) {he : x.ty.elt = y.ty.elt}
    {hn : x.ty.shape.ShapeCasts y.ty.shape} {hx hy}
    (hk : ops[k]? = some (StableHlo.reshape x y he hn hx hy)) (hw : y ∉ W.drop (k + 1) ∧ x ∉ W.drop k) :
    after ops V y = fun i => he ▸ shapeCast y.ty.shape (after ops V x) hn i := by
  rw [h.at V k hk hw.1, reshape_result, h.before V k hw.2]

theorem Line.binary (h : Line ops W) (V : Valuation τ sig Val) (k : ℕ)
    {f : a.ty.Contents Val → b.ty.Contents Val → y.ty.Contents Val} {ha hb hy}
    (hk : ops[k]? = some (StableHlo.binary a b y f ha hb hy)) (hw : y ∉ W.drop (k + 1) ∧ a ∉ W.drop k ∧ b ∉ W.drop k) :
    after ops V y = f (after ops V a) (after ops V b) := by
  rw [h.at V k hk hw.1, binary_result, h.before V k hw.2.1, h.before V k hw.2.2]

theorem Line.ternary (h : Line ops W) (V : Valuation τ sig Val) (k : ℕ)
    {f : c.ty.Contents Val → a.ty.Contents Val → b.ty.Contents Val → y.ty.Contents Val} {hc ha hb hy}
    (hk : ops[k]? = some (StableHlo.ternary c a b y f hc ha hb hy))
    (hw : y ∉ W.drop (k + 1) ∧ c ∉ W.drop k ∧ a ∉ W.drop k ∧ b ∉ W.drop k) :
    after ops V y = f (after ops V c) (after ops V a) (after ops V b) := by
  rw [h.at V k hk hw.1, ternary_result, h.before V k hw.2.1, h.before V k hw.2.2.1, h.before V k hw.2.2.2]

theorem Line.quaternary (h : Line ops W) (V : Valuation τ sig Val) (k : ℕ)
    {f : a.ty.Contents Val → b.ty.Contents Val → c.ty.Contents Val → e.ty.Contents Val → y.ty.Contents Val} {ha hb hc he hy}
    (hk : ops[k]? = some (StableHlo.quaternary a b c e y f ha hb hc he hy))
    (hw : y ∉ W.drop (k + 1) ∧ a ∉ W.drop k ∧ b ∉ W.drop k ∧ c ∉ W.drop k ∧ e ∉ W.drop k) :
    after ops V y = f (after ops V a) (after ops V b) (after ops V c) (after ops V e) := by
  rw [h.at V k hk hw.1, quaternary_result, h.before V k hw.2.1, h.before V k hw.2.2.1, h.before V k hw.2.2.2.1,
    h.before V k hw.2.2.2.2]

theorem Line.nary (h : Line ops W) (V : Valuation τ sig Val) (k : ℕ) {n : Nat} {xs : Fin n → Ref sig .tc}
    {f : ((k : Fin n) → (xs k).ty.Contents Val) → y.ty.Contents Val} {hxs hy}
    (hk : ops[k]? = some (StableHlo.nary xs y f hxs hy)) (hw : y ∉ W.drop (k + 1) ∧ ∀ j, xs j ∉ W.drop k) :
    after ops V y = f fun j => after ops V (xs j) := by
  rw [h.at V k hk hw.1, nary_result]; congr 1; funext j; exact h.before V k (hw.2 j)

theorem Line.unaryIndexed (h : Line ops W) (V : Valuation τ sig Val) (k : ℕ) {n : Nat} {ix : Fin n → Ref sig .tc} {T : BufTy}
    {f : a.ty.Contents Val → (Fin n → T.Contents Val) → y.ty.Contents Val} {hT ha hix hy}
    (hk : ops[k]? = some (StableHlo.unaryIndexed a ix T y f hT ha hix hy))
    (hw : y ∉ W.drop (k + 1) ∧ a ∉ W.drop k ∧ ∀ j, ix j ∉ W.drop k) :
    after ops V y = f (after ops V a) fun j => cast (congrArg (fun U : BufTy => U.Contents Val) (hT j)) (after ops V (ix j)) := by
  rw [h.at V k hk hw.1, unaryIndexed_result, h.before V k hw.2.1]; congr 1; funext j; rw [h.before V k (hw.2.2 j)]

theorem Line.binaryIndexed (h : Line ops W) (V : Valuation τ sig Val) (k : ℕ) {n : Nat} {ix : Fin n → Ref sig .tc} {T : BufTy}
    {f : a.ty.Contents Val → b.ty.Contents Val → (Fin n → T.Contents Val) → y.ty.Contents Val} {hT ha hb hix hy}
    (hk : ops[k]? = some (StableHlo.binaryIndexed a b ix T y f hT ha hb hix hy))
    (hw : y ∉ W.drop (k + 1) ∧ a ∉ W.drop k ∧ b ∉ W.drop k ∧ ∀ j, ix j ∉ W.drop k) :
    after ops V y = f (after ops V a) (after ops V b)
      fun j => cast (congrArg (fun U : BufTy => U.Contents Val) (hT j)) (after ops V (ix j)) := by
  rw [h.at V k hk hw.1, binaryIndexed_result, h.before V k hw.2.1, h.before V k hw.2.2.1]; congr 1; funext j
  rw [h.before V k (hw.2.2.2 j)]

end Cert.Ssa

end
-- ==== Proof.RefOps.lean ====
/-
  The reference program's operations as lists: @main's before the loop, the loop's condition and body, and @main's after
  the loop, with the equations of the printed program and the chains of these lists.
-/
module

public import proofs.«01_k».proof.Proof.Gen.ReferenceIdeal
public import proofs.«01_k».proof.Proof.Ssa
public import Idealize.ShloMosaic.Lib.Pipeline.Regions
public import Idealize.ShloMosaic.Lib.StableHlo.RunLoop

@[expose] public section

set_option maxRecDepth 4000
set_option maxHeartbeats 4000000

noncomputable section

namespace Cert.ReferenceIdeal.Hand

open Cert.ReferenceIdeal Cert.ReferenceIdeal.Gen
open Idealize.ShloMosaic Idealize.ShloMosaic.TcCoe Idealize.ShloMosaic.StableHlo
open Idealize.SL.Sem

variable {F : FTy → Type} [FloatOps F]

/-- 60 operations of @main, in order. -/
abbrev mainOps0 : List (HloOp τ sig (Elt F)) :=
  ( StableHlo.nullary main_cst (constant S_ .f32 0xFF800000#32)
  :: StableHlo.binary main_arg0 main_cst main_v0 ((fun x v => Host.reduce FloatOps.maximumf x v reducesTo_S20000x81_S20000_d1 h_S_) : (⟨S20000x81, .f32⟩ : BufTy).Contents (Elt F) → (⟨S_, .f32⟩ : BufTy).Contents (Elt F) → (⟨S20000, .f32⟩ : BufTy).Contents (Elt F))
  :: StableHlo.nullary main_cst_0 (constant S_ .f32 0xFF800000#32)
  :: StableHlo.unary main_cst_0 main_v1 (broadcastInDim S20000 ![] bcast_S_S20000 : (⟨S_, .f32⟩ : BufTy).Contents (Elt F) → (⟨S20000, .f32⟩ : BufTy).Contents (Elt F))
  :: StableHlo.binary main_v1 main_v0 main_v2 (maximumf : (⟨S20000, .f32⟩ : BufTy).Contents (Elt F) → (⟨S20000, .f32⟩ : BufTy).Contents (Elt F) → (⟨S20000, .f32⟩ : BufTy).Contents (Elt F))
  :: StableHlo.unary main_v2 main_v3 (broadcastInDim S20000x1 ![0] bcast_S20000_S20000x1_0 : (⟨S20000, .f32⟩ : BufTy).Contents (Elt F) → (⟨S20000x1, .f32⟩ : BufTy).Contents (Elt F))
  :: StableHlo.unary main_v3 main_v4 (broadcastInDim S20000x81 ![0, 1] bcast_S20000x1_S20000x81_0_1 : (⟨S20000x1, .f32⟩ : BufTy).Contents (Elt F) → (⟨S20000x81, .f32⟩ : BufTy).Contents (Elt F))
  :: StableHlo.binary main_arg0 main_v4 main_v5 (subf : (⟨S20000x81, .f32⟩ : BufTy).Contents (Elt F) → (⟨S20000x81, .f32⟩ : BufTy).Contents (Elt F) → (⟨S20000x81, .f32⟩ : BufTy).Contents (Elt F))
  :: StableHlo.unary main_v5 main_v6 (Host.exp : (⟨S20000x81, .f32⟩ : BufTy).Contents (Elt F) → (⟨S20000x81, .f32⟩ : BufTy).Contents (Elt F))
  :: StableHlo.nullary main_cst_1 (constant S_ .f32 0x00000000#32)
  :: StableHlo.binary main_v6 main_cst_1 main_v7 ((fun x v => Host.reduceAdd x v reducesTo_S20000x81_S20000_d1 h_S_) : (⟨S20000x81, .f32⟩ : BufTy).Contents (Elt F) → (⟨S_, .f32⟩ : BufTy).Contents (Elt F) → (⟨S20000, .f32⟩ : BufTy).Contents (Elt F))
  :: StableHlo.unary main_v7 main_v8 (broadcastInDim S20000x1 ![0] bcast_S20000_S20000x1_0 : (⟨S20000, .f32⟩ : BufTy).Contents (Elt F) → (⟨S20000x1, .f32⟩ : BufTy).Contents (Elt F))
  :: StableHlo.unary main_v8 main_v9 (broadcastInDim S20000x81 ![0, 1] bcast_S20000x1_S20000x81_0_1 : (⟨S20000x1, .f32⟩ : BufTy).Contents (Elt F) → (⟨S20000x81, .f32⟩ : BufTy).Contents (Elt F))
  :: StableHlo.binary main_v6 main_v9 main_v10 (Host.divf : (⟨S20000x81, .f32⟩ : BufTy).Contents (Elt F) → (⟨S20000x81, .f32⟩ : BufTy).Contents (Elt F) → (⟨S20000x81, .f32⟩ : BufTy).Contents (Elt F))
  :: StableHlo.unary main_arg1 main_v11 ((extractStridedSlice S20000x320 ![0, 4] · slices_S20000x324_S20000x320_0_4) : (⟨S20000x324, .f32⟩ : BufTy).Contents (Elt F) → (⟨S20000x320, .f32⟩ : BufTy).Contents (Elt F))
  :: StableHlo.reshape main_v11 main_v12 (rfl : (.f32 : EltTy) = .f32) shapeCasts_S20000x320_S1600000x4
  :: StableHlo.unary main_arg2 main_v13 (broadcastInDim S20000x1x4 ![0, 2] bcast_S20000x4_S20000x1x4_0_2 : (⟨S20000x4, .f32⟩ : BufTy).Contents (Elt F) → (⟨S20000x1x4, .f32⟩ : BufTy).Contents (Elt F))
  :: StableHlo.unary main_v13 main_v14 (broadcastInDim S20000x80x4 ![0, 1, 2] bcast_S20000x1x4_S20000x80x4_0_1_2 : (⟨S20000x1x4, .f32⟩ : BufTy).Contents (Elt F) → (⟨S20000x80x4, .f32⟩ : BufTy).Contents (Elt F))
  :: StableHlo.reshape main_v14 main_v15 (rfl : (.f32 : EltTy) = .f32) shapeCasts_S20000x80x4_S1600000x4
  :: StableHlo.unary main_v15 main_v16 ((extractStridedSlice S1600000x1 ![0, 2] · slices_S1600000x4_S1600000x1_0_2) : (⟨S1600000x4, .f32⟩ : BufTy).Contents (Elt F) → (⟨S1600000x1, .f32⟩ : BufTy).Contents (Elt F))
  :: StableHlo.reshape main_v16 main_v17 (rfl : (.f32 : EltTy) = .f32) shapeCasts_S1600000x1_S1600000
  :: StableHlo.unary main_v15 main_v18 ((extractStridedSlice S1600000x1 ![0, 0] · slices_S1600000x4_S1600000x1_0_0) : (⟨S1600000x4, .f32⟩ : BufTy).Contents (Elt F) → (⟨S1600000x1, .f32⟩ : BufTy).Contents (Elt F))
  :: StableHlo.reshape main_v18 main_v19 (rfl : (.f32 : EltTy) = .f32) shapeCasts_S1600000x1_S1600000
  :: StableHlo.binary main_v17 main_v19 main_v20 (subf : (⟨S1600000, .f32⟩ : BufTy).Contents (Elt F) → (⟨S1600000, .f32⟩ : BufTy).Contents (Elt F) → (⟨S1600000, .f32⟩ : BufTy).Contents (Elt F))
  :: StableHlo.unary main_v15 main_v21 ((extractStridedSlice S1600000x1 ![0, 3] · slices_S1600000x4_S1600000x1_0_3) : (⟨S1600000x4, .f32⟩ : BufTy).Contents (Elt F) → (⟨S1600000x1, .f32⟩ : BufTy).Contents (Elt F))
  :: StableHlo.reshape main_v21 main_v22 (rfl : (.f32 : EltTy) = .f32) shapeCasts_S1600000x1_S1600000
  :: StableHlo.unary main_v15 main_v23 ((extractStridedSlice S1600000x1 ![0, 1] · slices_S1600000x4_S1600000x1_0_1) : (⟨S1600000x4, .f32⟩ : BufTy).Contents (Elt F) → (⟨S1600000x1, .f32⟩ : BufTy).Contents (Elt F))
  :: StableHlo.reshape main_v23 main_v24 (rfl : (.f32 : EltTy) = .f32) shapeCasts_S1600000x1_S1600000
  :: StableHlo.binary main_v22 main_v24 main_v25 (subf : (⟨S1600000, .f32⟩ : BufTy).Contents (Elt F) → (⟨S1600000, .f32⟩ : BufTy).Contents (Elt F) → (⟨S1600000, .f32⟩ : BufTy).Contents (Elt F))
  :: StableHlo.unary main_v15 main_v26 ((extractStridedSlice S1600000x1 ![0, 0] · slices_S1600000x4_S1600000x1_0_0) : (⟨S1600000x4, .f32⟩ : BufTy).Contents (Elt F) → (⟨S1600000x1, .f32⟩ : BufTy).Contents (Elt F))
  :: StableHlo.reshape main_v26 main_v27 (rfl : (.f32 : EltTy) = .f32) shapeCasts_S1600000x1_S1600000
  :: StableHlo.nullary main_cst_2 (constant S_ .f32 0x3F000000#32)
  :: StableHlo.unary main_cst_2 main_v28 (broadcastInDim S1600000 ![] bcast_S_S1600000 : (⟨S_, .f32⟩ : BufTy).Contents (Elt F) → (⟨S1600000, .f32⟩ : BufTy).Contents (Elt F))
  :: StableHlo.binary main_v28 main_v20 main_v29 (mulf : (⟨S1600000, .f32⟩ : BufTy).Contents (Elt F) → (⟨S1600000, .f32⟩ : BufTy).Contents (Elt F) → (⟨S1600000, .f32⟩ : BufTy).Contents (Elt F))
  :: StableHlo.binary main_v27 main_v29 main_v30 (addf : (⟨S1600000, .f32⟩ : BufTy).Contents (Elt F) → (⟨S1600000, .f32⟩ : BufTy).Contents (Elt F) → (⟨S1600000, .f32⟩ : BufTy).Contents (Elt F))
  :: StableHlo.unary main_v15 main_v31 ((extractStridedSlice S1600000x1 ![0, 1] · slices_S1600000x4_S1600000x1_0_1) : (⟨S1600000x4, .f32⟩ : BufTy).Contents (Elt F) → (⟨S1600000x1, .f32⟩ : BufTy).Contents (Elt F))
  :: StableHlo.reshape main_v31 main_v32 (rfl : (.f32 : EltTy) = .f32) shapeCasts_S1600000x1_S1600000
  :: StableHlo.nullary main_cst_3 (constant S_ .f32 0x3F000000#32)
  :: StableHlo.unary main_cst_3 main_v33 (broadcastInDim S1600000 ![] bcast_S_S1600000 : (⟨S_, .f32⟩ : BufTy).Contents (Elt F) → (⟨S1600000, .f32⟩ : BufTy).Contents (Elt F))
  :: StableHlo.binary main_v33 main_v25 main_v34 (mulf : (⟨S1600000, .f32⟩ : BufTy).Contents (Elt F) → (⟨S1600000, .f32⟩ : BufTy).Contents (Elt F) → (⟨S1600000, .f32⟩ : BufTy).Contents (Elt F))
  :: StableHlo.binary main_v32 main_v34 main_v35 (addf : (⟨S1600000, .f32⟩ : BufTy).Contents (Elt F) → (⟨S1600000, .f32⟩ : BufTy).Contents (Elt F) → (⟨S1600000, .f32⟩ : BufTy).Contents (Elt F))
  :: StableHlo.unary main_v12 main_v36 ((extractStridedSlice S1600000x1 ![0, 0] · slices_S1600000x4_S1600000x1_0_0) : (⟨S1600000x4, .f32⟩ : BufTy).Contents (Elt F) → (⟨S1600000x1, .f32⟩ : BufTy).Contents (Elt F))
  :: StableHlo.reshape main_v36 main_v37 (rfl : (.f32 : EltTy) = .f32) shapeCasts_S1600000x1_S1600000
  :: StableHlo.unary main_v12 main_v38 ((extractStridedSlice S1600000x1 ![0, 1] · slices_S1600000x4_S1600000x1_0_1) : (⟨S1600000x4, .f32⟩ : BufTy).Contents (Elt F) → (⟨S1600000x1, .f32⟩ : BufTy).Contents (Elt F))
  :: StableHlo.reshape main_v38 main_v39 (rfl : (.f32 : EltTy) = .f32) shapeCasts_S1600000x1_S1600000
  :: StableHlo.unary main_v12 main_v40 ((extractStridedSlice S1600000x1 ![0, 2] · slices_S1600000x4_S1600000x1_0_2) : (⟨S1600000x4, .f32⟩ : BufTy).Contents (Elt F) → (⟨S1600000x1, .f32⟩ : BufTy).Contents (Elt F))
  :: StableHlo.reshape main_v40 main_v41 (rfl : (.f32 : EltTy) = .f32) shapeCasts_S1600000x1_S1600000
  :: StableHlo.unary main_v12 main_v42 ((extractStridedSlice S1600000x1 ![0, 3] · slices_S1600000x4_S1600000x1_0_3) : (⟨S1600000x4, .f32⟩ : BufTy).Contents (Elt F) → (⟨S1600000x1, .f32⟩ : BufTy).Contents (Elt F))
  :: StableHlo.reshape main_v42 main_v43 (rfl : (.f32 : EltTy) = .f32) shapeCasts_S1600000x1_S1600000
  :: StableHlo.nullary main_cst_4 (constant S_ .f32 0x40845349#32)
  :: StableHlo.unary main_cst_4 main_v44 (broadcastInDim S1600000 ![] bcast_S_S1600000 : (⟨S_, .f32⟩ : BufTy).Contents (Elt F) → (⟨S1600000, .f32⟩ : BufTy).Contents (Elt F))
  :: StableHlo.binary main_v41 main_v44 main_v45 (minimumf : (⟨S1600000, .f32⟩ : BufTy).Contents (Elt F) → (⟨S1600000, .f32⟩ : BufTy).Contents (Elt F) → (⟨S1600000, .f32⟩ : BufTy).Contents (Elt F))
  :: StableHlo.nullary main_cst_5 (constant S_ .f32 0x40845349#32)
  :: StableHlo.unary main_cst_5 main_v46 (broadcastInDim S1600000 ![] bcast_S_S1600000 : (⟨S_, .f32⟩ : BufTy).Contents (Elt F) → (⟨S1600000, .f32⟩ : BufTy).Contents (Elt F))
  :: StableHlo.binary main_v43 main_v46 main_v47 (minimumf : (⟨S1600000, .f32⟩ : BufTy).Contents (Elt F) → (⟨S1600000, .f32⟩ : BufTy).Contents (Elt F) → (⟨S1600000, .f32⟩ : BufTy).Contents (Elt F))
  :: StableHlo.binary main_v37 main_v20 main_v48 (mulf : (⟨S1600000, .f32⟩ : BufTy).Contents (Elt F) → (⟨S1600000, .f32⟩ : BufTy).Contents (Elt F) → (⟨S1600000, .f32⟩ : BufTy).Contents (Elt F))
  :: StableHlo.binary main_v48 main_v30 main_v49 (addf : (⟨S1600000, .f32⟩ : BufTy).Contents (Elt F) → (⟨S1600000, .f32⟩ : BufTy).Contents (Elt F) → (⟨S1600000, .f32⟩ : BufTy).Contents (Elt F))
  :: StableHlo.binary main_v39 main_v25 main_v50 (mulf : (⟨S1600000, .f32⟩ : BufTy).Contents (Elt F) → (⟨S1600000, .f32⟩ : BufTy).Contents (Elt F) → (⟨S1600000, .f32⟩ : BufTy).Contents (Elt F))
  :: StableHlo.binary main_v50 main_v35 main_v51 (addf : (⟨S1600000, .f32⟩ : BufTy).Contents (Elt F) → (⟨S1600000, .f32⟩ : BufTy).Contents (Elt F) → (⟨S1600000, .f32⟩ : BufTy).Contents (Elt F))
  :: StableHlo.unary main_v45 main_v52 (Host.exp : (⟨S1600000, .f32⟩ : BufTy).Contents (Elt F) → (⟨S1600000, .f32⟩ : BufTy).Contents (Elt F))
  :: [] )
theorem mainOps0_sub : (mainOps0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub ..⟩
theorem mainOps0_fresh : (mainOps0 : List (HloOp τ sig (Elt F))).Forall fun op => op.fresh = ∅ := StableHlo.forall_fresh_of_map rfl

/-- 52 operations of @main, in order. -/
abbrev mainOps1 : List (HloOp τ sig (Elt F)) :=
  ( StableHlo.binary main_v52 main_v20 main_v53 (mulf : (⟨S1600000, .f32⟩ : BufTy).Contents (Elt F) → (⟨S1600000, .f32⟩ : BufTy).Contents (Elt F) → (⟨S1600000, .f32⟩ : BufTy).Contents (Elt F))
  :: StableHlo.unary main_v47 main_v54 (Host.exp : (⟨S1600000, .f32⟩ : BufTy).Contents (Elt F) → (⟨S1600000, .f32⟩ : BufTy).Contents (Elt F))
  :: StableHlo.binary main_v54 main_v25 main_v55 (mulf : (⟨S1600000, .f32⟩ : BufTy).Contents (Elt F) → (⟨S1600000, .f32⟩ : BufTy).Contents (Elt F) → (⟨S1600000, .f32⟩ : BufTy).Contents (Elt F))
  :: StableHlo.nullary main_cst_6 (constant S_ .f32 0x3F000000#32)
  :: StableHlo.unary main_cst_6 main_v56 (broadcastInDim S1600000 ![] bcast_S_S1600000 : (⟨S_, .f32⟩ : BufTy).Contents (Elt F) → (⟨S1600000, .f32⟩ : BufTy).Contents (Elt F))
  :: StableHlo.binary main_v56 main_v53 main_v57 (mulf : (⟨S1600000, .f32⟩ : BufTy).Contents (Elt F) → (⟨S1600000, .f32⟩ : BufTy).Contents (Elt F) → (⟨S1600000, .f32⟩ : BufTy).Contents (Elt F))
  :: StableHlo.binary main_v49 main_v57 main_v58 (subf : (⟨S1600000, .f32⟩ : BufTy).Contents (Elt F) → (⟨S1600000, .f32⟩ : BufTy).Contents (Elt F) → (⟨S1600000, .f32⟩ : BufTy).Contents (Elt F))
  :: StableHlo.nullary main_cst_7 (constant S_ .f32 0x3F000000#32)
  :: StableHlo.unary main_cst_7 main_v59 (broadcastInDim S1600000 ![] bcast_S_S1600000 : (⟨S_, .f32⟩ : BufTy).Contents (Elt F) → (⟨S1600000, .f32⟩ : BufTy).Contents (Elt F))
  :: StableHlo.binary main_v59 main_v55 main_v60 (mulf : (⟨S1600000, .f32⟩ : BufTy).Contents (Elt F) → (⟨S1600000, .f32⟩ : BufTy).Contents (Elt F) → (⟨S1600000, .f32⟩ : BufTy).Contents (Elt F))
  :: StableHlo.binary main_v51 main_v60 main_v61 (subf : (⟨S1600000, .f32⟩ : BufTy).Contents (Elt F) → (⟨S1600000, .f32⟩ : BufTy).Contents (Elt F) → (⟨S1600000, .f32⟩ : BufTy).Contents (Elt F))
  :: StableHlo.nullary main_cst_8 (constant S_ .f32 0x3F000000#32)
  :: StableHlo.unary main_cst_8 main_v62 (broadcastInDim S1600000 ![] bcast_S_S1600000 : (⟨S_, .f32⟩ : BufTy).Contents (Elt F) → (⟨S1600000, .f32⟩ : BufTy).Contents (Elt F))
  :: StableHlo.binary main_v62 main_v53 main_v63 (mulf : (⟨S1600000, .f32⟩ : BufTy).Contents (Elt F) → (⟨S1600000, .f32⟩ : BufTy).Contents (Elt F) → (⟨S1600000, .f32⟩ : BufTy).Contents (Elt F))
  :: StableHlo.binary main_v49 main_v63 main_v64 (addf : (⟨S1600000, .f32⟩ : BufTy).Contents (Elt F) → (⟨S1600000, .f32⟩ : BufTy).Contents (Elt F) → (⟨S1600000, .f32⟩ : BufTy).Contents (Elt F))
  :: StableHlo.nullary main_cst_9 (constant S_ .f32 0x3F000000#32)
  :: StableHlo.unary main_cst_9 main_v65 (broadcastInDim S1600000 ![] bcast_S_S1600000 : (⟨S_, .f32⟩ : BufTy).Contents (Elt F) → (⟨S1600000, .f32⟩ : BufTy).Contents (Elt F))
  :: StableHlo.binary main_v65 main_v55 main_v66 (mulf : (⟨S1600000, .f32⟩ : BufTy).Contents (Elt F) → (⟨S1600000, .f32⟩ : BufTy).Contents (Elt F) → (⟨S1600000, .f32⟩ : BufTy).Contents (Elt F))
  :: StableHlo.binary main_v51 main_v66 main_v67 (addf : (⟨S1600000, .f32⟩ : BufTy).Contents (Elt F) → (⟨S1600000, .f32⟩ : BufTy).Contents (Elt F) → (⟨S1600000, .f32⟩ : BufTy).Contents (Elt F))
  :: StableHlo.unary main_v58 main_v68 (broadcastInDim S1600000x1 ![0] bcast_S1600000_S1600000x1_0 : (⟨S1600000, .f32⟩ : BufTy).Contents (Elt F) → (⟨S1600000x1, .f32⟩ : BufTy).Contents (Elt F))
  :: StableHlo.unary main_v61 main_v69 (broadcastInDim S1600000x1 ![0] bcast_S1600000_S1600000x1_0 : (⟨S1600000, .f32⟩ : BufTy).Contents (Elt F) → (⟨S1600000x1, .f32⟩ : BufTy).Contents (Elt F))
  :: StableHlo.unary main_v64 main_v70 (broadcastInDim S1600000x1 ![0] bcast_S1600000_S1600000x1_0 : (⟨S1600000, .f32⟩ : BufTy).Contents (Elt F) → (⟨S1600000x1, .f32⟩ : BufTy).Contents (Elt F))
  :: StableHlo.unary main_v67 main_v71 (broadcastInDim S1600000x1 ![0] bcast_S1600000_S1600000x1_0 : (⟨S1600000, .f32⟩ : BufTy).Contents (Elt F) → (⟨S1600000x1, .f32⟩ : BufTy).Contents (Elt F))
  :: StableHlo.nary ![main_v68, main_v69, main_v70, main_v71] main_v72 (fun u => (concatenate S1600000x4 1 [⟨S1600000x1, (u 0 : (⟨S1600000x1, .f32⟩ : BufTy).Contents (Elt F))⟩, ⟨S1600000x1, (u 1 : (⟨S1600000x1, .f32⟩ : BufTy).Contents (Elt F))⟩, ⟨S1600000x1, (u 2 : (⟨S1600000x1, .f32⟩ : BufTy).Contents (Elt F))⟩, ⟨S1600000x1, (u 3 : (⟨S1600000x1, .f32⟩ : BufTy).Contents (Elt F))⟩] concatenates_S1600000x1_S1600000x1_S1600000x1_S1600000x1_S1600000x4_d1 : (⟨S1600000x4, .f32⟩ : BufTy).Contents (Elt F)))
  :: StableHlo.unary main_v10 main_v73 ((extractStridedSlice S20000x80 ![0, 1] · slices_S20000x81_S20000x80_0_1) : (⟨S20000x81, .f32⟩ : BufTy).Contents (Elt F) → (⟨S20000x80, .f32⟩ : BufTy).Contents (Elt F))
  :: StableHlo.reshape main_v73 main_v74 (rfl : (.f32 : EltTy) = .f32) shapeCasts_S20000x80_S1600000
  :: StableHlo.nullary main_v75 (iotaInDim S80 32 0)
  :: StableHlo.nullary main_c (constantI S_ 32 1#32)
  :: StableHlo.unary main_c main_v76 (broadcastInDim S80 ![] bcast_S_S80 : (⟨S_, .i32⟩ : BufTy).Contents (Elt F) → (⟨S80, .i32⟩ : BufTy).Contents (Elt F))
  :: StableHlo.binary main_v76 main_v75 main_v77 (addi : (⟨S80, .i32⟩ : BufTy).Contents (Elt F) → (⟨S80, .i32⟩ : BufTy).Contents (Elt F) → (⟨S80, .i32⟩ : BufTy).Contents (Elt F))
  :: StableHlo.unary main_v77 main_v78 (broadcastInDim S1x80 ![1] bcast_S80_S1x80_1 : (⟨S80, .i32⟩ : BufTy).Contents (Elt F) → (⟨S1x80, .i32⟩ : BufTy).Contents (Elt F))
  :: StableHlo.unary main_v78 main_v79 (broadcastInDim S20000x80 ![0, 1] bcast_S1x80_S20000x80_0_1 : (⟨S1x80, .i32⟩ : BufTy).Contents (Elt F) → (⟨S20000x80, .i32⟩ : BufTy).Contents (Elt F))
  :: StableHlo.reshape main_v79 main_v80 (rfl : (.i32 : EltTy) = .i32) shapeCasts_S20000x80_S1600000
  :: StableHlo.unary main_v72 main_v81 ((extractStridedSlice S1600000x1 ![0, 3] · slices_S1600000x4_S1600000x1_0_3) : (⟨S1600000x4, .f32⟩ : BufTy).Contents (Elt F) → (⟨S1600000x1, .f32⟩ : BufTy).Contents (Elt F))
  :: StableHlo.reshape main_v81 main_v82 (rfl : (.f32 : EltTy) = .f32) shapeCasts_S1600000x1_S1600000
  :: StableHlo.unary main_v72 main_v83 ((extractStridedSlice S1600000x1 ![0, 1] · slices_S1600000x4_S1600000x1_0_1) : (⟨S1600000x4, .f32⟩ : BufTy).Contents (Elt F) → (⟨S1600000x1, .f32⟩ : BufTy).Contents (Elt F))
  :: StableHlo.reshape main_v83 main_v84 (rfl : (.f32 : EltTy) = .f32) shapeCasts_S1600000x1_S1600000
  :: StableHlo.binary main_v82 main_v84 main_v85 (subf : (⟨S1600000, .f32⟩ : BufTy).Contents (Elt F) → (⟨S1600000, .f32⟩ : BufTy).Contents (Elt F) → (⟨S1600000, .f32⟩ : BufTy).Contents (Elt F))
  :: StableHlo.unary main_v72 main_v86 ((extractStridedSlice S1600000x1 ![0, 2] · slices_S1600000x4_S1600000x1_0_2) : (⟨S1600000x4, .f32⟩ : BufTy).Contents (Elt F) → (⟨S1600000x1, .f32⟩ : BufTy).Contents (Elt F))
  :: StableHlo.reshape main_v86 main_v87 (rfl : (.f32 : EltTy) = .f32) shapeCasts_S1600000x1_S1600000
  :: StableHlo.unary main_v72 main_v88 ((extractStridedSlice S1600000x1 ![0, 0] · slices_S1600000x4_S1600000x1_0_0) : (⟨S1600000x4, .f32⟩ : BufTy).Contents (Elt F) → (⟨S1600000x1, .f32⟩ : BufTy).Contents (Elt F))
  :: StableHlo.reshape main_v88 main_v89 (rfl : (.f32 : EltTy) = .f32) shapeCasts_S1600000x1_S1600000
  :: StableHlo.binary main_v87 main_v89 main_v90 (subf : (⟨S1600000, .f32⟩ : BufTy).Contents (Elt F) → (⟨S1600000, .f32⟩ : BufTy).Contents (Elt F) → (⟨S1600000, .f32⟩ : BufTy).Contents (Elt F))
  :: StableHlo.binary main_v85 main_v90 main_v91 (mulf : (⟨S1600000, .f32⟩ : BufTy).Contents (Elt F) → (⟨S1600000, .f32⟩ : BufTy).Contents (Elt F) → (⟨S1600000, .f32⟩ : BufTy).Contents (Elt F))
  :: StableHlo.nullary main_cst_10 (constant S_ .f32 0x3C23D70A#32)
  :: StableHlo.unary main_cst_10 main_v92 (broadcastInDim S1600000 ![] bcast_S_S1600000 : (⟨S_, .f32⟩ : BufTy).Contents (Elt F) → (⟨S1600000, .f32⟩ : BufTy).Contents (Elt F))
  :: StableHlo.binary main_v74 main_v92 main_v93 (cmpf .ogt : (⟨S1600000, .f32⟩ : BufTy).Contents (Elt F) → (⟨S1600000, .f32⟩ : BufTy).Contents (Elt F) → (⟨S1600000, .i1⟩ : BufTy).Contents (Elt F))
  :: StableHlo.nullary main_cst_11 (constant S_ .f32 0x3DCCCCCD#32)
  :: StableHlo.unary main_cst_11 main_v94 (broadcastInDim S1600000 ![] bcast_S_S1600000 : (⟨S_, .f32⟩ : BufTy).Contents (Elt F) → (⟨S1600000, .f32⟩ : BufTy).Contents (Elt F))
  :: StableHlo.binary main_v91 main_v94 main_v95 (cmpf .ogt : (⟨S1600000, .f32⟩ : BufTy).Contents (Elt F) → (⟨S1600000, .f32⟩ : BufTy).Contents (Elt F) → (⟨S1600000, .i1⟩ : BufTy).Contents (Elt F))
  :: StableHlo.binary main_v93 main_v95 main_v96 (andi : (⟨S1600000, .i1⟩ : BufTy).Contents (Elt F) → (⟨S1600000, .i1⟩ : BufTy).Contents (Elt F) → (⟨S1600000, .i1⟩ : BufTy).Contents (Elt F))
  :: StableHlo.nullary main_cst_12 (constant S_ .f32 0xBF800000#32)
  :: [] )
theorem mainOps1_sub : (mainOps1 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.nary_bufs_sub .., StableHlo.unary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩
theorem mainOps1_fresh : (mainOps1 : List (HloOp τ sig (Elt F))).Forall fun op => op.fresh = ∅ := StableHlo.forall_fresh_of_map rfl

/-- 3 operations of @main, the body of its call of `where`, in order. -/
abbrev mainOps2 : List (HloOp τ sig (Elt F)) :=
  ( StableHlo.unary main_cst_12 main_call0_v0 id
  :: StableHlo.unary main_call0_v0 main_call0_v1 ((broadcastInDim S1600000 ![] bcast_S_S1600000) : (⟨S_, .f32⟩ : BufTy).Contents (Elt F) → (⟨S1600000, .f32⟩ : BufTy).Contents (Elt F))
  :: StableHlo.ternary main_v96 main_v74 main_call0_v1 main_v97 (select : (⟨S1600000, .i1⟩ : BufTy).Contents (Elt F) → (⟨S1600000, .f32⟩ : BufTy).Contents (Elt F) → (⟨S1600000, .f32⟩ : BufTy).Contents (Elt F) → (⟨S1600000, .f32⟩ : BufTy).Contents (Elt F))
  :: [] )
theorem mainOps2_sub : (mainOps2 : List (HloOp τ sig (Elt F))).Forall fun op => op.bufs ⊆ StableHlo.tcRefs τ sig :=
  ⟨StableHlo.unary_bufs_sub .., StableHlo.unary_bufs_sub .., StableHlo.ternary_bufs_sub ..⟩
theorem mainOps2_fresh : (mainOps2 : List (HloOp τ sig (Elt F))).Forall fun op => op.fresh = ∅ := StableHlo.forall_fresh_of_map rfl

/-- 7 operations of @main, in order. -/
abbrev mainOps3 : List (HloOp τ sig (Elt F)) :=
  ( StableHlo.unary main_v97 main_values ((fun x => (Host.topK S1000 0 (FloatOps.cmpfTotal .gt) x sliceFits_S1600000_S1000).1) : (⟨S1600000, .f32⟩ : BufTy).Contents (Elt F) → (⟨S1000, .f32⟩ : BufTy).Contents (Elt F))
  :: StableHlo.unary main_v97 main_indices ((fun x => (Host.topK S1000 0 (FloatOps.cmpfTotal .gt) x sliceFits_S1600000_S1000).2) : (⟨S1600000, .f32⟩ : BufTy).Contents (Elt F) → (⟨S1000, .i32⟩ : BufTy).Contents (Elt F))
  :: StableHlo.nullary main_c_13 (constantI S_ 32 0#32)
  :: StableHlo.unary main_c_13 main_v98 (broadcastInDim S1000 ![] bcast_S_S1000 : (⟨S_, .i32⟩ : BufTy).Contents (Elt F) → (⟨S1000, .i32⟩ : BufTy).Contents (Elt F))
  :: StableHlo.binary main_indices main_v98 main_v99 (cmpi .slt : (⟨S1000, .i32⟩ : BufTy).Contents (Elt F) → (⟨S1000, .i32⟩ : BufTy).Contents (Elt F) → (⟨S1000, .i1⟩ : BufTy).Contents (Elt F))
  :: StableHlo.nullary main_c_14 (constantI S_ 32 1600000#32)
  :: StableHlo.unary main_c_14 main_v100 (broadcastInDim S1000 ![] bcast_S_S1000 : (⟨S_, .i32⟩ : BufTy).Contents (Elt F) → (⟨S1000, .i32⟩ : BufTy).Contents (Elt F))
  :: [] )
theorem mainOps3_sub : (mainOps3 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub ..⟩
theorem mainOps3_fresh : (mainOps3 : List (HloOp τ sig (Elt F))).Forall fun op => op.fresh = ∅ := StableHlo.forall_fresh_of_map rfl

/-- 48 operations of @main, in order. -/
abbrev mainOps4 : List (HloOp τ sig (Elt F)) :=
  ( StableHlo.binary main_indices main_v100 main_v101 (addi : (⟨S1000, .i32⟩ : BufTy).Contents (Elt F) → (⟨S1000, .i32⟩ : BufTy).Contents (Elt F) → (⟨S1000, .i32⟩ : BufTy).Contents (Elt F))
  :: StableHlo.ternary main_v99 main_v101 main_indices main_v102 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F))
  :: StableHlo.unary main_v102 main_v103 (broadcastInDim S1000x1 ![0] bcast_S1000_S1000x1_0 : (⟨S1000, .i32⟩ : BufTy).Contents (Elt F) → (⟨S1000x1, .i32⟩ : BufTy).Contents (Elt F))
  :: StableHlo.binary main_v72 main_v103 main_v104 ((fun x i => Host.gather gather_S1600000x4_S1000x1_S1000x4_1_0_n_n_0_1_14 x i) : (⟨S1600000x4, .f32⟩ : BufTy).Contents (Elt F) → (⟨S1000x1, .i32⟩ : BufTy).Contents (Elt F) → (⟨S1000x4, .f32⟩ : BufTy).Contents (Elt F))
  :: StableHlo.nullary main_c_15 (constantI S_ 32 0#32)
  :: StableHlo.unary main_c_15 main_v105 (broadcastInDim S1000 ![] bcast_S_S1000 : (⟨S_, .i32⟩ : BufTy).Contents (Elt F) → (⟨S1000, .i32⟩ : BufTy).Contents (Elt F))
  :: StableHlo.binary main_indices main_v105 main_v106 (cmpi .slt : (⟨S1000, .i32⟩ : BufTy).Contents (Elt F) → (⟨S1000, .i32⟩ : BufTy).Contents (Elt F) → (⟨S1000, .i1⟩ : BufTy).Contents (Elt F))
  :: StableHlo.nullary main_c_16 (constantI S_ 32 1600000#32)
  :: StableHlo.unary main_c_16 main_v107 (broadcastInDim S1000 ![] bcast_S_S1000 : (⟨S_, .i32⟩ : BufTy).Contents (Elt F) → (⟨S1000, .i32⟩ : BufTy).Contents (Elt F))
  :: StableHlo.binary main_indices main_v107 main_v108 (addi : (⟨S1000, .i32⟩ : BufTy).Contents (Elt F) → (⟨S1000, .i32⟩ : BufTy).Contents (Elt F) → (⟨S1000, .i32⟩ : BufTy).Contents (Elt F))
  :: StableHlo.ternary main_v106 main_v108 main_indices main_v109 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F))
  :: StableHlo.unary main_v109 main_v110 (broadcastInDim S1000x1 ![0] bcast_S1000_S1000x1_0 : (⟨S1000, .i32⟩ : BufTy).Contents (Elt F) → (⟨S1000x1, .i32⟩ : BufTy).Contents (Elt F))
  :: StableHlo.binary main_v80 main_v110 main_v111 ((fun x i => Host.gather gather_S1600000_S1000x1_S1000_n_0_n_n_0_1_1 x i) : (⟨S1600000, .i32⟩ : BufTy).Contents (Elt F) → (⟨S1000x1, .i32⟩ : BufTy).Contents (Elt F) → (⟨S1000, .i32⟩ : BufTy).Contents (Elt F))
  :: StableHlo.nullary main_cst_17 (constant S_ .f32 0xFF800000#32)
  :: StableHlo.binary main_v104 main_cst_17 main_v112 ((fun x v => Host.reduce FloatOps.maximumf x v reducesTo_S1000x4_S_d0_1 h_S_) : (⟨S1000x4, .f32⟩ : BufTy).Contents (Elt F) → (⟨S_, .f32⟩ : BufTy).Contents (Elt F) → (⟨S_, .f32⟩ : BufTy).Contents (Elt F))
  :: StableHlo.nullary main_cst_18 (constant S_ .f32 0x3F800000#32)
  :: StableHlo.binary main_v112 main_cst_18 main_v113 (addf : (⟨S_, .f32⟩ : BufTy).Contents (Elt F) → (⟨S_, .f32⟩ : BufTy).Contents (Elt F) → (⟨S_, .f32⟩ : BufTy).Contents (Elt F))
  :: StableHlo.unary main_v111 main_v114 (sitofp .f32 : (⟨S1000, .i32⟩ : BufTy).Contents (Elt F) → (⟨S1000, .f32⟩ : BufTy).Contents (Elt F))
  :: StableHlo.unary main_v113 main_v115 (broadcastInDim S1000 ![] bcast_S_S1000 : (⟨S_, .f32⟩ : BufTy).Contents (Elt F) → (⟨S1000, .f32⟩ : BufTy).Contents (Elt F))
  :: StableHlo.binary main_v114 main_v115 main_v116 (mulf : (⟨S1000, .f32⟩ : BufTy).Contents (Elt F) → (⟨S1000, .f32⟩ : BufTy).Contents (Elt F) → (⟨S1000, .f32⟩ : BufTy).Contents (Elt F))
  :: StableHlo.unary main_v116 main_v117 (broadcastInDim S1000x1 ![0] bcast_S1000_S1000x1_0 : (⟨S1000, .f32⟩ : BufTy).Contents (Elt F) → (⟨S1000x1, .f32⟩ : BufTy).Contents (Elt F))
  :: StableHlo.unary main_v117 main_v118 (broadcastInDim S1000x4 ![0, 1] bcast_S1000x1_S1000x4_0_1 : (⟨S1000x1, .f32⟩ : BufTy).Contents (Elt F) → (⟨S1000x4, .f32⟩ : BufTy).Contents (Elt F))
  :: StableHlo.binary main_v104 main_v118 main_v119 (addf : (⟨S1000x4, .f32⟩ : BufTy).Contents (Elt F) → (⟨S1000x4, .f32⟩ : BufTy).Contents (Elt F) → (⟨S1000x4, .f32⟩ : BufTy).Contents (Elt F))
  :: StableHlo.unary main_v119 main_v120 ((extractStridedSlice S1000x1 ![0, 0] · slices_S1000x4_S1000x1_0_0) : (⟨S1000x4, .f32⟩ : BufTy).Contents (Elt F) → (⟨S1000x1, .f32⟩ : BufTy).Contents (Elt F))
  :: StableHlo.reshape main_v120 main_v121 (rfl : (.f32 : EltTy) = .f32) shapeCasts_S1000x1_S1000
  :: StableHlo.unary main_v119 main_v122 ((extractStridedSlice S1000x1 ![0, 1] · slices_S1000x4_S1000x1_0_1) : (⟨S1000x4, .f32⟩ : BufTy).Contents (Elt F) → (⟨S1000x1, .f32⟩ : BufTy).Contents (Elt F))
  :: StableHlo.reshape main_v122 main_v123 (rfl : (.f32 : EltTy) = .f32) shapeCasts_S1000x1_S1000
  :: StableHlo.unary main_v119 main_v124 ((extractStridedSlice S1000x1 ![0, 2] · slices_S1000x4_S1000x1_0_2) : (⟨S1000x4, .f32⟩ : BufTy).Contents (Elt F) → (⟨S1000x1, .f32⟩ : BufTy).Contents (Elt F))
  :: StableHlo.reshape main_v124 main_v125 (rfl : (.f32 : EltTy) = .f32) shapeCasts_S1000x1_S1000
  :: StableHlo.unary main_v119 main_v126 ((extractStridedSlice S1000x1 ![0, 3] · slices_S1000x4_S1000x1_0_3) : (⟨S1000x4, .f32⟩ : BufTy).Contents (Elt F) → (⟨S1000x1, .f32⟩ : BufTy).Contents (Elt F))
  :: StableHlo.reshape main_v126 main_v127 (rfl : (.f32 : EltTy) = .f32) shapeCasts_S1000x1_S1000
  :: StableHlo.binary main_v125 main_v121 main_v128 (subf : (⟨S1000, .f32⟩ : BufTy).Contents (Elt F) → (⟨S1000, .f32⟩ : BufTy).Contents (Elt F) → (⟨S1000, .f32⟩ : BufTy).Contents (Elt F))
  :: StableHlo.binary main_v127 main_v123 main_v129 (subf : (⟨S1000, .f32⟩ : BufTy).Contents (Elt F) → (⟨S1000, .f32⟩ : BufTy).Contents (Elt F) → (⟨S1000, .f32⟩ : BufTy).Contents (Elt F))
  :: StableHlo.binary main_v128 main_v129 main_v130 (mulf : (⟨S1000, .f32⟩ : BufTy).Contents (Elt F) → (⟨S1000, .f32⟩ : BufTy).Contents (Elt F) → (⟨S1000, .f32⟩ : BufTy).Contents (Elt F))
  :: StableHlo.nullary main_c_19 (constantI S_ 32 0#32)
  :: StableHlo.unary main_c_19 main_v131 (broadcastInDim S100 ![] bcast_S_S100 : (⟨S_, .i32⟩ : BufTy).Contents (Elt F) → (⟨S100, .i32⟩ : BufTy).Contents (Elt F))
  :: StableHlo.nullary main_c_20 (constantI S_ 1 0#1)
  :: StableHlo.unary main_c_20 main_v132 (broadcastInDim S100 ![] bcast_S_S100 : (⟨S_, .i1⟩ : BufTy).Contents (Elt F) → (⟨S100, .i1⟩ : BufTy).Contents (Elt F))
  :: StableHlo.nullary main_c_21 (constantI S_ 32 0#32)
  :: StableHlo.unary main_v121 main_v133_0 id
  :: StableHlo.unary main_v123 main_v133_1 id
  :: StableHlo.unary main_v125 main_v133_2 id
  :: StableHlo.unary main_v127 main_v133_3 id
  :: StableHlo.unary main_v130 main_v133_4 id
  :: StableHlo.unary main_c_21 main_v133_5 id
  :: StableHlo.unary main_values main_v133_6 id
  :: StableHlo.unary main_v131 main_v133_7 id
  :: StableHlo.unary main_v132 main_v133_8 id
  :: [] )
theorem mainOps4_sub : (mainOps4 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem mainOps4_fresh : (mainOps4 : List (HloOp τ sig (Elt F))).Forall fun op => op.fresh = ∅ := StableHlo.forall_fresh_of_map rfl

/-- 11 operations of @main, in order. -/
abbrev mainOps5 : List (HloOp τ sig (Elt F)) :=
  ( StableHlo.unary main_v133_8 main_v134 (broadcastInDim S100x1 ![0] bcast_S100_S100x1_0 : (⟨S100, .i1⟩ : BufTy).Contents (Elt F) → (⟨S100x1, .i1⟩ : BufTy).Contents (Elt F))
  :: StableHlo.nullary main_c_22 (constantI S_ 32 0#32)
  :: StableHlo.unary main_c_22 main_v135 (broadcastInDim S100 ![] bcast_S_S100 : (⟨S_, .i32⟩ : BufTy).Contents (Elt F) → (⟨S100, .i32⟩ : BufTy).Contents (Elt F))
  :: StableHlo.binary main_v133_7 main_v135 main_v136 (cmpi .slt : (⟨S100, .i32⟩ : BufTy).Contents (Elt F) → (⟨S100, .i32⟩ : BufTy).Contents (Elt F) → (⟨S100, .i1⟩ : BufTy).Contents (Elt F))
  :: StableHlo.nullary main_c_23 (constantI S_ 32 1000#32)
  :: StableHlo.unary main_c_23 main_v137 (broadcastInDim S100 ![] bcast_S_S100 : (⟨S_, .i32⟩ : BufTy).Contents (Elt F) → (⟨S100, .i32⟩ : BufTy).Contents (Elt F))
  :: StableHlo.binary main_v133_7 main_v137 main_v138 (addi : (⟨S100, .i32⟩ : BufTy).Contents (Elt F) → (⟨S100, .i32⟩ : BufTy).Contents (Elt F) → (⟨S100, .i32⟩ : BufTy).Contents (Elt F))
  :: StableHlo.ternary main_v136 main_v138 main_v133_7 main_v139 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v139 main_v140 (broadcastInDim S100x1 ![0] bcast_S100_S100x1_0 : (⟨S100, .i32⟩ : BufTy).Contents (Elt F) → (⟨S100x1, .i32⟩ : BufTy).Contents (Elt F))
  :: StableHlo.binary main_v104 main_v140 main_v141 ((fun x i => Host.gather gather_S1000x4_S100x1_S100x4_1_0_n_n_0_1_14 x i) : (⟨S1000x4, .f32⟩ : BufTy).Contents (Elt F) → (⟨S100x1, .i32⟩ : BufTy).Contents (Elt F) → (⟨S100x4, .f32⟩ : BufTy).Contents (Elt F))
  :: StableHlo.nullary main_cst_24 (constant S_ .f32 0x00000000#32)
  :: [] )
theorem mainOps5_sub : (mainOps5 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem mainOps5_fresh : (mainOps5 : List (HloOp τ sig (Elt F))).Forall fun op => op.fresh = ∅ := StableHlo.forall_fresh_of_map rfl

/-- 4 operations of @main, the body of its call of `where_2`, in order. -/
abbrev mainOps6 : List (HloOp τ sig (Elt F)) :=
  ( StableHlo.unary main_cst_24 main_call7_v0 id
  :: StableHlo.unary main_v134 main_call7_v1 ((broadcastInDim S100x4 ![0, 1] bcast_S100x1_S100x4_0_1) : (⟨S100x1, .i1⟩ : BufTy).Contents (Elt F) → (⟨S100x4, .i1⟩ : BufTy).Contents (Elt F))
  :: StableHlo.unary main_call7_v0 main_call7_v2 ((broadcastInDim S100x4 ![] bcast_S_S100x4) : (⟨S_, .f32⟩ : BufTy).Contents (Elt F) → (⟨S100x4, .f32⟩ : BufTy).Contents (Elt F))
  :: StableHlo.ternary main_call7_v1 main_v141 main_call7_v2 main_v142 (select : (⟨S100x4, .i1⟩ : BufTy).Contents (Elt F) → (⟨S100x4, .f32⟩ : BufTy).Contents (Elt F) → (⟨S100x4, .f32⟩ : BufTy).Contents (Elt F) → (⟨S100x4, .f32⟩ : BufTy).Contents (Elt F))
  :: [] )
theorem mainOps6_sub : (mainOps6 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem mainOps6_fresh : (mainOps6 : List (HloOp τ sig (Elt F))).Forall fun op => op.fresh = ∅ := StableHlo.forall_fresh_of_map rfl

/-- 10 operations of @main, in order. -/
abbrev mainOps7 : List (HloOp τ sig (Elt F)) :=
  ( StableHlo.nullary main_c_25 (constantI S_ 32 0#32)
  :: StableHlo.unary main_c_25 main_v143 (broadcastInDim S100 ![] bcast_S_S100 : (⟨S_, .i32⟩ : BufTy).Contents (Elt F) → (⟨S100, .i32⟩ : BufTy).Contents (Elt F))
  :: StableHlo.binary main_v133_7 main_v143 main_v144 (cmpi .slt : (⟨S100, .i32⟩ : BufTy).Contents (Elt F) → (⟨S100, .i32⟩ : BufTy).Contents (Elt F) → (⟨S100, .i1⟩ : BufTy).Contents (Elt F))
  :: StableHlo.nullary main_c_26 (constantI S_ 32 1000#32)
  :: StableHlo.unary main_c_26 main_v145 (broadcastInDim S100 ![] bcast_S_S100 : (⟨S_, .i32⟩ : BufTy).Contents (Elt F) → (⟨S100, .i32⟩ : BufTy).Contents (Elt F))
  :: StableHlo.binary main_v133_7 main_v145 main_v146 (addi : (⟨S100, .i32⟩ : BufTy).Contents (Elt F) → (⟨S100, .i32⟩ : BufTy).Contents (Elt F) → (⟨S100, .i32⟩ : BufTy).Contents (Elt F))
  :: StableHlo.ternary main_v144 main_v146 main_v133_7 main_v147 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v147 main_v148 (broadcastInDim S100x1 ![0] bcast_S100_S100x1_0 : (⟨S100, .i32⟩ : BufTy).Contents (Elt F) → (⟨S100x1, .i32⟩ : BufTy).Contents (Elt F))
  :: StableHlo.binary main_values main_v148 main_v149 ((fun x i => Host.gather gather_S1000_S100x1_S100_n_0_n_n_0_1_1 x i) : (⟨S1000, .f32⟩ : BufTy).Contents (Elt F) → (⟨S100x1, .i32⟩ : BufTy).Contents (Elt F) → (⟨S100, .f32⟩ : BufTy).Contents (Elt F))
  :: StableHlo.nullary main_cst_27 (constant S_ .f32 0x00000000#32)
  :: [] )
theorem mainOps7_sub : (mainOps7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem mainOps7_fresh : (mainOps7 : List (HloOp τ sig (Elt F))).Forall fun op => op.fresh = ∅ := StableHlo.forall_fresh_of_map rfl

/-- 3 operations of @main, the body of its call of `where_3`, in order. -/
abbrev mainOps8 : List (HloOp τ sig (Elt F)) :=
  ( StableHlo.unary main_cst_27 main_call8_v0 id
  :: StableHlo.unary main_call8_v0 main_call8_v1 ((broadcastInDim S100 ![] bcast_S_S100) : (⟨S_, .f32⟩ : BufTy).Contents (Elt F) → (⟨S100, .f32⟩ : BufTy).Contents (Elt F))
  :: StableHlo.ternary main_v133_8 main_v149 main_call8_v1 main_v150 (select : (⟨S100, .i1⟩ : BufTy).Contents (Elt F) → (⟨S100, .f32⟩ : BufTy).Contents (Elt F) → (⟨S100, .f32⟩ : BufTy).Contents (Elt F) → (⟨S100, .f32⟩ : BufTy).Contents (Elt F))
  :: [] )
theorem mainOps8_sub : (mainOps8 : List (HloOp τ sig (Elt F))).Forall fun op => op.bufs ⊆ StableHlo.tcRefs τ sig :=
  ⟨StableHlo.unary_bufs_sub .., StableHlo.unary_bufs_sub .., StableHlo.ternary_bufs_sub ..⟩
theorem mainOps8_fresh : (mainOps8 : List (HloOp τ sig (Elt F))).Forall fun op => op.fresh = ∅ := StableHlo.forall_fresh_of_map rfl

/-- 2 operations of @main, in order. -/
abbrev mainOps9 : List (HloOp τ sig (Elt F)) :=
  ( StableHlo.unary main_v150 main_v151 (broadcastInDim S100x1 ![0] bcast_S100_S100x1_0 : (⟨S100, .f32⟩ : BufTy).Contents (Elt F) → (⟨S100x1, .f32⟩ : BufTy).Contents (Elt F))
  :: StableHlo.binary main_v142 main_v151 main_v152 ((fun a b => concatenate S100x5 1 [⟨S100x4, a⟩, ⟨S100x1, b⟩] concatenates_S100x4_S100x1_S100x5_d1) : (⟨S100x4, .f32⟩ : BufTy).Contents (Elt F) → (⟨S100x1, .f32⟩ : BufTy).Contents (Elt F) → (⟨S100x5, .f32⟩ : BufTy).Contents (Elt F))
  :: [] )
theorem mainOps9_sub : (mainOps9 : List (HloOp τ sig (Elt F))).Forall fun op => op.bufs ⊆ StableHlo.tcRefs τ sig :=
  ⟨StableHlo.unary_bufs_sub .., StableHlo.binary_bufs_sub ..⟩
theorem mainOps9_fresh : (mainOps9 : List (HloOp τ sig (Elt F))).Forall fun op => op.fresh = ∅ := StableHlo.forall_fresh_of_map rfl

/-- 5 operations of the loop's body, the body of its call of `argmax`, in order. -/
abbrev tripOps0 : List (HloOp τ sig (Elt F)) :=
  ( StableHlo.nullary main_while0b_call1_v0 ((iotaInDim S1000 32 0) : (⟨S1000, .i32⟩ : BufTy).Contents (Elt F))
  :: StableHlo.nullary main_while0b_call1_cst ((constant S_ .f32 0xFF800000#32) : (⟨S_, .f32⟩ : BufTy).Contents (Elt F))
  :: StableHlo.nullary main_while0b_call1_c ((constantI S_ 32 0#32) : (⟨S_, .i32⟩ : BufTy).Contents (Elt F))
  :: StableHlo.quaternary main_v133_6 main_while0b_call1_v0 main_while0b_call1_cst main_while0b_call1_c main_while0b_call1_v1_0 ((fun x y u v j => (Host.argReduce reducer_argmax_f32_i32 x y u v reducesTo_S1000_S_d0 h_S_ j).1) : (⟨S1000, .f32⟩ : BufTy).Contents (Elt F) → (⟨S1000, .i32⟩ : BufTy).Contents (Elt F) → (⟨S_, .f32⟩ : BufTy).Contents (Elt F) → (⟨S_, .i32⟩ : BufTy).Contents (Elt F) → (⟨S_, .f32⟩ : BufTy).Contents (Elt F))
  :: StableHlo.quaternary main_v133_6 main_while0b_call1_v0 main_while0b_call1_cst main_while0b_call1_c main_while0b_v153 ((fun x y u v j => (Host.argReduce reducer_argmax_f32_i32 x y u v reducesTo_S1000_S_d0 h_S_ j).2) : (⟨S1000, .f32⟩ : BufTy).Contents (Elt F) → (⟨S1000, .i32⟩ : BufTy).Contents (Elt F) → (⟨S_, .f32⟩ : BufTy).Contents (Elt F) → (⟨S_, .i32⟩ : BufTy).Contents (Elt F) → (⟨S_, .i32⟩ : BufTy).Contents (Elt F))
  :: [] )
theorem tripOps0_sub : (tripOps0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem tripOps0_fresh : (tripOps0 : List (HloOp τ sig (Elt F))).Forall fun op => op.fresh = ∅ := StableHlo.forall_fresh_of_map rfl

/-- 47 operations of the loop's body, in order. -/
abbrev tripOps1 : List (HloOp τ sig (Elt F)) :=
  ( StableHlo.nullary main_while0b_c_36 (constantI S_ 32 0#32)
  :: StableHlo.binary main_while0b_v153 main_while0b_c_36 main_while0b_v154 (cmpi .slt : (⟨S_, .i32⟩ : BufTy).Contents (Elt F) → (⟨S_, .i32⟩ : BufTy).Contents (Elt F) → (⟨S_, .i1⟩ : BufTy).Contents (Elt F))
  :: StableHlo.nullary main_while0b_c_37 (constantI S_ 32 1000#32)
  :: StableHlo.binary main_while0b_v153 main_while0b_c_37 main_while0b_v155 (addi : (⟨S_, .i32⟩ : BufTy).Contents (Elt F) → (⟨S_, .i32⟩ : BufTy).Contents (Elt F) → (⟨S_, .i32⟩ : BufTy).Contents (Elt F))
  :: StableHlo.ternary main_while0b_v154 main_while0b_v155 main_while0b_v153 main_while0b_v156 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v133_6 ![main_while0b_v156] ⟨S_, .i32⟩ main_while0b_v157 ((fun x i => Host.dynamicSlice S1 x (fun k => (i k (Shape.Idx.first h_S_)).toInt) sliceFits_S1000_S1) : (⟨S1000, .f32⟩ : BufTy).Contents (Elt F) → (Fin 1 → (⟨S_, .i32⟩ : BufTy).Contents (Elt F)) → (⟨S1, .f32⟩ : BufTy).Contents (Elt F))
  :: StableHlo.reshape main_while0b_v157 main_while0b_v158 (rfl : (.f32 : EltTy) = .f32) shapeCasts_S1_S_
  :: StableHlo.nullary main_while0b_cst_38 (constant S_ .f32 0x00000000#32)
  :: StableHlo.binary main_while0b_v158 main_while0b_cst_38 main_while0b_v159 (cmpf .ogt : (⟨S_, .f32⟩ : BufTy).Contents (Elt F) → (⟨S_, .f32⟩ : BufTy).Contents (Elt F) → (⟨S_, .i1⟩ : BufTy).Contents (Elt F))
  :: StableHlo.nullary main_while0b_c_39 (constantI S_ 32 0#32)
  :: StableHlo.binary main_while0b_v153 main_while0b_c_39 main_while0b_v160 (cmpi .slt : (⟨S_, .i32⟩ : BufTy).Contents (Elt F) → (⟨S_, .i32⟩ : BufTy).Contents (Elt F) → (⟨S_, .i1⟩ : BufTy).Contents (Elt F))
  :: StableHlo.nullary main_while0b_c_40 (constantI S_ 32 1000#32)
  :: StableHlo.binary main_while0b_v153 main_while0b_c_40 main_while0b_v161 (addi : (⟨S_, .i32⟩ : BufTy).Contents (Elt F) → (⟨S_, .i32⟩ : BufTy).Contents (Elt F) → (⟨S_, .i32⟩ : BufTy).Contents (Elt F))
  :: StableHlo.ternary main_while0b_v160 main_while0b_v161 main_while0b_v153 main_while0b_v162 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v133_0 ![main_while0b_v162] ⟨S_, .i32⟩ main_while0b_v163 ((fun x i => Host.dynamicSlice S1 x (fun k => (i k (Shape.Idx.first h_S_)).toInt) sliceFits_S1000_S1) : (⟨S1000, .f32⟩ : BufTy).Contents (Elt F) → (Fin 1 → (⟨S_, .i32⟩ : BufTy).Contents (Elt F)) → (⟨S1, .f32⟩ : BufTy).Contents (Elt F))
  :: StableHlo.reshape main_while0b_v163 main_while0b_v164 (rfl : (.f32 : EltTy) = .f32) shapeCasts_S1_S_
  :: StableHlo.unary main_while0b_v164 main_while0b_v165 (broadcastInDim S1000 ![] bcast_S_S1000 : (⟨S_, .f32⟩ : BufTy).Contents (Elt F) → (⟨S1000, .f32⟩ : BufTy).Contents (Elt F))
  :: StableHlo.binary main_v133_0 main_while0b_v165 main_while0b_v166 (maximumf : (⟨S1000, .f32⟩ : BufTy).Contents (Elt F) → (⟨S1000, .f32⟩ : BufTy).Contents (Elt F) → (⟨S1000, .f32⟩ : BufTy).Contents (Elt F))
  :: StableHlo.nullary main_while0b_c_41 (constantI S_ 32 0#32)
  :: StableHlo.binary main_while0b_v153 main_while0b_c_41 main_while0b_v167 (cmpi .slt : (⟨S_, .i32⟩ : BufTy).Contents (Elt F) → (⟨S_, .i32⟩ : BufTy).Contents (Elt F) → (⟨S_, .i1⟩ : BufTy).Contents (Elt F))
  :: StableHlo.nullary main_while0b_c_42 (constantI S_ 32 1000#32)
  :: StableHlo.binary main_while0b_v153 main_while0b_c_42 main_while0b_v168 (addi : (⟨S_, .i32⟩ : BufTy).Contents (Elt F) → (⟨S_, .i32⟩ : BufTy).Contents (Elt F) → (⟨S_, .i32⟩ : BufTy).Contents (Elt F))
  :: StableHlo.ternary main_while0b_v167 main_while0b_v168 main_while0b_v153 main_while0b_v169 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v133_1 ![main_while0b_v169] ⟨S_, .i32⟩ main_while0b_v170 ((fun x i => Host.dynamicSlice S1 x (fun k => (i k (Shape.Idx.first h_S_)).toInt) sliceFits_S1000_S1) : (⟨S1000, .f32⟩ : BufTy).Contents (Elt F) → (Fin 1 → (⟨S_, .i32⟩ : BufTy).Contents (Elt F)) → (⟨S1, .f32⟩ : BufTy).Contents (Elt F))
  :: StableHlo.reshape main_while0b_v170 main_while0b_v171 (rfl : (.f32 : EltTy) = .f32) shapeCasts_S1_S_
  :: StableHlo.unary main_while0b_v171 main_while0b_v172 (broadcastInDim S1000 ![] bcast_S_S1000 : (⟨S_, .f32⟩ : BufTy).Contents (Elt F) → (⟨S1000, .f32⟩ : BufTy).Contents (Elt F))
  :: StableHlo.binary main_v133_1 main_while0b_v172 main_while0b_v173 (maximumf : (⟨S1000, .f32⟩ : BufTy).Contents (Elt F) → (⟨S1000, .f32⟩ : BufTy).Contents (Elt F) → (⟨S1000, .f32⟩ : BufTy).Contents (Elt F))
  :: StableHlo.nullary main_while0b_c_43 (constantI S_ 32 0#32)
  :: StableHlo.binary main_while0b_v153 main_while0b_c_43 main_while0b_v174 (cmpi .slt : (⟨S_, .i32⟩ : BufTy).Contents (Elt F) → (⟨S_, .i32⟩ : BufTy).Contents (Elt F) → (⟨S_, .i1⟩ : BufTy).Contents (Elt F))
  :: StableHlo.nullary main_while0b_c_44 (constantI S_ 32 1000#32)
  :: StableHlo.binary main_while0b_v153 main_while0b_c_44 main_while0b_v175 (addi : (⟨S_, .i32⟩ : BufTy).Contents (Elt F) → (⟨S_, .i32⟩ : BufTy).Contents (Elt F) → (⟨S_, .i32⟩ : BufTy).Contents (Elt F))
  :: StableHlo.ternary main_while0b_v174 main_while0b_v175 main_while0b_v153 main_while0b_v176 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v133_2 ![main_while0b_v176] ⟨S_, .i32⟩ main_while0b_v177 ((fun x i => Host.dynamicSlice S1 x (fun k => (i k (Shape.Idx.first h_S_)).toInt) sliceFits_S1000_S1) : (⟨S1000, .f32⟩ : BufTy).Contents (Elt F) → (Fin 1 → (⟨S_, .i32⟩ : BufTy).Contents (Elt F)) → (⟨S1, .f32⟩ : BufTy).Contents (Elt F))
  :: StableHlo.reshape main_while0b_v177 main_while0b_v178 (rfl : (.f32 : EltTy) = .f32) shapeCasts_S1_S_
  :: StableHlo.unary main_while0b_v178 main_while0b_v179 (broadcastInDim S1000 ![] bcast_S_S1000 : (⟨S_, .f32⟩ : BufTy).Contents (Elt F) → (⟨S1000, .f32⟩ : BufTy).Contents (Elt F))
  :: StableHlo.binary main_v133_2 main_while0b_v179 main_while0b_v180 (minimumf : (⟨S1000, .f32⟩ : BufTy).Contents (Elt F) → (⟨S1000, .f32⟩ : BufTy).Contents (Elt F) → (⟨S1000, .f32⟩ : BufTy).Contents (Elt F))
  :: StableHlo.nullary main_while0b_c_45 (constantI S_ 32 0#32)
  :: StableHlo.binary main_while0b_v153 main_while0b_c_45 main_while0b_v181 (cmpi .slt : (⟨S_, .i32⟩ : BufTy).Contents (Elt F) → (⟨S_, .i32⟩ : BufTy).Contents (Elt F) → (⟨S_, .i1⟩ : BufTy).Contents (Elt F))
  :: StableHlo.nullary main_while0b_c_46 (constantI S_ 32 1000#32)
  :: StableHlo.binary main_while0b_v153 main_while0b_c_46 main_while0b_v182 (addi : (⟨S_, .i32⟩ : BufTy).Contents (Elt F) → (⟨S_, .i32⟩ : BufTy).Contents (Elt F) → (⟨S_, .i32⟩ : BufTy).Contents (Elt F))
  :: StableHlo.ternary main_while0b_v181 main_while0b_v182 main_while0b_v153 main_while0b_v183 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v133_3 ![main_while0b_v183] ⟨S_, .i32⟩ main_while0b_v184 ((fun x i => Host.dynamicSlice S1 x (fun k => (i k (Shape.Idx.first h_S_)).toInt) sliceFits_S1000_S1) : (⟨S1000, .f32⟩ : BufTy).Contents (Elt F) → (Fin 1 → (⟨S_, .i32⟩ : BufTy).Contents (Elt F)) → (⟨S1, .f32⟩ : BufTy).Contents (Elt F))
  :: StableHlo.reshape main_while0b_v184 main_while0b_v185 (rfl : (.f32 : EltTy) = .f32) shapeCasts_S1_S_
  :: StableHlo.unary main_while0b_v185 main_while0b_v186 (broadcastInDim S1000 ![] bcast_S_S1000 : (⟨S_, .f32⟩ : BufTy).Contents (Elt F) → (⟨S1000, .f32⟩ : BufTy).Contents (Elt F))
  :: StableHlo.binary main_v133_3 main_while0b_v186 main_while0b_v187 (minimumf : (⟨S1000, .f32⟩ : BufTy).Contents (Elt F) → (⟨S1000, .f32⟩ : BufTy).Contents (Elt F) → (⟨S1000, .f32⟩ : BufTy).Contents (Elt F))
  :: StableHlo.binary main_while0b_v180 main_while0b_v166 main_while0b_v188 (subf : (⟨S1000, .f32⟩ : BufTy).Contents (Elt F) → (⟨S1000, .f32⟩ : BufTy).Contents (Elt F) → (⟨S1000, .f32⟩ : BufTy).Contents (Elt F))
  :: StableHlo.nullary main_while0b_cst_47 (constant S_ .f32 0x00000000#32)
  :: [] )
theorem tripOps1_sub : (tripOps1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.binary_bufs_sub .., StableHlo.nullary_bufs_sub ..⟩
theorem tripOps1_fresh : (tripOps1 : List (HloOp τ sig (Elt F))).Forall fun op => op.fresh = ∅ := StableHlo.forall_fresh_of_map rfl

/-- 3 operations of the loop's body, the body of its call of `clip`, in order. -/
abbrev tripOps2 : List (HloOp τ sig (Elt F)) :=
  ( StableHlo.unary main_while0b_cst_47 main_while0b_call2_v0 id
  :: StableHlo.unary main_while0b_call2_v0 main_while0b_call2_v1 ((broadcastInDim S1000 ![] bcast_S_S1000) : (⟨S_, .f32⟩ : BufTy).Contents (Elt F) → (⟨S1000, .f32⟩ : BufTy).Contents (Elt F))
  :: StableHlo.binary main_while0b_call2_v1 main_while0b_v188 main_while0b_v189 (maximumf : (⟨S1000, .f32⟩ : BufTy).Contents (Elt F) → (⟨S1000, .f32⟩ : BufTy).Contents (Elt F) → (⟨S1000, .f32⟩ : BufTy).Contents (Elt F))
  :: [] )
theorem tripOps2_sub : (tripOps2 : List (HloOp τ sig (Elt F))).Forall fun op => op.bufs ⊆ StableHlo.tcRefs τ sig :=
  ⟨StableHlo.unary_bufs_sub .., StableHlo.unary_bufs_sub .., StableHlo.binary_bufs_sub ..⟩
theorem tripOps2_fresh : (tripOps2 : List (HloOp τ sig (Elt F))).Forall fun op => op.fresh = ∅ := StableHlo.forall_fresh_of_map rfl

/-- 2 operations of the loop's body, in order. -/
abbrev tripOps3 : List (HloOp τ sig (Elt F)) :=
  ( StableHlo.binary main_while0b_v187 main_while0b_v173 main_while0b_v190 (subf : (⟨S1000, .f32⟩ : BufTy).Contents (Elt F) → (⟨S1000, .f32⟩ : BufTy).Contents (Elt F) → (⟨S1000, .f32⟩ : BufTy).Contents (Elt F))
  :: StableHlo.nullary main_while0b_cst_48 (constant S_ .f32 0x00000000#32)
  :: [] )
theorem tripOps3_sub : (tripOps3 : List (HloOp τ sig (Elt F))).Forall fun op => op.bufs ⊆ StableHlo.tcRefs τ sig :=
  ⟨StableHlo.binary_bufs_sub .., StableHlo.nullary_bufs_sub ..⟩
theorem tripOps3_fresh : (tripOps3 : List (HloOp τ sig (Elt F))).Forall fun op => op.fresh = ∅ := StableHlo.forall_fresh_of_map rfl

/-- 3 operations of the loop's body, the body of its call of `clip`, in order. -/
abbrev tripOps4 : List (HloOp τ sig (Elt F)) :=
  ( StableHlo.unary main_while0b_cst_48 main_while0b_call3_v0 id
  :: StableHlo.unary main_while0b_call3_v0 main_while0b_call3_v1 ((broadcastInDim S1000 ![] bcast_S_S1000) : (⟨S_, .f32⟩ : BufTy).Contents (Elt F) → (⟨S1000, .f32⟩ : BufTy).Contents (Elt F))
  :: StableHlo.binary main_while0b_call3_v1 main_while0b_v190 main_while0b_v191 (maximumf : (⟨S1000, .f32⟩ : BufTy).Contents (Elt F) → (⟨S1000, .f32⟩ : BufTy).Contents (Elt F) → (⟨S1000, .f32⟩ : BufTy).Contents (Elt F))
  :: [] )
theorem tripOps4_sub : (tripOps4 : List (HloOp τ sig (Elt F))).Forall fun op => op.bufs ⊆ StableHlo.tcRefs τ sig :=
  ⟨StableHlo.unary_bufs_sub .., StableHlo.unary_bufs_sub .., StableHlo.binary_bufs_sub ..⟩
theorem tripOps4_fresh : (tripOps4 : List (HloOp τ sig (Elt F))).Forall fun op => op.fresh = ∅ := StableHlo.forall_fresh_of_map rfl

/-- 8 operations of the loop's body, in order. -/
abbrev tripOps5 : List (HloOp τ sig (Elt F)) :=
  ( StableHlo.binary main_while0b_v189 main_while0b_v191 main_while0b_v192 (mulf : (⟨S1000, .f32⟩ : BufTy).Contents (Elt F) → (⟨S1000, .f32⟩ : BufTy).Contents (Elt F) → (⟨S1000, .f32⟩ : BufTy).Contents (Elt F))
  :: StableHlo.nullary main_while0b_c_49 (constantI S_ 32 0#32)
  :: StableHlo.binary main_while0b_v153 main_while0b_c_49 main_while0b_v193 (cmpi .slt : (⟨S_, .i32⟩ : BufTy).Contents (Elt F) → (⟨S_, .i32⟩ : BufTy).Contents (Elt F) → (⟨S_, .i1⟩ : BufTy).Contents (Elt F))
  :: StableHlo.nullary main_while0b_c_50 (constantI S_ 32 1000#32)
  :: StableHlo.binary main_while0b_v153 main_while0b_c_50 main_while0b_v194 (addi : (⟨S_, .i32⟩ : BufTy).Contents (Elt F) → (⟨S_, .i32⟩ : BufTy).Contents (Elt F) → (⟨S_, .i32⟩ : BufTy).Contents (Elt F))
  :: StableHlo.ternary main_while0b_v193 main_while0b_v194 main_while0b_v153 main_while0b_v195 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v133_4 ![main_while0b_v195] ⟨S_, .i32⟩ main_while0b_v196 ((fun x i => Host.dynamicSlice S1 x (fun k => (i k (Shape.Idx.first h_S_)).toInt) sliceFits_S1000_S1) : (⟨S1000, .f32⟩ : BufTy).Contents (Elt F) → (Fin 1 → (⟨S_, .i32⟩ : BufTy).Contents (Elt F)) → (⟨S1, .f32⟩ : BufTy).Contents (Elt F))
  :: StableHlo.reshape main_while0b_v196 main_while0b_v197 (rfl : (.f32 : EltTy) = .f32) shapeCasts_S1_S_
  :: [] )
theorem tripOps5_sub : (tripOps5 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub ..⟩
theorem tripOps5_fresh : (tripOps5 : List (HloOp τ sig (Elt F))).Forall fun op => op.fresh = ∅ := StableHlo.forall_fresh_of_map rfl

/-- 11 operations of the loop's body, in order. -/
abbrev tripOps6 : List (HloOp τ sig (Elt F)) :=
  ( StableHlo.unary main_while0b_v197 main_while0b_v198 (broadcastInDim S1000 ![] bcast_S_S1000 : (⟨S_, .f32⟩ : BufTy).Contents (Elt F) → (⟨S1000, .f32⟩ : BufTy).Contents (Elt F))
  :: StableHlo.binary main_v133_4 main_while0b_v198 main_while0b_v199 (addf : (⟨S1000, .f32⟩ : BufTy).Contents (Elt F) → (⟨S1000, .f32⟩ : BufTy).Contents (Elt F) → (⟨S1000, .f32⟩ : BufTy).Contents (Elt F))
  :: StableHlo.binary main_while0b_v199 main_while0b_v192 main_while0b_v200 (subf : (⟨S1000, .f32⟩ : BufTy).Contents (Elt F) → (⟨S1000, .f32⟩ : BufTy).Contents (Elt F) → (⟨S1000, .f32⟩ : BufTy).Contents (Elt F))
  :: StableHlo.nullary main_while0b_cst_51 (constant S_ .f32 0x3089705F#32)
  :: StableHlo.unary main_while0b_cst_51 main_while0b_v201 (broadcastInDim S1000 ![] bcast_S_S1000 : (⟨S_, .f32⟩ : BufTy).Contents (Elt F) → (⟨S1000, .f32⟩ : BufTy).Contents (Elt F))
  :: StableHlo.binary main_while0b_v200 main_while0b_v201 main_while0b_v202 (addf : (⟨S1000, .f32⟩ : BufTy).Contents (Elt F) → (⟨S1000, .f32⟩ : BufTy).Contents (Elt F) → (⟨S1000, .f32⟩ : BufTy).Contents (Elt F))
  :: StableHlo.binary main_while0b_v192 main_while0b_v202 main_while0b_v203 (Host.divf : (⟨S1000, .f32⟩ : BufTy).Contents (Elt F) → (⟨S1000, .f32⟩ : BufTy).Contents (Elt F) → (⟨S1000, .f32⟩ : BufTy).Contents (Elt F))
  :: StableHlo.nullary main_while0b_cst_52 (constant S_ .f32 0x3F000000#32)
  :: StableHlo.unary main_while0b_cst_52 main_while0b_v204 (broadcastInDim S1000 ![] bcast_S_S1000 : (⟨S_, .f32⟩ : BufTy).Contents (Elt F) → (⟨S1000, .f32⟩ : BufTy).Contents (Elt F))
  :: StableHlo.binary main_while0b_v203 main_while0b_v204 main_while0b_v205 (cmpf .ogt : (⟨S1000, .f32⟩ : BufTy).Contents (Elt F) → (⟨S1000, .f32⟩ : BufTy).Contents (Elt F) → (⟨S1000, .i1⟩ : BufTy).Contents (Elt F))
  :: StableHlo.nullary main_while0b_cst_53 (constant S_ .f32 0xFF800000#32)
  :: [] )
theorem tripOps6_sub : (tripOps6 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩
theorem tripOps6_fresh : (tripOps6 : List (HloOp τ sig (Elt F))).Forall fun op => op.fresh = ∅ := StableHlo.forall_fresh_of_map rfl

/-- 3 operations of the loop's body, the body of its call of `where_0`, in order. -/
abbrev tripOps7 : List (HloOp τ sig (Elt F)) :=
  ( StableHlo.unary main_while0b_cst_53 main_while0b_call4_v0 id
  :: StableHlo.unary main_while0b_call4_v0 main_while0b_call4_v1 ((broadcastInDim S1000 ![] bcast_S_S1000) : (⟨S_, .f32⟩ : BufTy).Contents (Elt F) → (⟨S1000, .f32⟩ : BufTy).Contents (Elt F))
  :: StableHlo.ternary main_while0b_v205 main_while0b_call4_v1 main_v133_6 main_while0b_v206 (select : (⟨S1000, .i1⟩ : BufTy).Contents (Elt F) → (⟨S1000, .f32⟩ : BufTy).Contents (Elt F) → (⟨S1000, .f32⟩ : BufTy).Contents (Elt F) → (⟨S1000, .f32⟩ : BufTy).Contents (Elt F))
  :: [] )
theorem tripOps7_sub : (tripOps7 : List (HloOp τ sig (Elt F))).Forall fun op => op.bufs ⊆ StableHlo.tcRefs τ sig :=
  ⟨StableHlo.unary_bufs_sub .., StableHlo.unary_bufs_sub .., StableHlo.ternary_bufs_sub ..⟩
theorem tripOps7_fresh : (tripOps7 : List (HloOp τ sig (Elt F))).Forall fun op => op.fresh = ∅ := StableHlo.forall_fresh_of_map rfl

/-- 2 operations of the loop's body, the body of its call of `dynamic_update_index_in_dim`, in order. -/
abbrev tripOps8 : List (HloOp τ sig (Elt F)) :=
  ( StableHlo.unary main_while0b_v153 main_while0b_call5_v0 ((broadcastInDim S1 ![] bcast_S_S1) : (⟨S_, .i32⟩ : BufTy).Contents (Elt F) → (⟨S1, .i32⟩ : BufTy).Contents (Elt F))
  :: StableHlo.TRef.binaryIndexed (.of main_v133_7 : StableHlo.TRef sig ⟨S100, .i32⟩) (.of main_while0b_call5_v0 : StableHlo.TRef sig ⟨S1, .i32⟩) ![(.of main_v133_5 : StableHlo.TRef sig ⟨S_, .i32⟩)] (.of main_while0b_v207 : StableHlo.TRef sig ⟨S100, .i32⟩) (fun x u i => Host.dynamicUpdateSlice x u (fun k => (i k (Shape.Idx.first h_S_)).toInt) updateFits_S100_S1)
  :: [] )
theorem tripOps8_sub : (tripOps8 : List (HloOp τ sig (Elt F))).Forall fun op => op.bufs ⊆ StableHlo.tcRefs τ sig :=
  ⟨StableHlo.unary_bufs_sub .., StableHlo.binaryIndexed_bufs_sub ..⟩
theorem tripOps8_fresh : (tripOps8 : List (HloOp τ sig (Elt F))).Forall fun op => op.fresh = ∅ := StableHlo.forall_fresh_of_map rfl

/-- 2 operations of the loop's body, the body of its call of `dynamic_update_index_in_dim_1`, in order. -/
abbrev tripOps9 : List (HloOp τ sig (Elt F)) :=
  ( StableHlo.unary main_while0b_v159 main_while0b_call6_v0 ((broadcastInDim S1 ![] bcast_S_S1) : (⟨S_, .i1⟩ : BufTy).Contents (Elt F) → (⟨S1, .i1⟩ : BufTy).Contents (Elt F))
  :: StableHlo.TRef.binaryIndexed (.of main_v133_8 : StableHlo.TRef sig ⟨S100, .i1⟩) (.of main_while0b_call6_v0 : StableHlo.TRef sig ⟨S1, .i1⟩) ![(.of main_v133_5 : StableHlo.TRef sig ⟨S_, .i32⟩)] (.of main_while0b_v208 : StableHlo.TRef sig ⟨S100, .i1⟩) (fun x u i => Host.dynamicUpdateSlice x u (fun k => (i k (Shape.Idx.first h_S_)).toInt) updateFits_S100_S1)
  :: [] )
theorem tripOps9_sub : (tripOps9 : List (HloOp τ sig (Elt F))).Forall fun op => op.bufs ⊆ StableHlo.tcRefs τ sig :=
  ⟨StableHlo.unary_bufs_sub .., StableHlo.binaryIndexed_bufs_sub ..⟩
theorem tripOps9_fresh : (tripOps9 : List (HloOp τ sig (Elt F))).Forall fun op => op.fresh = ∅ := StableHlo.forall_fresh_of_map rfl

/-- 6 operations of the loop's body, in order. -/
abbrev tripOps10 : List (HloOp τ sig (Elt F)) :=
  ( StableHlo.nullary main_while0b_c_54 (constantI S_ 32 1#32)
  :: StableHlo.binary main_v133_5 main_while0b_c_54 main_while0b_v209 (addi : (⟨S_, .i32⟩ : BufTy).Contents (Elt F) → (⟨S_, .i32⟩ : BufTy).Contents (Elt F) → (⟨S_, .i32⟩ : BufTy).Contents (Elt F))
  :: StableHlo.unary main_while0b_v209 main_v133_5 id
  :: StableHlo.unary main_while0b_v206 main_v133_6 id
  :: StableHlo.unary main_while0b_v207 main_v133_7 id
  :: StableHlo.unary main_while0b_v208 main_v133_8 id
  :: [] )
theorem tripOps10_sub : (tripOps10 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem tripOps10_fresh : (tripOps10 : List (HloOp τ sig (Elt F))).Forall fun op => op.fresh = ∅ := StableHlo.forall_fresh_of_map rfl

/-! ## @main and the loop's body as chains of these lists -/

set_option maxHeartbeats 40000000 in
theorem main_part0_chain (c : Dev nD) : main_part0 (F := F) c = (Pipeline.chainK
  [  ]
  (StableHlo.seq mainOps0) : Prog (TpuEff nD τ sig (Elt F) (HostLoop.Sig (Pipeline.Sig Λ₀ (Fin 0) fun p => (pcfgs (F := F) p).Adm) 1) .tc) PUnit) := by
  chain_rfl

set_option maxHeartbeats 40000000 in
theorem main_part1_chain (c : Dev nD) : main_part1 (F := F) c = (Pipeline.chainK
  [ StableHlo.seq mainOps1,
    StableHlo.seq mainOps2 ]
  (StableHlo.seq mainOps3) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

set_option maxHeartbeats 40000000 in
theorem main_part2_chain (c : Dev nD) : main_part2 (F := F) c = (Pipeline.chainK
  [ StableHlo.seq mainOps4,
    HostLoop.enter 0 ]
  (StableHlo.seq mainOps5) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

set_option maxHeartbeats 40000000 in
theorem main_part3_chain (c : Dev nD) : main_part3 (F := F) c = (Pipeline.chain
  [ StableHlo.seq mainOps6,
    StableHlo.seq mainOps7,
    StableHlo.seq mainOps8,
    StableHlo.seq mainOps9 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons]
  chain_rfl

set_option maxHeartbeats 40000000 in
theorem main_while0_body_part0_chain : main_while0_body_part0 (F := F) = (Pipeline.chainK
  [ StableHlo.seq tripOps0,
    StableHlo.seq tripOps1,
    StableHlo.seq tripOps2,
    StableHlo.seq tripOps3,
    StableHlo.seq tripOps4 ]
  (StableHlo.seq tripOps5) : Prog (TpuEff nD τ sig (Elt F) (HostLoop.Sig (Pipeline.Sig Λ₀ (Fin 0) fun p => (pcfgs (F := F) p).Adm) 1) .tc) PUnit) := by
  rewrite [Pipeline.chainK_cons, StableHlo.chainK_seq_cons, Pipeline.chainK_cons, StableHlo.chainK_seq_cons, Pipeline.chainK_cons]
  chain_rfl

set_option maxHeartbeats 40000000 in
theorem main_while0_body_part1_chain : main_while0_body_part1 (F := F) = (Pipeline.chain
  [ StableHlo.seq tripOps6,
    StableHlo.seq tripOps7,
    StableHlo.seq tripOps8,
    StableHlo.seq tripOps9,
    StableHlo.seq tripOps10 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, Pipeline.chain_cons, StableHlo.chain_seq_cons]
  chain_rfl

set_option maxHeartbeats 40000000 in
theorem main_chain (c : Dev nD) : main (F := F) c = (Pipeline.chain
  [ StableHlo.seq mainOps0,
    StableHlo.seq mainOps1,
    StableHlo.seq mainOps2,
    StableHlo.seq mainOps3,
    StableHlo.seq mainOps4,
    HostLoop.enter 0,
    StableHlo.seq mainOps5,
    StableHlo.seq mainOps6,
    StableHlo.seq mainOps7,
    StableHlo.seq mainOps8,
    StableHlo.seq mainOps9 ] : Prog (TpuEff nD τ sig (Elt F) (HostLoop.Sig (Pipeline.Sig Λ₀ (Fin 0) fun p => (pcfgs (F := F) p).Adm) 1) .tc) PUnit) := by
  show (main_part0 c >>= fun _ => main_part1 c >>= fun _ => main_part2 c >>= fun _ => main_part3 c) = _
  rewrite [main_part3_chain, main_part2_chain, Pipeline.chainK_bind_chain, main_part1_chain, Pipeline.chainK_bind_chain,
    main_part0_chain, Pipeline.chainK_bind_chain]
  chain_rfl

set_option maxHeartbeats 40000000 in
theorem body_chain : main_while0_body (F := F) = (Pipeline.chain
  [ StableHlo.seq tripOps0,
    StableHlo.seq tripOps1,
    StableHlo.seq tripOps2,
    StableHlo.seq tripOps3,
    StableHlo.seq tripOps4,
    StableHlo.seq tripOps5,
    StableHlo.seq tripOps6,
    StableHlo.seq tripOps7,
    StableHlo.seq tripOps8,
    StableHlo.seq tripOps9,
    StableHlo.seq tripOps10 ] : Prog (TpuEff nD τ sig (Elt F) (HostLoop.Sig (Pipeline.Sig Λ₀ (Fin 0) fun p => (pcfgs (F := F) p).Adm) 1) .tc) PUnit) := by
  show (main_while0_body_part0 >>= fun _ => main_while0_body_part1) = _
  rewrite [main_while0_body_part1_chain, main_while0_body_part0_chain, Pipeline.chainK_bind_chain]
  chain_rfl

/-! ## The lists around the loop, and the loop's own -/

/-- @main's lists before the loop, the loop body's, and @main's after the loop. -/
abbrev preI : List (List (HloOp τ sig (Elt F))) := [mainOps0, mainOps1, mainOps2, mainOps3, mainOps4]
abbrev bodyI : List (List (HloOp τ sig (Elt F))) := [tripOps0, tripOps1, tripOps2, tripOps3, tripOps4, tripOps5, tripOps6, tripOps7, tripOps8, tripOps9, tripOps10]
abbrev postI : List (List (HloOp τ sig (Elt F))) := [mainOps5, mainOps6, mainOps7, mainOps8, mainOps9]

theorem hpre : Plain (preI (F := F)) := .cons mainOps0_sub (hf := List.forall_iff_forall_mem.mp mainOps0_fresh)
    (.cons mainOps1_sub (hf := List.forall_iff_forall_mem.mp mainOps1_fresh)
    (.cons mainOps2_sub (hf := List.forall_iff_forall_mem.mp mainOps2_fresh)
    (.cons mainOps3_sub (hf := List.forall_iff_forall_mem.mp mainOps3_fresh)
    (.cons mainOps4_sub (hf := List.forall_iff_forall_mem.mp mainOps4_fresh)
    .nil))))
theorem hbodyI : Plain (bodyI (F := F)) := .cons tripOps0_sub (hf := List.forall_iff_forall_mem.mp tripOps0_fresh)
    (.cons tripOps1_sub (hf := List.forall_iff_forall_mem.mp tripOps1_fresh)
    (.cons tripOps2_sub (hf := List.forall_iff_forall_mem.mp tripOps2_fresh)
    (.cons tripOps3_sub (hf := List.forall_iff_forall_mem.mp tripOps3_fresh)
    (.cons tripOps4_sub (hf := List.forall_iff_forall_mem.mp tripOps4_fresh)
    (.cons tripOps5_sub (hf := List.forall_iff_forall_mem.mp tripOps5_fresh)
    (.cons tripOps6_sub (hf := List.forall_iff_forall_mem.mp tripOps6_fresh)
    (.cons tripOps7_sub (hf := List.forall_iff_forall_mem.mp tripOps7_fresh)
    (.cons tripOps8_sub (hf := List.forall_iff_forall_mem.mp tripOps8_fresh)
    (.cons tripOps9_sub (hf := List.forall_iff_forall_mem.mp tripOps9_fresh)
    (.cons tripOps10_sub (hf := List.forall_iff_forall_mem.mp tripOps10_fresh)
    .nil))))))))))
theorem hpost : Plain (postI (F := F)) := .cons mainOps5_sub (hf := List.forall_iff_forall_mem.mp mainOps5_fresh)
    (.cons mainOps6_sub (hf := List.forall_iff_forall_mem.mp mainOps6_fresh)
    (.cons mainOps7_sub (hf := List.forall_iff_forall_mem.mp mainOps7_fresh)
    (.cons mainOps8_sub (hf := List.forall_iff_forall_mem.mp mainOps8_fresh)
    (.cons mainOps9_sub (hf := List.forall_iff_forall_mem.mp mainOps9_fresh)
    .nil))))

/-- The condition's two operations. -/
abbrev condOps : List (HloOp τ sig (Elt F)) :=
  [ StableHlo.nullary main_while0c_c_36 (constantI S_ 32 100#32),
    StableHlo.binary main_v133_5 main_while0c_c_36 main_while0c_v153 (cmpi .slt) ]
abbrev condOps_W : List (Ref sig .tc) := [main_while0c_c_36, main_while0c_v153]

abbrev preOps : List (HloOp τ sig (Elt F)) := mainOps0 ++ (mainOps1 ++ (mainOps2 ++ (mainOps3 ++ (mainOps4))))
/-- The body's operations up to the copies of the carried values back, and those copies. -/
abbrev workOps : List (HloOp τ sig (Elt F)) := tripOps0 ++ (tripOps1 ++ (tripOps2 ++ (tripOps3 ++ (tripOps4 ++ (tripOps5 ++ (tripOps6 ++ (tripOps7 ++ (tripOps8 ++ (tripOps9 ++ (tripOps10.take 2))))))))))
abbrev copyOps : List (HloOp τ sig (Elt F)) := tripOps10.drop 2
abbrev copyOps_W : List (Ref sig .tc) := [main_v133_5, main_v133_6, main_v133_7, main_v133_8]
abbrev postOps : List (HloOp τ sig (Elt F)) := mainOps5 ++ (mainOps6 ++ (mainOps7 ++ (mainOps8 ++ (mainOps9))))
abbrev preW : List (Ref sig .tc) :=
  [main_cst, main_v0, main_cst_0, main_v1, main_v2, main_v3, main_v4, main_v5, main_v6, main_cst_1, main_v7, main_v8, main_v9, main_v10, main_v11, main_v12, main_v13, main_v14, main_v15, main_v16, main_v17, main_v18, main_v19, main_v20, main_v21, main_v22, main_v23, main_v24, main_v25, main_v26, main_v27, main_cst_2, main_v28, main_v29, main_v30, main_v31, main_v32, main_cst_3, main_v33, main_v34, main_v35, main_v36, main_v37, main_v38, main_v39, main_v40, main_v41, main_v42, main_v43, main_cst_4, main_v44, main_v45, main_cst_5, main_v46, main_v47, main_v48, main_v49, main_v50, main_v51, main_v52, main_v53, main_v54, main_v55, main_cst_6, main_v56, main_v57, main_v58, main_cst_7, main_v59, main_v60, main_v61, main_cst_8, main_v62, main_v63, main_v64, main_cst_9, main_v65, main_v66, main_v67, main_v68, main_v69, main_v70, main_v71, main_v72, main_v73, main_v74, main_v75, main_c, main_v76, main_v77, main_v78, main_v79, main_v80, main_v81, main_v82, main_v83, main_v84, main_v85, main_v86, main_v87, main_v88, main_v89, main_v90, main_v91, main_cst_10, main_v92, main_v93, main_cst_11, main_v94, main_v95, main_v96, main_cst_12, main_call0_v0, main_call0_v1, main_v97, main_values, main_indices, main_c_13, main_v98, main_v99, main_c_14, main_v100, main_v101, main_v102, main_v103, main_v104, main_c_15, main_v105, main_v106, main_c_16, main_v107, main_v108, main_v109, main_v110, main_v111, main_cst_17, main_v112, main_cst_18, main_v113, main_v114, main_v115, main_v116, main_v117, main_v118, main_v119, main_v120, main_v121, main_v122, main_v123, main_v124, main_v125, main_v126, main_v127, main_v128, main_v129, main_v130, main_c_19, main_v131, main_c_20, main_v132, main_c_21, main_v133_0, main_v133_1, main_v133_2, main_v133_3, main_v133_4, main_v133_5, main_v133_6, main_v133_7, main_v133_8]
abbrev workW : List (Ref sig .tc) :=
  [main_while0b_call1_v0, main_while0b_call1_cst, main_while0b_call1_c, main_while0b_call1_v1_0, main_while0b_v153, main_while0b_c_36, main_while0b_v154, main_while0b_c_37, main_while0b_v155, main_while0b_v156, main_while0b_v157, main_while0b_v158, main_while0b_cst_38, main_while0b_v159, main_while0b_c_39, main_while0b_v160, main_while0b_c_40, main_while0b_v161, main_while0b_v162, main_while0b_v163, main_while0b_v164, main_while0b_v165, main_while0b_v166, main_while0b_c_41, main_while0b_v167, main_while0b_c_42, main_while0b_v168, main_while0b_v169, main_while0b_v170, main_while0b_v171, main_while0b_v172, main_while0b_v173, main_while0b_c_43, main_while0b_v174, main_while0b_c_44, main_while0b_v175, main_while0b_v176, main_while0b_v177, main_while0b_v178, main_while0b_v179, main_while0b_v180, main_while0b_c_45, main_while0b_v181, main_while0b_c_46, main_while0b_v182, main_while0b_v183, main_while0b_v184, main_while0b_v185, main_while0b_v186, main_while0b_v187, main_while0b_v188, main_while0b_cst_47, main_while0b_call2_v0, main_while0b_call2_v1, main_while0b_v189, main_while0b_v190, main_while0b_cst_48, main_while0b_call3_v0, main_while0b_call3_v1, main_while0b_v191, main_while0b_v192, main_while0b_c_49, main_while0b_v193, main_while0b_c_50, main_while0b_v194, main_while0b_v195, main_while0b_v196, main_while0b_v197, main_while0b_v198, main_while0b_v199, main_while0b_v200, main_while0b_cst_51, main_while0b_v201, main_while0b_v202, main_while0b_v203, main_while0b_cst_52, main_while0b_v204, main_while0b_v205, main_while0b_cst_53, main_while0b_call4_v0, main_while0b_call4_v1, main_while0b_v206, main_while0b_call5_v0, main_while0b_v207, main_while0b_call6_v0, main_while0b_v208, main_while0b_c_54, main_while0b_v209]
abbrev postW : List (Ref sig .tc) :=
  [main_v134, main_c_22, main_v135, main_v136, main_c_23, main_v137, main_v138, main_v139, main_v140, main_v141, main_cst_24, main_call7_v0, main_call7_v1, main_call7_v2, main_v142, main_c_25, main_v143, main_v144, main_c_26, main_v145, main_v146, main_v147, main_v148, main_v149, main_cst_27, main_call8_v0, main_call8_v1, main_v150, main_v151, main_v152]
theorem preLine : Ssa.Line (preOps (F := F)) preW := by unfold Ssa.Line; rfl
theorem workLine : Ssa.Line (workOps (F := F)) workW := by unfold Ssa.Line; rfl
theorem postLine : Ssa.Line (postOps (F := F)) postW := by unfold Ssa.Line; rfl
theorem condLine : Ssa.Line (condOps (F := F)) condOps_W := by unfold Ssa.Line; rfl
theorem copyLine : Ssa.Line (copyOps (F := F)) copyOps_W := by unfold Ssa.Line; rfl

end Cert.ReferenceIdeal.Hand

end
-- ==== Proof.RefRun.lean ====
/-
  The run of the reference program: @main's lists before the loop, a hundred trips, and its lists after. Every buffer of
  the program ends at the fold of those lists over the contents it starts from; the arguments are not written.
-/
module

public import proofs.«01_k».proof.Proof.RefOps
public import Idealize.ShloMosaic.Lib.Quiescent
public import Idealize.ShloMosaic.Lib.Scf.ExitTest
public import Idealize.ShloMosaic.Lib.Scf.Counter

@[expose] public section

set_option maxRecDepth 4000

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One trip, as a function of the contents its condition finds: the condition's operations, then the body's. -/
abbrev trip (V : Valuation τ sig (Elt F)) : Valuation τ sig (Elt F) := after copyOps (after workOps (after condOps V))

/-- One turn of the loop is a trip. -/
theorem trip_eq (V : Valuation τ sig (Elt F)) : afterL bodyI (after condOps V) = trip V := by
  rw [afterL_eq_after_flatten, show (bodyI (F := F)).flatten = workOps ++ copyOps from rfl, after_append]

/-- A trip adds one to the counter. -/
theorem trip_counter (V : Valuation τ sig (Elt F)) :
    trip V main_v133_5 = addi (V main_v133_5) (constantI S_ 32 1#32) := by
  rw [show trip V main_v133_5 = _ from copyLine.unary _ 0 rfl (by decide +kernel),
    copyLine.keep _ (by decide +kernel), workLine.binary _ 87 rfl (by decide +kernel), workLine.nullary _ 86 rfl (by decide +kernel),
    workLine.keep _ (by decide +kernel), condLine.keep _ (by decide +kernel)]
  rfl

variable (m : (ℓ : Loc nD τ sig) → Buf (Elt F) ℓ) (ρ : Dev nD → PrngReg)

/-- Every buffer's contents before the loop, and before its trip `k`. -/
abbrev pre (c : Dev nD) : Valuation τ sig (Elt F) := after preOps (launchContents m c)
abbrev atK (k : ℕ) (c : Dev nD) : Valuation τ sig (Elt F) := atTrip condOps bodyI (entryContents preI m) k c

/-- Before any trip. -/
theorem atK_zero (c : Dev nD) : atK m 0 c = pre m c := by
  rw [show atK m 0 c = afterL preI (launchContents m c) from rfl, afterL_eq_after_flatten]; rfl

/-- After one trip more. -/
theorem atK_succ (k : ℕ) (c : Dev nD) : atK m (k + 1) c = trip (atK m k c) := trip_eq _

/-- Before trip `k` the counter is `k`. -/
theorem atK_counter (c : Dev nD) : ∀ k, atK m k c main_v133_5 = fun _ => Scf.iv 0#32 1#32 k
  | 0 => by
    rw [atK_zero]; show after preOps (launchContents m c) main_v133_5 = _
    rw [preLine.unary _ 166 rfl (by decide +kernel), Scf.iv_zero, preLine.nullary _ 160 rfl (by decide +kernel)]
    rfl
  | k + 1 => by
    rw [atK_succ, trip_counter, atK_counter c k, Scf.iv_succ]; rfl

set_option backward.isDefEq.respectTransparency.types false in
/-- The condition's test is that the trip number is below a hundred. -/
theorem cond_spec : CondSpec (pcfgs (F := F)) defs₀ loops (main_while0_cond (F := F)) condOps bodyI (entryContents preI m) 100 := by
  intro k hk c bd
  have hctr := atK_counter m c k
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v133_5 HostLoop.idx0)
        (HloOp.result _ (atK m k c) main_while0c_c_36 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

/-- Every buffer's contents at the end. -/
abbrev fin (c : Dev nD) : Valuation τ sig (Elt F) := after postOps (after condOps (atK m 100 c))

/-- A buffer that nothing writes is what it was at the start. -/
theorem fin_keep (c : Dev nD) {r : Ref sig .tc} (h : r ∉ preW ∧ r ∉ condOps_W ∧ r ∉ workW ∧ r ∉ copyOps_W ∧ r ∉ postW) :
    fin m c r = launchContents m c r := by
  have hk : ∀ k, atK m k c r = launchContents m c r := by
    intro k
    induction k with
    | zero => rw [atK_zero]; exact preLine.keep _ h.1
    | succ k ih => rw [atK_succ, ← ih]; exact (copyLine.keep _ h.2.2.2.1).trans ((workLine.keep _ h.2.2.1).trans (condLine.keep _ h.2.1))
  exact (postLine.keep _ h.2.2.2.2).trans ((condLine.keep _ h.2.1).trans (hk 100))

set_option maxRecDepth 100000 in
/-- From any memory with zero counters the reference ends with every buffer of the program at its final contents. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain]; rfl) (by rw [body_chain]; rfl) 100 m ρ (cond_spec m)

/-- The contents at the end. -/
theorem fin_eq (c : Dev nD) : finalContents condOps preI bodyI postI 100 m c = fin m c := by
  show afterL postI (after condOps (atK m 100 c)) = _
  rw [afterL_eq_after_flatten]; rfl

/-- The reference's run: its result buffer at its final contents, its arguments as they were, every counter at zero. -/
theorem run_value : θ_run (defs (F := F)) (onTc (τ := τ) (main (F := F))) ⟨m, fun _ => 0, ρ⟩
    (fun r => (∀ c : Dev nD, r.2.mem ((c : Thread nD τ).loc main_v152) = fin m c main_v152
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) :=
  (θ_run _ _ _).mono (fun r h => ⟨fun c =>
    ⟨(h c main_v152 rfl).trans (by rw [fin_eq]),
      (h c main_arg0 rfl).trans (by rw [fin_eq]; exact fin_keep m c (by decide +kernel)),
      (h c main_arg1 rfl).trans (by rw [fin_eq]; exact fin_keep m c (by decide +kernel)),
      (h c main_arg2 rfl).trans (by rw [fin_eq]; exact fin_keep m c (by decide +kernel))⟩,
    sem_eq_zero_of_no_sems (by decide) r.2⟩) (run_fold m ρ)

end Cert.ReferenceIdeal.Hand

end
-- ==== Proof.Spec.lean ====
/-
  The mathematics of the problem over extended reals, on plain finite indices: softmax scores, decoded boxes, the mask,
  the thousand greatest, and a hundred rounds of greedy suppression. Both programs are read into these functions.
-/
module

public import Idealize.ShloMosaic.Lib.Pointwise
public import Idealize.ShloMosaic.PureOps.Ideal

@[expose] public section

noncomputable section

namespace Cert.Spec

open Idealize.ShloMosaic

/-- One half, as the programs spell it. -/
abbrev half : EReal := Ideal.ofBits .f32 0x3F000000#32
/-- The bound on a size delta before its exponential is taken. -/
abbrev clip : EReal := Ideal.ofBits .f32 0x40845349#32

/-- The pattern of minus infinity denotes the least extended real. -/
theorem ninf_eq : Ideal.ofBits .f32 0xFF800000#32 = (⊥ : EReal) := by simp [Ideal.ofBits, Ideal.ieee]

/-- The middle of a decoded box along one axis: delta `d`, proposal from `lo` to `hi`. -/
def mid (d lo hi : EReal) : EReal := d * (hi - lo) + (lo + half * (hi - lo))
/-- The size of a decoded box along one axis: delta `e`. -/
def ext (e lo hi : EReal) : EReal := Ideal.exp (min e clip) * (hi - lo)
/-- The lower corner along one axis. -/
def low (d e lo hi : EReal) : EReal := mid d lo hi - half * ext e lo hi
/-- The upper corner along one axis. -/
def high (d e lo hi : EReal) : EReal := mid d lo hi + half * ext e lo hi

/-- A decoded box, from four deltas and a proposal. -/
def box (d p : Fin 4 → EReal) : Fin 4 → EReal :=
  ![low (d 0) (d 2) (p 0) (p 2), low (d 1) (d 3) (p 1) (p 3), high (d 0) (d 2) (p 0) (p 2), high (d 1) (d 3) (p 1) (p 3)]

/-- The greatest of a row of logits. -/
def rowMax (a : Fin 81 → EReal) : EReal := Finset.univ.fold max ⊥ a
/-- The softmax of a row of logits. -/
def prob (a : Fin 81 → EReal) (k : Fin 81) : EReal :=
  Ideal.div (Ideal.exp (a k - rowMax a)) (∑ j, Ideal.exp (a j - rowMax a))

/-- A score kept where it and its box's area pass their thresholds, minus one elsewhere. -/
def masked (s : EReal) (b : Fin 4 → EReal) : EReal :=
  Scalar.select (IntOp.andi (Ideal.cmp .ogt s (Ideal.ofBits .f32 0x3C23D70A#32))
    (Ideal.cmp .ogt ((b 3 - b 1) * (b 2 - b 0)) (Ideal.ofBits .f32 0x3DCCCCCD#32))) s (Ideal.ofBits .f32 0xBF800000#32)

/-- The proposal of flat candidate `q`. -/
def rowOf (q : Fin 1600000) : Fin 20000 := ⟨q.val / 80, by omega⟩
/-- The class, counted from zero without the background, of flat candidate `q`. -/
def clsOf (q : Fin 1600000) : Fin 80 := ⟨q.val % 80, by omega⟩

section
variable (A0 : Fin 20000 → Fin 81 → EReal) (A1 : Fin 20000 → Fin 324 → EReal) (A2 : Fin 20000 → Fin 4 → EReal)

/-- The deltas of proposal `n` at class `c`. -/
def delta (n : Fin 20000) (c : Fin 80) (k : Fin 4) : EReal := A1 n ⟨4 * (c.val + 1) + k.val, by omega⟩
/-- The decoded box of proposal `n` at class `c`. -/
def boxAt (n : Fin 20000) (c : Fin 80) : Fin 4 → EReal := box (delta A1 n c) (A2 n)
/-- The score of proposal `n` at class `c`. -/
def scoreAt (n : Fin 20000) (c : Fin 80) : EReal := prob (A0 n) c.succ
/-- The masked score of proposal `n` at class `c`. -/
def maskedAt (n : Fin 20000) (c : Fin 80) : EReal := masked (scoreAt A0 n c) (boxAt A1 A2 n c)
/-- The masked scores as one vector. -/
def cand : FVec Ideal ⟨1, ![1600000]⟩ .f32 := fun i => maskedAt A0 A1 A2 (rowOf (i 0)) (clsOf (i 0))

end

end Cert.Spec
-- ==== Proof.Greedy.lean ====
/-
  The greedy suppression over the thousand selected boxes, as mathematics: shifted boxes, overlaps, and the rows kept.
  Also the two facts both programs' searches rest on: the first position of a greatest score is unique, and a running
  comparison over the positions in order finds it.
-/
module

public import proofs.«01_k».proof.Proof.Spec

@[expose] public section

noncomputable section

namespace Cert.Greedy

open Idealize.ShloMosaic Cert.Spec

/-- Position `i` is the first at which `w` is greatest. -/
def IsFirst (w : Fin 1000 → EReal) (i : Fin 1000) : Prop := (∀ j, w j ≤ w i) ∧ ∀ j, j < i → w j < w i

/-- There is at most one such position. -/
theorem IsFirst.unique {w : Fin 1000 → EReal} {i j : Fin 1000} (hi : IsFirst w i) (hj : IsFirst w j) : i = j := by
  rcases lt_trichotomy i j with h | h | h
  · exact absurd (hj.2 i h) (not_lt.mpr (hi.1 j))
  · exact h
  · exact absurd (hi.2 j h) (not_lt.mpr (hj.1 i))

/-- Comparing position by position, in order, and moving on a strictly greater score only. -/
def better (w : Fin 1000 → EReal) (r : EReal × Fin 1000) (j : Fin 1000) : EReal × Fin 1000 := if w j ≤ r.1 then r else (w j, j)

/-- What the running comparison finds over an increasing list of positions. -/
theorem better_spec (w : Fin 1000 → EReal) : ∀ (l : List (Fin 1000)), l.Pairwise (· < ·) → ∀ r : EReal × Fin 1000,
    (r.1 ≤ (l.foldl (better w) r).1 ∧ ∀ j ∈ l, w j ≤ (l.foldl (better w) r).1) ∧
    (l.foldl (better w) r = r ∨ (l.foldl (better w) r).2 ∈ l ∧ (l.foldl (better w) r).1 = w (l.foldl (better w) r).2 ∧
      r.1 < (l.foldl (better w) r).1 ∧ ∀ j ∈ l, j < (l.foldl (better w) r).2 → w j < (l.foldl (better w) r).1)
  | [], _, r => by simp
  | j :: l, hl, r => by
    have hl' := List.pairwise_cons.mp hl
    have ih := better_spec w l hl'.2 (better w r j)
    rw [List.foldl_cons]
    generalize hR : l.foldl (better w) (better w r j) = R at ih ⊢
    unfold better at ih
    by_cases h : w j ≤ r.1
    · rw [if_pos h] at ih
      obtain ⟨⟨h1, h2⟩, h3⟩ := ih
      refine ⟨⟨h1, fun k hk => ?_⟩, ?_⟩
      · rcases List.mem_cons.mp hk with rfl | hk
        · exact h.trans h1
        · exact h2 k hk
      · rcases h3 with h3 | ⟨h3, h4, h5, h6⟩
        · exact Or.inl h3
        · refine Or.inr ⟨List.mem_cons_of_mem _ h3, h4, h5, fun k hk hlt => ?_⟩
          rcases List.mem_cons.mp hk with rfl | hk
          · exact h.trans_lt h5
          · exact h6 k hk hlt
    · rw [if_neg h] at ih
      obtain ⟨⟨h1, h2⟩, h3⟩ := ih
      have h := not_le.mp h
      refine ⟨⟨h.le.trans h1, fun k hk => ?_⟩, Or.inr ?_⟩
      · rcases List.mem_cons.mp hk with rfl | hk
        · exact h1
        · exact h2 k hk
      · rcases h3 with h3 | ⟨h3, h4, h5, h6⟩
        · rw [h3]
          refine ⟨List.mem_cons_self .., rfl, h, fun k hk hlt => ?_⟩
          rcases List.mem_cons.mp hk with rfl | hk
          · exact absurd hlt (lt_irrefl _)
          · exact absurd hlt (not_lt.mpr (hl'.1 k hk).le)
        · refine ⟨List.mem_cons_of_mem _ h3, h4, h.trans h5, fun k hk hlt => ?_⟩
          rcases List.mem_cons.mp hk with rfl | hk
          · exact h5
          · exact h6 k hk hlt

/-- The first position at which `w` is greatest. -/
def first (w : Fin 1000 → EReal) : Fin 1000 := ((List.finRange 1000).foldl (better w) (⊥, 0)).2

/-- The running comparison over all positions ends at the greatest score and its first position. -/
theorem better_first (w : Fin 1000 → EReal) :
    IsFirst w (first w) ∧ (List.finRange 1000).foldl (better w) (⊥, 0) = (w (first w), first w) := by
  obtain ⟨⟨-, h2⟩, h3⟩ := better_spec w (List.finRange 1000) (List.pairwise_lt_finRange 1000) (⊥, 0)
  unfold first
  generalize (List.finRange 1000).foldl (better w) (⊥, 0) = R at h2 h3 ⊢
  rcases h3 with rfl | ⟨-, h4, -, h6⟩
  · have hb : ∀ j, w j = ⊥ := fun j => le_bot_iff.mp (h2 j (List.mem_finRange j))
    refine ⟨⟨fun j => by rw [hb, hb], fun j hj => absurd hj (by exact not_lt.mpr (Fin.zero_le j))⟩, by rw [hb]⟩
  · exact ⟨⟨fun j => h4 ▸ h2 j (List.mem_finRange j), fun j hj => h4 ▸ h6 j (List.mem_finRange j) hj⟩, Prod.ext h4 rfl⟩

/-- The chosen position is the first of the greatest. -/
theorem first_isFirst (w : Fin 1000 → EReal) : IsFirst w (first w) := (better_first w).1

/-- The greatest of the scores is the score at the first greatest position. -/
theorem fold_first (w : Fin 1000 → EReal) : Finset.univ.fold max ⊥ w = w (first w) :=
  le_antisymm (Finset.fold_max_le _ |>.mpr ⟨bot_le, fun j _ => (first_isFirst w).1 j⟩)
    (Finset.le_fold_max _ |>.mpr (Or.inr ⟨_, Finset.mem_univ _, le_rfl⟩))

section
variable (bx : Fin 1000 → Fin 4 → EReal) (lb val : Fin 1000 → EReal)

/-- The greatest coordinate of all boxes. -/
def maxCoord : EReal := Finset.univ.fold max ⊥ fun x : Fin 1000 × Fin 4 => bx x.1 x.2
/-- The boxes moved apart by their labels. -/
def shifted (p : Fin 1000) (k : Fin 4) : EReal := bx p k + lb p * (maxCoord bx + Ideal.ofBits .f32 0x3F800000#32)
/-- Their areas. -/
def area (p : Fin 1000) : EReal :=
  (shifted bx lb p 2 - shifted bx lb p 0) * (shifted bx lb p 3 - shifted bx lb p 1)
/-- The area two of them share. -/
def inter (p i : Fin 1000) : EReal :=
  max 0 (min (shifted bx lb p 2) (shifted bx lb i 2) - max (shifted bx lb p 0) (shifted bx lb i 0)) *
    max 0 (min (shifted bx lb p 3) (shifted bx lb i 3) - max (shifted bx lb p 1) (shifted bx lb i 1))
/-- Whether box `p` overlaps box `i` by more than a half. -/
def overlaps (p i : Fin 1000) : BitVec 1 :=
  Ideal.cmp .ogt (Ideal.div (inter bx lb p i) (area bx lb p + area bx lb i - inter bx lb p i + Ideal.ofBits .f32 0x3089705F#32)) half

/-- The scores left after `k` boxes are kept: those overlapping a kept box are at minus infinity. -/
def left : ℕ → Fin 1000 → EReal
  | 0 => val
  | k + 1 => fun p => Scalar.select (overlaps bx lb p (first (left k))) ⊥ (left k p)

/-- A score left is the box's own score or minus infinity. -/
theorem left_eq (k : ℕ) (p : Fin 1000) : left bx lb val k p = ⊥ ∨ left bx lb val k p = val p := by
  induction k with
  | zero => exact Or.inr rfl
  | succ k ih =>
    unfold left Scalar.select
    split
    · exact Or.inl rfl
    · exact ih

/-- The box kept `k`-th. -/
def kept (k : ℕ) : Fin 1000 := first (left bx lb val k)

/-- Row `k` of the result: the box kept `k`-th and its score, zeros where no positive score is left. -/
def row (k : ℕ) : Fin 5 → EReal :=
  if 0 < left bx lb val k (kept bx lb val k) then
    ![bx (kept bx lb val k) 0, bx (kept bx lb val k) 1, bx (kept bx lb val k) 2, bx (kept bx lb val k) 3, val (kept bx lb val k)]
  else 0

/-- Where a positive score is left, it is the box's own. -/
theorem left_of_pos {k : ℕ} {p : Fin 1000} (h : 0 < left bx lb val k p) : left bx lb val k p = val p :=
  (left_eq bx lb val k p).resolve_left fun e => absurd (e ▸ h) (not_lt.mpr bot_le)

end

end Cert.Greedy

end
-- ==== Proof.Pick.lean ====
/-
  Picking entries by index words: gathers of rows, of single entries and of rows named by two coordinates, read where the
  index words are in range, and the positions a top-k selection leaves.
-/
module

public import Idealize.ShloMosaic.Lib.Pointwise
public import Idealize.ShloMosaic.Lib.DynamicIndex
public import Idealize.ShloMosaic.Lib.WordCmp
public import Idealize.ShloMosaic.Lib.Scf.Counter

@[expose] public section

noncomputable section

namespace Cert.Pick

open Idealize.ShloMosaic

/-- A word below 2^31 read as a signed integer. -/
theorem toInt_toNat {n : ℕ} (h : n < 2147483648) : (BitVec.ofNat 32 n).toInt.toNat = n := by
  rw [BitVec.toInt_eq_toNat_of_lt (by rw [BitVec.toNat_ofNat]; omega), BitVec.toNat_ofNat]; omega

/-- A loop's counter before trip `k`, counting from zero by one. -/
theorem iv_eq (k : ℕ) : Scf.iv 0#32 1#32 k = BitVec.ofNat 32 k := by
  induction k with
  | zero => rfl
  | succ k ih => rw [Scf.iv_succ, ih]; exact (BitVec.ofNat_add ..).symm

variable {α : Type}

/-- An index that is not negative is not counted from the end. -/
theorem wrap_small {n : ℕ} (h : n < 2147483648) (a : BitVec 32) :
    Scalar.select (IntOp.cmpi .slt (BitVec.ofNat 32 n) 0#32) a (BitVec.ofNat 32 n) = BitVec.ofNat 32 n := by
  rw [WordCmp.cmpi_slt_zero, WordCmp.select_decide, if_neg]
  rw [BitVec.toNat_ofNat]; omega

/-- The dimension numbers of a gather of rows. -/
abbrev rowDims (N C R : ℕ) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A gather of rows, where the index word names row `n`. -/
theorem rowGather {N C R : ℕ} (wf) (x : (⟨2, ![N, C]⟩ : Shape).Idx → α) (idx : IVec ⟨2, ![R, 1]⟩ 32) (p : Fin R) (k : Fin C)
    (n : Fin N) (hN : N ≤ 2147483648) (h : idx (ix2 p 0) = BitVec.ofNat 32 n.val) :
    Host.gather (rowDims N C R wf) x idx (ix2 p k) = x (ix2 n k) := by
  unfold Host.gather
  congr 1
  have hsi : (rowDims N C R wf).siIdx (ix2 p k) ⟨List.idxOf (0 : Fin 2) (rowDims N C R wf).startIndexMap,
      List.idxOf_lt_length_iff.2 (List.mem_singleton.mpr rfl)⟩ = ix2 p 0 := by
    funext b; refine Fin.ext ?_
    match b with
    | ⟨0, _⟩ => rfl
    | ⟨1, _⟩ => rfl
  funext a
  refine Fin.ext ?_
  show (rowDims N C R wf).start (ix2 p k) idx a + (rowDims N C R wf).batchCoord (ix2 p k) a + (rowDims N C R wf).offCoord (ix2 p k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (rowDims N C R wf).startIndexMap from List.mem_singleton.mpr rfl)]
    rw [show (rowDims N C R wf).siIdx (ix2 p k) ⟨List.idxOf (⟨0, by decide⟩ : Fin 2) (rowDims N C R wf).startIndexMap, _⟩ = ix2 p 0 from hsi, h,
      toInt_toNat (by have := n.isLt; omega)]
    have := n.isLt
    show min n.val (N - 1) = n.val
    omega
  | ⟨1, _⟩ =>
    have h0 : (rowDims N C R wf).start (ix2 p k) idx ⟨1, Nat.one_lt_two⟩ = 0 := by
      unfold GatherDims.start
      exact dif_neg (by simp)
    rw [h0, Nat.zero_add]
    rfl

/-- The dimension numbers of a gather of single entries. -/
abbrev entryDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A gather of entries, where the index word names entry `n`. -/
theorem entryGather {N R : ℕ} (wf) (x : (⟨1, ![N]⟩ : Shape).Idx → α) (idx : IVec ⟨2, ![R, 1]⟩ 32) (p : Fin R)
    (n : Fin N) (hN : N ≤ 2147483648) (h : idx (ix2 p 0) = BitVec.ofNat 32 n.val) :
    Host.gather (entryDims N R wf) x idx (ix1 p) = x (ix1 n) := by
  unfold Host.gather
  congr 1
  have hsi : (entryDims N R wf).siIdx (ix1 p) ⟨List.idxOf (0 : Fin 1) (entryDims N R wf).startIndexMap,
      List.idxOf_lt_length_iff.2 (List.mem_singleton.mpr rfl)⟩ = ix2 p 0 := by
    funext b; refine Fin.ext ?_
    match b with
    | ⟨0, _⟩ => rfl
    | ⟨1, _⟩ => rfl
  funext a
  obtain rfl : a = 0 := Subsingleton.elim _ _
  refine Fin.ext ?_
  show (entryDims N R wf).start (ix1 p) idx 0 + (entryDims N R wf).batchCoord (ix1 p) 0 + (entryDims N R wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N R wf).startIndexMap from List.mem_singleton.mpr rfl), hsi, h,
      toInt_toNat (by have := n.isLt; omega)]
  have := n.isLt
  show min n.val (N - 1) = n.val
  omega

/-- The dimension numbers of a gather of rows named by two coordinates. -/
abbrev pairDims (N G C R : ℕ) (wf : GatherDims.WF ⟨3, ![N, G, C]⟩ ⟨2, ![R, 2]⟩ ⟨2, ![R, C]⟩ [1] [0, 1] [] [0, 1] [] 1 ![1, 1, C]) :
    GatherDims ⟨3, ![N, G, C]⟩ ⟨2, ![R, 2]⟩ ⟨2, ![R, C]⟩ where
  offsetDims := [1]
  collapsedSliceDims := [0, 1]
  operandBatchingDims := []
  startIndicesBatchingDims := []
  startIndexMap := [0, 1]
  indexVectorDim := 1
  sliceSizes := ![1, 1, C]
  wf := wf

/-- A gather of rows named by two coordinates, where the index words name `(n, g)`. -/
theorem pairGather {N G C R : ℕ} (wf) (x : (⟨3, ![N, G, C]⟩ : Shape).Idx → α) (idx : IVec ⟨2, ![R, 2]⟩ 32) (p : Fin R) (k : Fin C)
    (n : Fin N) (g : Fin G) (hN : N ≤ 2147483648) (hG : G ≤ 2147483648) (h0 : idx (ix2 p 0) = BitVec.ofNat 32 n.val)
    (h1 : idx (ix2 p 1) = BitVec.ofNat 32 g.val) :
    Host.gather (pairDims N G C R wf) x idx (ix2 p k) = x (ix3 n g k) := by
  unfold Host.gather
  congr 1
  have hs0 (q) : (pairDims N G C R wf).siIdx (ix2 p k) ⟨List.idxOf (⟨0, by decide⟩ : Fin 3) (pairDims N G C R wf).startIndexMap, q⟩ = ix2 p 0 := by
    funext b; refine Fin.ext ?_
    match b with
    | ⟨0, _⟩ => rfl
    | ⟨1, _⟩ => rfl
  have hs1 (q) : (pairDims N G C R wf).siIdx (ix2 p k) ⟨List.idxOf (⟨1, by decide⟩ : Fin 3) (pairDims N G C R wf).startIndexMap, q⟩ = ix2 p 1 := by
    funext b; refine Fin.ext ?_
    match b with
    | ⟨0, _⟩ => rfl
    | ⟨1, _⟩ => rfl
  funext a
  refine Fin.ext ?_
  show (pairDims N G C R wf).start (ix2 p k) idx a + (pairDims N G C R wf).batchCoord (ix2 p k) a + (pairDims N G C R wf).offCoord (ix2 p k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (by simp)), Nat.add_zero]
    unfold GatherDims.start
    rw [dif_pos (show (⟨0, by decide⟩ : Fin 3) ∈ (pairDims N G C R wf).startIndexMap by simp), hs0, h0,
      toInt_toNat (by have := n.isLt; omega)]
    have := n.isLt
    show min n.val (N - 1) = n.val
    omega
  | ⟨1, _⟩ =>
    rw [GatherDims.offCoord_eq_zero _ _ _ (fun h => ((GatherDims.mem_sKept _ _).mp h).1 (by simp)), Nat.add_zero]
    unfold GatherDims.start
    rw [dif_pos (show (⟨1, by decide⟩ : Fin 3) ∈ (pairDims N G C R wf).startIndexMap by simp), hs1, h1,
      toInt_toNat (by have := g.isLt; omega)]
    have := g.isLt
    show min g.val (G - 1) = g.val
    omega
  | ⟨2, _⟩ =>
    have h0 : (pairDims N G C R wf).start (ix2 p k) idx ⟨2, Nat.lt_succ_self 2⟩ = 0 := by
      unfold GatherDims.start
      exact dif_neg (by simp)
    rw [h0, Nat.zero_add]
    rfl

/-- The position words a top-k selection of a vector leaves are words of positions of that vector. -/
theorem topK_positions {N K : ℕ} (gt : α → α → BitVec 1) (x : (⟨1, ![N]⟩ : Shape).Idx → α) (h) (p : Fin K) :
    ∃ q : Fin N, (Host.topK (s := ⟨1, ![N]⟩) ⟨1, ![K]⟩ 0 gt x h).2 (ix1 p) = BitVec.ofNat 32 q.val := by
  unfold Host.topK Host.sort2
  simp only [extractStridedSlice, iotaInDim]
  rw [dif_pos (by decide)]
  exact ⟨_, rfl⟩

end Cert.Pick

end
-- ==== Proof.Chosen.lean ====
/-
  The thousand candidates both programs select: their positions, scores, boxes and labels, and the rows kept of them.
-/
module

public import proofs.«01_k».proof.Proof.Greedy
public import proofs.«01_k».proof.Proof.Pick

@[expose] public section

noncomputable section

namespace Cert.Chosen

open Idealize.ShloMosaic Cert.Spec

variable (A0 : Fin 20000 → Fin 81 → EReal) (A1 : Fin 20000 → Fin 324 → EReal) (A2 : Fin 20000 → Fin 4 → EReal)

/-- A thousand positions lie among the candidates. -/
theorem fits : (⟨1, ![1600000]⟩ : Shape).Slices (fun _ => 0) ⟨1, ![1000]⟩ := by decide

/-- The selection of the thousand greatest masked scores. -/
def top : FVec Ideal ⟨1, ![1000]⟩ .f32 × IVec ⟨1, ![1000]⟩ 32 :=
  Host.topK (s := ⟨1, ![1600000]⟩) ⟨1, ![1000]⟩ 0 (FloatOps.cmpfTotal (F := Ideal) (φ := .f32) .gt) (cand A0 A1 A2) fits

/-- Every selected position is a candidate's. -/
theorem top_position (p : Fin 1000) : ∃ q : Fin 1600000, (top A0 A1 A2).2 (ix1 p) = BitVec.ofNat 32 q.val :=
  Pick.topK_positions (N := 1600000) (FloatOps.cmpfTotal (F := Ideal) (φ := .f32) .gt) (cand A0 A1 A2) fits p
/-- The candidate selected at position `p`. -/
def sel (p : Fin 1000) : Fin 1600000 := (top_position A0 A1 A2 p).choose
/-- The word at position `p` names the candidate `sel p`. -/
theorem top_snd (p : Fin 1000) : (top A0 A1 A2).2 (ix1 p) = BitVec.ofNat 32 (sel A0 A1 A2 p).val :=
  (top_position A0 A1 A2 p).choose_spec

/-- Its score. -/
def val (p : Fin 1000) : EReal := (top A0 A1 A2).1 (ix1 p)
/-- Its box. -/
def bx (p : Fin 1000) : Fin 4 → EReal := boxAt A1 A2 (rowOf (sel A0 A1 A2 p)) (clsOf (sel A0 A1 A2 p))
/-- Its label, as the word the programs hold. -/
def word (p : Fin 1000) : BitVec 32 := BitVec.ofNat 32 ((clsOf (sel A0 A1 A2 p)).val + 1)
/-- Its label, as a number. -/
def lb (p : Fin 1000) : EReal := FloatOps.sitofp (F := Ideal) .f32 (word A0 A1 A2 p)

/-- The result: a hundred rows of box corners and score. -/
def result (k : Fin 100) (j : Fin 5) : EReal := Greedy.row (bx A0 A1 A2) (lb A0 A1 A2) (val A0 A1 A2) k.val j

end Cert.Chosen

end
-- ==== Proof.RefPre.lean ====
/-
  What the reference's operations before its loop leave, read at an index: the boxes and scores of all candidates.
-/
module

public import proofs.«01_k».proof.Proof.Spec
public import proofs.«01_k».proof.Proof.RefRun
public import Idealize.ShloMosaic.Lib.Pointwise
public import Idealize.ShloMosaic.Lib.StableHlo.ReadAt

@[expose] public section

noncomputable section

namespace Cert.ReferenceIdeal.Hand

open Cert.ReferenceIdeal Cert.ReferenceIdeal.Gen Cert.Spec
open Idealize.ShloMosaic Idealize.ShloMosaic.TcCoe Idealize.ShloMosaic.StableHlo

variable (V : Valuation τ sig (Elt Ideal))

/-- The logits, deltas and proposals the program is started from, by row and column. -/
def A0 : Fin 20000 → Fin 81 → EReal := fun n k => (V main_arg0 : FVec Ideal S20000x81 .f32) (ix2 n k)
def A1 : Fin 20000 → Fin 324 → EReal := fun n k => (V main_arg1 : FVec Ideal S20000x324 .f32) (ix2 n k)
def A2 : Fin 20000 → Fin 4 → EReal := fun n k => (V main_arg2 : FVec Ideal S20000x4 .f32) (ix2 n k)

section
variable {F : FTy → Type} [FloatOps F] (V : Valuation τ sig (Elt F))

/-! The softmax of the logits, in three parts. -/
def rmaxV (x : FVec F S20000x81 .f32) : FVec F S20000 .f32 :=
  Host.reduce FloatOps.maximumf x (constant S_ .f32 0xFF800000#32) reducesTo_S20000x81_S20000_d1 h_S_
def expV (x : FVec F S20000x81 .f32) (y : FVec F S20000 .f32) : FVec F S20000x81 .f32 :=
  Host.exp (subf x (broadcastInDim S20000x81 ![0, 1] bcast_S20000x1_S20000x81_0_1 (broadcastInDim S20000x1 ![0] bcast_S20000_S20000x1_0
    (maximumf (broadcastInDim S20000 ![] bcast_S_S20000 (constant S_ .f32 0xFF800000#32)) y))))
def sumV (x : FVec F S20000x81 .f32) : FVec F S20000 .f32 :=
  Host.reduceAdd x (constant S_ .f32 0x00000000#32) reducesTo_S20000x81_S20000_d1 h_S_
def probV (x : FVec F S20000x81 .f32) (y : FVec F S20000 .f32) : FVec F S20000x81 .f32 :=
  Host.divf x (broadcastInDim S20000x81 ![0, 1] bcast_S20000x1_S20000x81_0_1 (broadcastInDim S20000x1 ![0] bcast_S20000_S20000x1_0 y))

/-! What each buffer holds in terms of the buffers before it: the probabilities, the deltas and proposals, the decoded boxes, the masked
scores, the labels and the selection. -/

theorem v6_eq : after preOps V main_v6 = expV (V main_arg0) (rmaxV (V main_arg0)) := by
  rw [preLine.unary _ 8 rfl (by decide +kernel), preLine.binary _ 7 rfl (by decide +kernel), preLine.unary _ 6 rfl (by decide +kernel),
    preLine.unary _ 5 rfl (by decide +kernel), preLine.binary _ 4 rfl (by decide +kernel), preLine.unary _ 3 rfl (by decide +kernel),
    preLine.nullary _ 2 rfl (by decide +kernel), preLine.binary _ 1 rfl (by decide +kernel), preLine.nullary _ 0 rfl (by decide +kernel),
    preLine.keep _ (by decide +kernel)]
  rfl

theorem v10_eq : after preOps V main_v10 = probV (after preOps V main_v6) (sumV (after preOps V main_v6)) := by
  rw [preLine.binary _ 13 rfl (by decide +kernel), preLine.unary _ 12 rfl (by decide +kernel), preLine.unary _ 11 rfl (by decide +kernel),
    preLine.binary _ 10 rfl (by decide +kernel), preLine.nullary _ 9 rfl (by decide +kernel)]
  rfl

/-! The deltas and proposals of all candidates, and the boxes decoded from them. -/
def deltaV (x : FVec F S20000x324 .f32) : FVec F S1600000x4 .f32 :=
  shapeCast S1600000x4 (extractStridedSlice S20000x320 ![0, 4] x slices_S20000x324_S20000x320_0_4) shapeCasts_S20000x320_S1600000x4
def propV (x : FVec F S20000x4 .f32) : FVec F S1600000x4 .f32 :=
  shapeCast S1600000x4 (broadcastInDim S20000x80x4 ![0, 1, 2] bcast_S20000x1x4_S20000x80x4_0_1_2
    (broadcastInDim S20000x1x4 ![0, 2] bcast_S20000x4_S20000x1x4_0_2 x)) shapeCasts_S20000x80x4_S1600000x4

theorem v12_eq : after preOps V main_v12 = deltaV (V main_arg1) := by
  rw [preLine.reshape _ 15 rfl (by decide +kernel), preLine.unary _ 14 rfl (by decide +kernel), preLine.keep _ (by decide +kernel)]
  rfl
theorem v15_eq : after preOps V main_v15 = propV (V main_arg2) := by
  rw [preLine.reshape _ 18 rfl (by decide +kernel), preLine.unary _ 17 rfl (by decide +kernel), preLine.unary _ 16 rfl (by decide +kernel), preLine.keep _ (by decide +kernel)]
  rfl

/-- Column `j` of an array of four columns. -/
def col (x : FVec F S1600000x4 .f32) (j : ℕ) (h : S1600000x4.Slices ![0, j] S1600000x1) : FVec F S1600000 .f32 :=
  shapeCast S1600000 (extractStridedSlice S1600000x1 ![0, j] x h) shapeCasts_S1600000x1_S1600000
/-- A scalar at every candidate. -/
def splat (b : BitVec 32) : FVec F S1600000 .f32 := broadcastInDim S1600000 ![] bcast_S_S1600000 (constant S_ .f32 b)
/-- The middles along one axis, of deltas `d`, lower corners `lo` and sizes `w`. -/
def midV (d lo w : FVec F S1600000 .f32) : FVec F S1600000 .f32 := addf (mulf d w) (addf lo (mulf (splat 0x3F000000#32) w))
/-- The sizes along one axis. -/
def extV (e w : FVec F S1600000 .f32) : FVec F S1600000 .f32 := mulf (Host.exp (minimumf e (splat 0x40845349#32))) w
def lowV (x e : FVec F S1600000 .f32) : FVec F S1600000 .f32 := subf x (mulf (splat 0x3F000000#32) e)
def highV (x e : FVec F S1600000 .f32) : FVec F S1600000 .f32 := addf x (mulf (splat 0x3F000000#32) e)
/-- Four columns side by side. -/
def boxV (a b c d : FVec F S1600000 .f32) : FVec F S1600000x4 .f32 :=
  concatenate S1600000x4 1 [⟨S1600000x1, broadcastInDim S1600000x1 ![0] bcast_S1600000_S1600000x1_0 a⟩,
    ⟨S1600000x1, broadcastInDim S1600000x1 ![0] bcast_S1600000_S1600000x1_0 b⟩,
    ⟨S1600000x1, broadcastInDim S1600000x1 ![0] bcast_S1600000_S1600000x1_0 c⟩,
    ⟨S1600000x1, broadcastInDim S1600000x1 ![0] bcast_S1600000_S1600000x1_0 d⟩]
    concatenates_S1600000x1_S1600000x1_S1600000x1_S1600000x1_S1600000x4_d1
/-- The masked scores of all candidates, from their scores and boxes. -/
def maskedV (s : FVec F S20000x81 .f32) (b : FVec F S1600000x4 .f32) : FVec F S1600000 .f32 :=
  let s' : FVec F S1600000 .f32 := shapeCast S1600000 (extractStridedSlice S20000x80 ![0, 1] s slices_S20000x81_S20000x80_0_1) shapeCasts_S20000x80_S1600000
  select (andi (cmpf .ogt s' (splat 0x3C23D70A#32))
    (cmpf .ogt (mulf (subf (col b 3 slices_S1600000x4_S1600000x1_0_3) (col b 1 slices_S1600000x4_S1600000x1_0_1))
      (subf (col b 2 slices_S1600000x4_S1600000x1_0_2) (col b 0 slices_S1600000x4_S1600000x1_0_0))) (splat 0x3DCCCCCD#32)))
    s' (splat 0xBF800000#32)
/-- The class words of all candidates. -/
def labelV : IVec S1600000 32 :=
  shapeCast S1600000 (broadcastInDim S20000x80 ![0, 1] bcast_S1x80_S20000x80_0_1 (broadcastInDim S1x80 ![1] bcast_S80_S1x80_1
    (addi (broadcastInDim S80 ![] bcast_S_S80 (constantI S_ 32 1#32)) (iotaInDim S80 32 0)))) shapeCasts_S20000x80_S1600000

theorem v20_eq : after preOps V main_v20 = subf (col (after preOps V main_v15) 2 slices_S1600000x4_S1600000x1_0_2) (col (after preOps V main_v15) 0 slices_S1600000x4_S1600000x1_0_0) := by
  rw [preLine.binary _ 23 rfl (by decide +kernel),
    preLine.reshape _ 22 rfl (by decide +kernel),
    preLine.unary _ 21 rfl (by decide +kernel),
    preLine.reshape _ 20 rfl (by decide +kernel),
    preLine.unary _ 19 rfl (by decide +kernel)]
  rfl
theorem v25_eq : after preOps V main_v25 = subf (col (after preOps V main_v15) 3 slices_S1600000x4_S1600000x1_0_3) (col (after preOps V main_v15) 1 slices_S1600000x4_S1600000x1_0_1) := by
  rw [preLine.binary _ 28 rfl (by decide +kernel),
    preLine.reshape _ 27 rfl (by decide +kernel),
    preLine.unary _ 26 rfl (by decide +kernel),
    preLine.reshape _ 25 rfl (by decide +kernel),
    preLine.unary _ 24 rfl (by decide +kernel)]
  rfl
theorem v49_eq : after preOps V main_v49 = midV (col (after preOps V main_v12) 0 slices_S1600000x4_S1600000x1_0_0) (col (after preOps V main_v15) 0 slices_S1600000x4_S1600000x1_0_0) (after preOps V main_v20) := by
  rw [preLine.binary _ 56 rfl (by decide +kernel),
    preLine.binary _ 55 rfl (by decide +kernel),
    preLine.reshape _ 42 rfl (by decide +kernel),
    preLine.unary _ 41 rfl (by decide +kernel),
    preLine.binary _ 34 rfl (by decide +kernel),
    preLine.binary _ 33 rfl (by decide +kernel),
    preLine.unary _ 32 rfl (by decide +kernel),
    preLine.nullary _ 31 rfl (by decide +kernel),
    preLine.reshape _ 30 rfl (by decide +kernel),
    preLine.unary _ 29 rfl (by decide +kernel)]
  rfl
theorem v51_eq : after preOps V main_v51 = midV (col (after preOps V main_v12) 1 slices_S1600000x4_S1600000x1_0_1) (col (after preOps V main_v15) 1 slices_S1600000x4_S1600000x1_0_1) (after preOps V main_v25) := by
  rw [preLine.binary _ 58 rfl (by decide +kernel),
    preLine.binary _ 57 rfl (by decide +kernel),
    preLine.reshape _ 44 rfl (by decide +kernel),
    preLine.unary _ 43 rfl (by decide +kernel),
    preLine.binary _ 40 rfl (by decide +kernel),
    preLine.binary _ 39 rfl (by decide +kernel),
    preLine.unary _ 38 rfl (by decide +kernel),
    preLine.nullary _ 37 rfl (by decide +kernel),
    preLine.reshape _ 36 rfl (by decide +kernel),
    preLine.unary _ 35 rfl (by decide +kernel)]
  rfl
theorem v53_eq : after preOps V main_v53 = extV (col (after preOps V main_v12) 2 slices_S1600000x4_S1600000x1_0_2) (after preOps V main_v20) := by
  rw [preLine.binary _ 60 rfl (by decide +kernel),
    preLine.unary _ 59 rfl (by decide +kernel),
    preLine.binary _ 51 rfl (by decide +kernel),
    preLine.unary _ 50 rfl (by decide +kernel),
    preLine.nullary _ 49 rfl (by decide +kernel),
    preLine.reshape _ 46 rfl (by decide +kernel),
    preLine.unary _ 45 rfl (by decide +kernel)]
  rfl
theorem v55_eq : after preOps V main_v55 = extV (col (after preOps V main_v12) 3 slices_S1600000x4_S1600000x1_0_3) (after preOps V main_v25) := by
  rw [preLine.binary _ 62 rfl (by decide +kernel),
    preLine.unary _ 61 rfl (by decide +kernel),
    preLine.binary _ 54 rfl (by decide +kernel),
    preLine.unary _ 53 rfl (by decide +kernel),
    preLine.nullary _ 52 rfl (by decide +kernel),
    preLine.reshape _ 48 rfl (by decide +kernel),
    preLine.unary _ 47 rfl (by decide +kernel)]
  rfl
theorem v72_eq : after preOps V main_v72 = boxV (lowV (after preOps V main_v49) (after preOps V main_v53)) (lowV (after preOps V main_v51) (after preOps V main_v55)) (highV (after preOps V main_v49) (after preOps V main_v53)) (highV (after preOps V main_v51) (after preOps V main_v55)) := by
  rw [preLine.nary _ 83 rfl (by decide +kernel)]
  show concatenate S1600000x4 1 [⟨S1600000x1, after preOps V main_v68⟩, ⟨S1600000x1, after preOps V main_v69⟩, ⟨S1600000x1, after preOps V main_v70⟩,
    ⟨S1600000x1, after preOps V main_v71⟩] concatenates_S1600000x1_S1600000x1_S1600000x1_S1600000x1_S1600000x4_d1 = _
  rw [preLine.unary _ 79 rfl (by decide +kernel), preLine.unary _ 80 rfl (by decide +kernel), preLine.unary _ 81 rfl (by decide +kernel), preLine.unary _ 82 rfl (by decide +kernel),
    preLine.binary _ 66 rfl (by decide +kernel), preLine.binary _ 65 rfl (by decide +kernel), preLine.unary _ 64 rfl (by decide +kernel), preLine.nullary _ 63 rfl (by decide +kernel), preLine.binary _ 70 rfl (by decide +kernel), preLine.binary _ 69 rfl (by decide +kernel), preLine.unary _ 68 rfl (by decide +kernel), preLine.nullary _ 67 rfl (by decide +kernel),
    preLine.binary _ 74 rfl (by decide +kernel), preLine.binary _ 73 rfl (by decide +kernel), preLine.unary _ 72 rfl (by decide +kernel), preLine.nullary _ 71 rfl (by decide +kernel), preLine.binary _ 78 rfl (by decide +kernel), preLine.binary _ 77 rfl (by decide +kernel), preLine.unary _ 76 rfl (by decide +kernel), preLine.nullary _ 75 rfl (by decide +kernel)]
  rfl
theorem v97_eq : after preOps V main_v97 = maskedV (after preOps V main_v10) (after preOps V main_v72) := by
  rw [preLine.ternary _ 114 rfl (by decide +kernel),
    preLine.unary _ 113 rfl (by decide +kernel),
    preLine.unary _ 112 rfl (by decide +kernel),
    preLine.nullary _ 111 rfl (by decide +kernel),
    preLine.binary _ 110 rfl (by decide +kernel),
    preLine.binary _ 109 rfl (by decide +kernel),
    preLine.unary _ 108 rfl (by decide +kernel),
    preLine.nullary _ 107 rfl (by decide +kernel),
    preLine.binary _ 106 rfl (by decide +kernel),
    preLine.unary _ 105 rfl (by decide +kernel),
    preLine.nullary _ 104 rfl (by decide +kernel),
    preLine.binary _ 103 rfl (by decide +kernel),
    preLine.binary _ 102 rfl (by decide +kernel),
    preLine.reshape _ 101 rfl (by decide +kernel),
    preLine.unary _ 100 rfl (by decide +kernel),
    preLine.reshape _ 99 rfl (by decide +kernel),
    preLine.unary _ 98 rfl (by decide +kernel),
    preLine.binary _ 97 rfl (by decide +kernel),
    preLine.reshape _ 96 rfl (by decide +kernel),
    preLine.unary _ 95 rfl (by decide +kernel),
    preLine.reshape _ 94 rfl (by decide +kernel),
    preLine.unary _ 93 rfl (by decide +kernel),
    preLine.reshape _ 85 rfl (by decide +kernel),
    preLine.unary _ 84 rfl (by decide +kernel)]
  rfl
theorem v80_eq : after preOps V main_v80 = labelV := by
  rw [preLine.reshape _ 92 rfl (by decide +kernel),
    preLine.unary _ 91 rfl (by decide +kernel),
    preLine.unary _ 90 rfl (by decide +kernel),
    preLine.binary _ 89 rfl (by decide +kernel),
    preLine.unary _ 88 rfl (by decide +kernel),
    preLine.nullary _ 87 rfl (by decide +kernel),
    preLine.nullary _ 86 rfl (by decide +kernel)]
  rfl
theorem values_eq : after preOps V main_values = (Host.topK S1000 0 (FloatOps.cmpfTotal .gt) (after preOps V main_v97) sliceFits_S1600000_S1000).1 :=
  preLine.unary _ 115 rfl (by decide +kernel)
theorem indices_eq : after preOps V main_indices = (Host.topK S1000 0 (FloatOps.cmpfTotal .gt) (after preOps V main_v97) sliceFits_S1600000_S1000).2 :=
  preLine.unary _ 116 rfl (by decide +kernel)
end

/-- The greatest of a row. -/
theorem rmaxV_at (x : FVec Ideal S20000x81 .f32) (n) : rmaxV x (ix1 n) = rowMax fun j => x (ix2 n j) := by
  pointwise [rmaxV]
  rw [ninf_eq]; rfl
/-- The exponential of a difference. -/
theorem expV_at (x : FVec Ideal S20000x81 .f32) (y) (n k) : expV x y (ix2 n k) = Ideal.exp (x (ix2 n k) - y (ix1 n)) := by
  pointwise [expV]
  rw [ninf_eq, max_eq_right bot_le]
/-- The sum of a row. -/
theorem sumV_at (x : FVec Ideal S20000x81 .f32) (n) : sumV x (ix1 n) = ∑ j, x (ix2 n j) := by
  pointwise [sumV]
/-- A quotient by the row's sum. -/
theorem probV_at (x : FVec Ideal S20000x81 .f32) (y) (n k) : probV x y (ix2 n k) = Ideal.div (x (ix2 n k)) (y (ix1 n)) := by
  pointwise [probV]
/-- The deltas of flat candidate `q`. -/
theorem deltaV_at (x : FVec Ideal S20000x324 .f32) (q k) : deltaV x (ix2 q k) = delta (fun n k => x (ix2 n k)) (rowOf q) (clsOf q) k := by
  pointwise [deltaV]
  unfold delta rowOf clsOf
  congr 2
  simp only [Fin.mk.injEq]; omega
/-- Its proposal. -/
theorem propV_at (x : FVec Ideal S20000x4 .f32) (q k) : propV x (ix2 q k) = x (ix2 (rowOf q) k) := by
  pointwise [propV]
  rfl

/-! The columns of a table. -/

theorem col0_at (x : FVec Ideal S1600000x4 .f32) (h) (q) : col x 0 h (ix1 q) = x (ix2 q 0) := by pointwise [col]
theorem col1_at (x : FVec Ideal S1600000x4 .f32) (h) (q) : col x 1 h (ix1 q) = x (ix2 q 1) := by pointwise [col]
theorem col2_at (x : FVec Ideal S1600000x4 .f32) (h) (q) : col x 2 h (ix1 q) = x (ix2 q 2) := by pointwise [col]
theorem col3_at (x : FVec Ideal S1600000x4 .f32) (h) (q) : col x 3 h (ix1 q) = x (ix2 q 3) := by pointwise [col]
/-- One number at every position. -/
theorem splat_at (b q) : splat (F := Ideal) b (ix1 q) = Ideal.ofBits .f32 b := by pointwise [splat]
/-- The middle of a box along one axis. -/
theorem midV_at (d lo w : FVec Ideal S1600000 .f32) (q) :
    midV d lo w (ix1 q) = d (ix1 q) * w (ix1 q) + (lo (ix1 q) + half * w (ix1 q)) := by pointwise [midV, splat]
/-- Its size. -/
theorem extV_at (e w : FVec Ideal S1600000 .f32) (q) : extV e w (ix1 q) = Ideal.exp (min (e (ix1 q)) clip) * w (ix1 q) := by
  pointwise [extV, splat]
/-- Its lower corner. -/
theorem lowV_at (x e : FVec Ideal S1600000 .f32) (q) : lowV x e (ix1 q) = x (ix1 q) - half * e (ix1 q) := by pointwise [lowV, splat]
/-- Its upper corner. -/
theorem highV_at (x e : FVec Ideal S1600000 .f32) (q) : highV x e (ix1 q) = x (ix1 q) + half * e (ix1 q) := by pointwise [highV, splat]
/-- The four corners as a table. -/
theorem boxV_at (a b c d : FVec Ideal S1600000 .f32) (q) :
    (fun k => boxV a b c d (ix2 q k)) = ![a (ix1 q), b (ix1 q), c (ix1 q), d (ix1 q)] := by
  funext k; fin_cases k <;> pointwise [boxV] <;> rfl
/-- The masked score of flat candidate `q`. -/
theorem maskedV_at (s : FVec Ideal S20000x81 .f32) (b) (q) :
    maskedV s b (ix1 q) = masked (s (ix2 (rowOf q) (clsOf q).succ)) (fun k => b (ix2 q k)) := by
  have e : ∀ h, (⟨1 + q.val % 80, h⟩ : Fin 81) = (clsOf q).succ := fun h => Fin.ext (Nat.add_comm ..)
  pointwise [maskedV, col, splat]
  rw [e]
  rfl
/-- Its label. -/
theorem labelV_at (q) : labelV (ix1 q) = BitVec.ofNat 32 ((clsOf q).val + 1) := by
  pointwise [labelV]
  rw [Nat.add_comm]
  exact (BitVec.ofNat_add ..).symm

/-- The probabilities. -/
theorem v10_at (n k) : (after preOps V main_v10 : FVec Ideal S20000x81 .f32) (ix2 n k) = prob (A0 V n) k := by
  rw [v10_eq, v6_eq, probV_at, sumV_at]
  simp only [expV_at, rmaxV_at]
  rfl
/-- The deltas. -/
theorem v12_at (q k) : (after preOps V main_v12 : FVec Ideal S1600000x4 .f32) (ix2 q k) = delta (A1 V) (rowOf q) (clsOf q) k := by
  rw [v12_eq, deltaV_at]; rfl
/-- The proposals. -/
theorem v15_at (q k) : (after preOps V main_v15 : FVec Ideal S1600000x4 .f32) (ix2 q k) = A2 V (rowOf q) k := by
  rw [v15_eq, propV_at]; rfl
/-- The proposals' widths. -/
theorem v20_at (q) : (after preOps V main_v20 : FVec Ideal S1600000 .f32) (ix1 q) = A2 V (rowOf q) 2 - A2 V (rowOf q) 0 := by
  rw [v20_eq]
  exact congrArg₂ (· - ·) ((col2_at _ _ q).trans (v15_at V q 2)) ((col0_at _ _ q).trans (v15_at V q 0))
/-- Their heights. -/
theorem v25_at (q) : (after preOps V main_v25 : FVec Ideal S1600000 .f32) (ix1 q) = A2 V (rowOf q) 3 - A2 V (rowOf q) 1 := by
  rw [v25_eq]
  exact congrArg₂ (· - ·) ((col3_at _ _ q).trans (v15_at V q 3)) ((col1_at _ _ q).trans (v15_at V q 1))
/-- The box of every candidate. -/
theorem v72_at (q) : (fun k => (after preOps V main_v72 : FVec Ideal S1600000x4 .f32) (ix2 q k)) = boxAt (A1 V) (A2 V) (rowOf q) (clsOf q) := by
  rw [v72_eq, boxV_at, lowV_at, lowV_at, highV_at, highV_at, v49_eq, v51_eq, v53_eq, v55_eq, midV_at, midV_at, extV_at, extV_at,
    col0_at, col1_at, col2_at, col3_at, col0_at, col1_at, v12_at, v12_at, v12_at, v12_at, v15_at, v15_at, v20_at, v25_at]
  rfl
/-- The masked scores of all candidates. -/
theorem v97_at : (after preOps V main_v97 : FVec Ideal S1600000 .f32) = cand (A0 V) (A1 V) (A2 V) := by
  funext i
  obtain ⟨q, rfl⟩ : ∃ q : Fin 1600000, i = ix1 q := ⟨i 0, by funext a; fin_cases a; rfl⟩
  rw [v97_eq, maskedV_at, v72_at, v10_at]
  rfl

end Cert.ReferenceIdeal.Hand
-- ==== Proof.RefNms.lean ====
/-
  What the reference's loop starts from: the selected boxes, moved apart by their labels, and their scores.
-/
module

public import proofs.«01_k».proof.Proof.Chosen
public import proofs.«01_k».proof.Proof.RefPre

@[expose] public section

noncomputable section

namespace Cert.ReferenceIdeal.Hand

open Cert.ReferenceIdeal Cert.ReferenceIdeal.Gen Cert.Spec
open Idealize.ShloMosaic Idealize.ShloMosaic.TcCoe Idealize.ShloMosaic.StableHlo

section
variable {F : FTy → Type} [FloatOps F] (V : Valuation τ sig (Elt F))

/-- Index words counted from the end where negative, as a column. -/
def wrapV (i : IVec S1000 32) : IVec S1000x1 32 :=
  broadcastInDim S1000x1 ![0] bcast_S1000_S1000x1_0 (select (cmpi .slt i (broadcastInDim S1000 ![] bcast_S_S1000 (constantI S_ 32 0#32)))
    (addi i (broadcastInDim S1000 ![] bcast_S_S1000 (constantI S_ 32 1600000#32))) i)
def maxV (x : FVec F S1000x4 .f32) : FVec F S_ .f32 :=
  Host.reduce FloatOps.maximumf x (constant S_ .f32 0xFF800000#32) reducesTo_S1000x4_S_d0_1 h_S_
/-- The boxes moved apart by their labels. -/
def shiftV (x : FVec F S1000x4 .f32) (y : IVec S1000 32) (g : FVec F S_ .f32) : FVec F S1000x4 .f32 :=
  addf x (broadcastInDim S1000x4 ![0, 1] bcast_S1000x1_S1000x4_0_1 (broadcastInDim S1000x1 ![0] bcast_S1000_S1000x1_0
    (mulf (sitofp .f32 y) (broadcastInDim S1000 ![] bcast_S_S1000 (addf g (constant S_ .f32 0x3F800000#32))))))
def corner (x : FVec F S1000x4 .f32) (k : ℕ) (h : S1000x4.Slices ![0, k] S1000x1) : FVec F S1000 .f32 :=
  shapeCast S1000 (extractStridedSlice S1000x1 ![0, k] x h) shapeCasts_S1000x1_S1000
def areaV (a b c d : FVec F S1000 .f32) : FVec F S1000 .f32 := mulf (subf c a) (subf d b)

/-! What each buffer holds in terms of the buffers before it: the gathered boxes and labels, the greatest coordinate, the shifted boxes
and their areas. -/

theorem v103_eq : after preOps V main_v103 = wrapV (after preOps V main_indices) := by
  rw [preLine.unary _ 124 rfl (by decide +kernel), preLine.ternary _ 123 rfl (by decide +kernel), preLine.binary _ 119 rfl (by decide +kernel),
    preLine.unary _ 118 rfl (by decide +kernel), preLine.nullary _ 117 rfl (by decide +kernel), preLine.binary _ 122 rfl (by decide +kernel),
    preLine.unary _ 121 rfl (by decide +kernel), preLine.nullary _ 120 rfl (by decide +kernel)]
  rfl
theorem v110_eq : after preOps V main_v110 = wrapV (after preOps V main_indices) := by
  rw [preLine.unary _ 133 rfl (by decide +kernel), preLine.ternary _ 132 rfl (by decide +kernel), preLine.binary _ 128 rfl (by decide +kernel),
    preLine.unary _ 127 rfl (by decide +kernel), preLine.nullary _ 126 rfl (by decide +kernel), preLine.binary _ 131 rfl (by decide +kernel),
    preLine.unary _ 130 rfl (by decide +kernel), preLine.nullary _ 129 rfl (by decide +kernel)]
  rfl
theorem v104_eq : after preOps V main_v104 = Host.gather gather_S1600000x4_S1000x1_S1000x4_1_0_n_n_0_1_14 (after preOps V main_v72)
    (after preOps V main_v103) := preLine.binary _ 125 rfl (by decide +kernel)
theorem v111_eq : after preOps V main_v111 = Host.gather gather_S1600000_S1000x1_S1000_n_0_n_n_0_1_1 (after preOps V main_v80)
    (after preOps V main_v110) := preLine.binary _ 134 rfl (by decide +kernel)
theorem v112_eq : after preOps V main_v112 = maxV (after preOps V main_v104) := by
  rw [preLine.binary _ 136 rfl (by decide +kernel), preLine.nullary _ 135 rfl (by decide +kernel)]
  rfl
theorem v119_eq : after preOps V main_v119 = shiftV (after preOps V main_v104) (after preOps V main_v111) (after preOps V main_v112) := by
  rw [preLine.binary _ 144 rfl (by decide +kernel), preLine.unary _ 143 rfl (by decide +kernel), preLine.unary _ 142 rfl (by decide +kernel),
    preLine.binary _ 141 rfl (by decide +kernel), preLine.unary _ 140 rfl (by decide +kernel), preLine.unary _ 139 rfl (by decide +kernel),
    preLine.binary _ 138 rfl (by decide +kernel), preLine.nullary _ 137 rfl (by decide +kernel)]
  rfl
theorem v121_eq : after preOps V main_v121 = corner (after preOps V main_v119) 0 slices_S1000x4_S1000x1_0_0 := by
  rw [preLine.reshape _ 146 rfl (by decide +kernel), preLine.unary _ 145 rfl (by decide +kernel)]
  rfl
theorem v123_eq : after preOps V main_v123 = corner (after preOps V main_v119) 1 slices_S1000x4_S1000x1_0_1 := by
  rw [preLine.reshape _ 148 rfl (by decide +kernel), preLine.unary _ 147 rfl (by decide +kernel)]
  rfl
theorem v125_eq : after preOps V main_v125 = corner (after preOps V main_v119) 2 slices_S1000x4_S1000x1_0_2 := by
  rw [preLine.reshape _ 150 rfl (by decide +kernel), preLine.unary _ 149 rfl (by decide +kernel)]
  rfl
theorem v127_eq : after preOps V main_v127 = corner (after preOps V main_v119) 3 slices_S1000x4_S1000x1_0_3 := by
  rw [preLine.reshape _ 152 rfl (by decide +kernel), preLine.unary _ 151 rfl (by decide +kernel)]
  rfl
theorem v130_eq : after preOps V main_v130 = areaV (after preOps V main_v121) (after preOps V main_v123) (after preOps V main_v125)
    (after preOps V main_v127) := by
  rw [preLine.binary _ 155 rfl (by decide +kernel), preLine.binary _ 154 rfl (by decide +kernel), preLine.binary _ 153 rfl (by decide +kernel)]
  rfl
end

/-- An index that is not negative stays. -/
theorem wrapV_at (i : IVec S1000 32) (p) (q : Fin 1600000) (h : i (ix1 p) = BitVec.ofNat 32 q.val) :
    wrapV i (ix2 p 0) = BitVec.ofNat 32 q.val := by
  pointwise [wrapV]
  rw [h]
  exact Pick.wrap_small (by omega) _
/-- The greatest coordinate of a table. -/
theorem maxV_at (x : FVec Ideal S1000x4 .f32) (i) : maxV x i = Greedy.maxCoord fun p k => x (ix2 p k) := by
  pointwise [maxV]
  rw [ninf_eq]; rfl
/-- A box shifted by its class. -/
theorem shiftV_at (x : FVec Ideal S1000x4 .f32) (y) (g) (p k) :
    shiftV x y g (ix2 p k) = x (ix2 p k) + FloatOps.sitofp (F := Ideal) .f32 (y (ix1 p)) * (g (fun a => a.elim0) + Ideal.ofBits .f32 0x3F800000#32) := by
  pointwise [shiftV]
  rfl

/-! The corners of a box. -/

theorem corner0_at (x : FVec Ideal S1000x4 .f32) (h) (p) : corner x 0 h (ix1 p) = x (ix2 p 0) := by pointwise [corner]
theorem corner1_at (x : FVec Ideal S1000x4 .f32) (h) (p) : corner x 1 h (ix1 p) = x (ix2 p 1) := by pointwise [corner]
theorem corner2_at (x : FVec Ideal S1000x4 .f32) (h) (p) : corner x 2 h (ix1 p) = x (ix2 p 2) := by pointwise [corner]
theorem corner3_at (x : FVec Ideal S1000x4 .f32) (h) (p) : corner x 3 h (ix1 p) = x (ix2 p 3) := by pointwise [corner]
/-- The area of a box. -/
theorem areaV_at (a b c d : FVec Ideal S1000 .f32) (p) :
    areaV a b c d (ix1 p) = (c (ix1 p) - a (ix1 p)) * (d (ix1 p) - b (ix1 p)) := by pointwise [areaV]

section
variable (V : Valuation τ sig (Elt Ideal))

/-- The selected boxes, labels and scores of the reference. -/
abbrev rbx := Chosen.bx (A0 V) (A1 V) (A2 V)
abbrev rlb := Chosen.lb (A0 V) (A1 V) (A2 V)
abbrev rval := Chosen.val (A0 V) (A1 V) (A2 V)

/-- The selected positions. -/
theorem indices_at (p) : (after preOps V main_indices : IVec S1000 32) (ix1 p) = BitVec.ofNat 32 (Chosen.sel (A0 V) (A1 V) (A2 V) p).val := by
  rw [indices_eq, v97_at]; exact Chosen.top_snd _ _ _ p
/-- The selected scores. -/
theorem values_at (p) : (after preOps V main_values : FVec Ideal S1000 .f32) (ix1 p) = rval V p := by
  rw [values_eq, v97_at]; rfl
/-- The selected boxes. -/
theorem v104_at (p k) : (after preOps V main_v104 : FVec Ideal S1000x4 .f32) (ix2 p k) = rbx V p k := by
  rw [v104_eq, v103_eq]
  refine (Pick.rowGather _ _ _ p k _ (by decide) (wrapV_at _ p _ (indices_at V p))).trans ?_
  exact congrFun (v72_at V _) k
/-- Their labels. -/
theorem v111_at (p) : (after preOps V main_v111 : IVec S1000 32) (ix1 p) = Chosen.word (A0 V) (A1 V) (A2 V) p := by
  rw [v111_eq, v110_eq]
  refine (Pick.entryGather _ _ _ p _ (by decide) (wrapV_at _ p _ (indices_at V p))).trans ?_
  rw [v80_eq]
  exact labelV_at _
/-- Their greatest coordinate. -/
theorem v112_at (i) : (after preOps V main_v112 : FVec Ideal S_ .f32) i = Greedy.maxCoord (rbx V) := by
  rw [v112_eq, maxV_at]
  exact congrArg _ (funext fun p => funext fun k => v104_at V p k)
/-- The shifted boxes. -/
theorem v119_at (p k) : (after preOps V main_v119 : FVec Ideal S1000x4 .f32) (ix2 p k) = Greedy.shifted (rbx V) (rlb V) p k := by
  rw [v119_eq, shiftV_at, v104_at, v111_at, v112_at]
  rfl

/-! Their corners and areas. -/

theorem v121_at (p) : (after preOps V main_v121 : FVec Ideal S1000 .f32) (ix1 p) = Greedy.shifted (rbx V) (rlb V) p 0 := by
  rw [v121_eq, corner0_at, v119_at]
theorem v123_at (p) : (after preOps V main_v123 : FVec Ideal S1000 .f32) (ix1 p) = Greedy.shifted (rbx V) (rlb V) p 1 := by
  rw [v123_eq, corner1_at, v119_at]
theorem v125_at (p) : (after preOps V main_v125 : FVec Ideal S1000 .f32) (ix1 p) = Greedy.shifted (rbx V) (rlb V) p 2 := by
  rw [v125_eq, corner2_at, v119_at]
theorem v127_at (p) : (after preOps V main_v127 : FVec Ideal S1000 .f32) (ix1 p) = Greedy.shifted (rbx V) (rlb V) p 3 := by
  rw [v127_eq, corner3_at, v119_at]
theorem v130_at (p) : (after preOps V main_v130 : FVec Ideal S1000 .f32) (ix1 p) = Greedy.area (rbx V) (rlb V) p := by
  rw [v130_eq, areaV_at, v121_at, v123_at, v125_at, v127_at]
  rfl
end

end Cert.ReferenceIdeal.Hand

end
-- ==== Proof.RefTrip.lean ====
/-
  One trip of the reference's loop: what it leaves in the buffers it carries, as functions of what it finds there.
-/
module

public import proofs.«01_k».proof.Proof.RefNms

@[expose] public section

noncomputable section

namespace Cert.ReferenceIdeal.Hand

open Cert.ReferenceIdeal Cert.ReferenceIdeal.Gen Cert.Spec
open Idealize.ShloMosaic Idealize.ShloMosaic.TcCoe Idealize.ShloMosaic.StableHlo

section
variable {F : FTy → Type} [FloatOps F]

/-- The only position of a shape with no axes. -/
abbrev e0 : S_.Idx := Shape.Idx.first h_S_

/-- The position of the greatest score. -/
def argV (w : FVec F S1000 .f32) : IVec S_ 32 := fun j =>
  (Host.argReduce reducer_argmax_f32_i32 w (iotaInDim S1000 32 0) (constant S_ .f32 0xFF800000#32) (constantI S_ 32 0#32) reducesTo_S1000_S_d0 h_S_ j).2
/-- An index counted from the end where negative. -/
def wrapI (i : IVec S_ 32) : IVec S_ 32 := select (cmpi .slt i (constantI S_ 32 0#32)) (addi i (constantI S_ 32 1000#32)) i
/-- A slice of one entry. -/
def sliceV (x : FVec F S1000 .f32) (i : IVec S_ 32) : FVec F S1 .f32 :=
  Host.dynamicSlice S1 x (fun _ => (i e0).toInt) sliceFits_S1000_S1
/-- A one-entry slice at a run-time position. -/
theorem sliceV_eq (x : FVec F S1000 .f32) (f : Fin 1 → IVec S_ 32) :
    Host.dynamicSlice S1 x (fun k => (f k e0).toInt) sliceFits_S1000_S1 = sliceV x (f 0) := by
  unfold sliceV; congr 1; funext k; rw [Subsingleton.elim k 0]
/-- One entry, named by an index word. -/
def pickV (x : FVec F S1000 .f32) (i : IVec S_ 32) : FVec F S_ .f32 :=
  shapeCast S_ (sliceV x (wrapI i)) shapeCasts_S1_S_
/-- One number at every position. -/
def allV (x : FVec F S_ .f32) : FVec F S1000 .f32 := broadcastInDim S1000 ![] bcast_S_S1000 x
/-- The extent two intervals share, clipped at zero. -/
def edgeV (lo hi : FVec F S1000 .f32) (l h : FVec F S_ .f32) : FVec F S1000 .f32 :=
  maximumf (allV (constant S_ .f32 0x00000000#32)) (subf (minimumf hi (allV h)) (maximumf lo (allV l)))
/-- The area shared, from its extents. -/
def sharedV (x y : FVec F S1000 .f32) : FVec F S1000 .f32 := mulf x y
/-- Which boxes share more than a half with the picked one. -/
def sharesV (ar s : FVec F S1000 .f32) (a : FVec F S_ .f32) : IVec S1000 1 :=
  cmpf .ogt (Host.divf s (addf (subf (addf ar (allV a)) s) (allV (constant S_ .f32 0x3089705F#32)))) (allV (constant S_ .f32 0x3F000000#32))
/-- Scores with those of the marked positions at minus infinity. -/
def dropV (b : IVec S1000 1) (w : FVec F S1000 .f32) : FVec F S1000 .f32 := select b (allV (constant S_ .f32 0xFF800000#32)) w
/-- Whether a score is positive. -/
def posV (x : FVec F S_ .f32) : IVec S_ 1 := cmpf .ogt x (constant S_ .f32 0x00000000#32)
/-- A vector of a hundred with one entry replaced. -/
def putV {α : Type} (x : S100.Idx → α) (y : S_.Idx → α) (j : IVec S_ 32) : S100.Idx → α :=
  Host.dynamicUpdateSlice x (broadcastInDim S1 ![] bcast_S_S1 y) (fun _ => (j e0).toInt) updateFits_S100_S1

/-- A one-entry update at a run-time position. -/
theorem putV_eq {α : Type} (x : S100.Idx → α) (y : S_.Idx → α) (j : IVec S_ 32) {f : Fin 1 → Int} (h : f 0 = (j e0).toInt) :
    Host.dynamicUpdateSlice x (broadcastInDim S1 ![] bcast_S_S1 y) f updateFits_S100_S1 = putV x y j := by
  unfold putV; congr 1; funext k; rw [Subsingleton.elim k 0, h]

variable (V : Valuation τ sig (Elt F))

/-! What a trip's buffers hold: the position of the greatest score, the index words made of it, the chosen box's corners and area. -/

theorem t153 : after workOps V main_while0b_v153 = argV (V main_v133_6) := by
  rw [workLine.quaternary _ 4 rfl (by decide +kernel), workLine.nullary _ 0 rfl (by decide +kernel), workLine.nullary _ 1 rfl (by decide +kernel),
    workLine.nullary _ 2 rfl (by decide +kernel), workLine.keep (r := main_v133_6) _ (by decide +kernel)]
  rfl
theorem t156 : after workOps V main_while0b_v156 = wrapI (after workOps V main_while0b_v153) := by
  rw [workLine.ternary _ 9 rfl (by decide +kernel), workLine.binary _ 6 rfl (by decide +kernel), workLine.nullary _ 5 rfl (by decide +kernel),
    workLine.binary _ 8 rfl (by decide +kernel), workLine.nullary _ 7 rfl (by decide +kernel)]
  rfl
theorem t162 : after workOps V main_while0b_v162 = wrapI (after workOps V main_while0b_v153) := by
  rw [workLine.ternary _ 18 rfl (by decide +kernel), workLine.binary _ 15 rfl (by decide +kernel), workLine.nullary _ 14 rfl (by decide +kernel),
    workLine.binary _ 17 rfl (by decide +kernel), workLine.nullary _ 16 rfl (by decide +kernel)]
  rfl
theorem t169 : after workOps V main_while0b_v169 = wrapI (after workOps V main_while0b_v153) := by
  rw [workLine.ternary _ 27 rfl (by decide +kernel), workLine.binary _ 24 rfl (by decide +kernel), workLine.nullary _ 23 rfl (by decide +kernel),
    workLine.binary _ 26 rfl (by decide +kernel), workLine.nullary _ 25 rfl (by decide +kernel)]
  rfl
theorem t176 : after workOps V main_while0b_v176 = wrapI (after workOps V main_while0b_v153) := by
  rw [workLine.ternary _ 36 rfl (by decide +kernel), workLine.binary _ 33 rfl (by decide +kernel), workLine.nullary _ 32 rfl (by decide +kernel),
    workLine.binary _ 35 rfl (by decide +kernel), workLine.nullary _ 34 rfl (by decide +kernel)]
  rfl
theorem t183 : after workOps V main_while0b_v183 = wrapI (after workOps V main_while0b_v153) := by
  rw [workLine.ternary _ 45 rfl (by decide +kernel), workLine.binary _ 42 rfl (by decide +kernel), workLine.nullary _ 41 rfl (by decide +kernel),
    workLine.binary _ 44 rfl (by decide +kernel), workLine.nullary _ 43 rfl (by decide +kernel)]
  rfl
theorem t195 : after workOps V main_while0b_v195 = wrapI (after workOps V main_while0b_v153) := by
  rw [workLine.ternary _ 65 rfl (by decide +kernel), workLine.binary _ 62 rfl (by decide +kernel), workLine.nullary _ 61 rfl (by decide +kernel),
    workLine.binary _ 64 rfl (by decide +kernel), workLine.nullary _ 63 rfl (by decide +kernel)]
  rfl

/-- The picked score, corners and area. -/
theorem t157 : after workOps V main_while0b_v157 = sliceV (after workOps V main_v133_6) (after workOps V main_while0b_v156) :=
  (workLine.unaryIndexed _ 10 rfl (by decide +kernel)).trans (sliceV_eq _ _)
theorem t158 : after workOps V main_while0b_v158 = pickV (V main_v133_6) (argV (V main_v133_6)) := by
  rw [workLine.reshape _ 11 rfl (by decide +kernel), t157, t156, t153, workLine.keep (r := main_v133_6) _ (by decide +kernel)]
  rfl
theorem t163 : after workOps V main_while0b_v163 = sliceV (after workOps V main_v133_0) (after workOps V main_while0b_v162) :=
  (workLine.unaryIndexed _ 19 rfl (by decide +kernel)).trans (sliceV_eq _ _)
theorem t164 : after workOps V main_while0b_v164 = pickV (V main_v133_0) (argV (V main_v133_6)) := by
  rw [workLine.reshape _ 20 rfl (by decide +kernel), t163, t162, t153, workLine.keep (r := main_v133_0) _ (by decide +kernel)]
  rfl
theorem t170 : after workOps V main_while0b_v170 = sliceV (after workOps V main_v133_1) (after workOps V main_while0b_v169) :=
  (workLine.unaryIndexed _ 28 rfl (by decide +kernel)).trans (sliceV_eq _ _)
theorem t171 : after workOps V main_while0b_v171 = pickV (V main_v133_1) (argV (V main_v133_6)) := by
  rw [workLine.reshape _ 29 rfl (by decide +kernel), t170, t169, t153, workLine.keep (r := main_v133_1) _ (by decide +kernel)]
  rfl
theorem t177 : after workOps V main_while0b_v177 = sliceV (after workOps V main_v133_2) (after workOps V main_while0b_v176) :=
  (workLine.unaryIndexed _ 37 rfl (by decide +kernel)).trans (sliceV_eq _ _)
theorem t178 : after workOps V main_while0b_v178 = pickV (V main_v133_2) (argV (V main_v133_6)) := by
  rw [workLine.reshape _ 38 rfl (by decide +kernel), t177, t176, t153, workLine.keep (r := main_v133_2) _ (by decide +kernel)]
  rfl
theorem t184 : after workOps V main_while0b_v184 = sliceV (after workOps V main_v133_3) (after workOps V main_while0b_v183) :=
  (workLine.unaryIndexed _ 46 rfl (by decide +kernel)).trans (sliceV_eq _ _)
theorem t185 : after workOps V main_while0b_v185 = pickV (V main_v133_3) (argV (V main_v133_6)) := by
  rw [workLine.reshape _ 47 rfl (by decide +kernel), t184, t183, t153, workLine.keep (r := main_v133_3) _ (by decide +kernel)]
  rfl
theorem t196 : after workOps V main_while0b_v196 = sliceV (after workOps V main_v133_4) (after workOps V main_while0b_v195) :=
  (workLine.unaryIndexed _ 66 rfl (by decide +kernel)).trans (sliceV_eq _ _)
theorem t197 : after workOps V main_while0b_v197 = pickV (V main_v133_4) (argV (V main_v133_6)) := by
  rw [workLine.reshape _ 67 rfl (by decide +kernel), t196, t195, t153, workLine.keep (r := main_v133_4) _ (by decide +kernel)]
  rfl

/-- The extents shared along the two axes. -/
theorem t189 : after workOps V main_while0b_v189 = edgeV (V main_v133_0) (V main_v133_2) (after workOps V main_while0b_v164)
    (after workOps V main_while0b_v178) := by
  rw [workLine.binary _ 54 rfl (by decide +kernel), workLine.unary _ 53 rfl (by decide +kernel), workLine.unary _ 52 rfl (by decide +kernel),
    workLine.nullary _ 51 rfl (by decide +kernel), workLine.binary _ 50 rfl (by decide +kernel), workLine.binary _ 40 rfl (by decide +kernel),
    workLine.unary _ 39 rfl (by decide +kernel), workLine.binary _ 22 rfl (by decide +kernel), workLine.unary _ 21 rfl (by decide +kernel),
    workLine.keep (r := main_v133_0) _ (by decide +kernel), workLine.keep (r := main_v133_2) _ (by decide +kernel)]
  rfl

/-! The shared extents, the scores that are left, and the two entries that the trip records. -/

theorem t191 : after workOps V main_while0b_v191 = edgeV (V main_v133_1) (V main_v133_3) (after workOps V main_while0b_v171)
    (after workOps V main_while0b_v185) := by
  rw [workLine.binary _ 59 rfl (by decide +kernel), workLine.unary _ 58 rfl (by decide +kernel), workLine.unary _ 57 rfl (by decide +kernel),
    workLine.nullary _ 56 rfl (by decide +kernel), workLine.binary _ 55 rfl (by decide +kernel), workLine.binary _ 49 rfl (by decide +kernel),
    workLine.unary _ 48 rfl (by decide +kernel), workLine.binary _ 31 rfl (by decide +kernel), workLine.unary _ 30 rfl (by decide +kernel),
    workLine.keep (r := main_v133_1) _ (by decide +kernel), workLine.keep (r := main_v133_3) _ (by decide +kernel)]
  rfl
theorem t192 : after workOps V main_while0b_v192 = sharedV (after workOps V main_while0b_v189) (after workOps V main_while0b_v191) :=
  workLine.binary _ 60 rfl (by decide +kernel)
/-- The boxes sharing more than a half with the picked one. -/
theorem t205 : after workOps V main_while0b_v205 = sharesV (V main_v133_4) (after workOps V main_while0b_v192)
    (after workOps V main_while0b_v197) := by
  rw [workLine.binary _ 77 rfl (by decide +kernel), workLine.unary _ 76 rfl (by decide +kernel), workLine.nullary _ 75 rfl (by decide +kernel),
    workLine.binary _ 74 rfl (by decide +kernel), workLine.binary _ 73 rfl (by decide +kernel), workLine.unary _ 72 rfl (by decide +kernel),
    workLine.nullary _ 71 rfl (by decide +kernel), workLine.binary _ 70 rfl (by decide +kernel), workLine.binary _ 69 rfl (by decide +kernel),
    workLine.unary _ 68 rfl (by decide +kernel), workLine.keep (r := main_v133_4) _ (by decide +kernel)]
  rfl
theorem t206 : after workOps V main_while0b_v206 = dropV (after workOps V main_while0b_v205) (V main_v133_6) := by
  rw [workLine.ternary _ 81 rfl (by decide +kernel), workLine.unary _ 80 rfl (by decide +kernel), workLine.unary _ 79 rfl (by decide +kernel),
    workLine.nullary _ 78 rfl (by decide +kernel), workLine.keep (r := main_v133_6) _ (by decide +kernel)]
  rfl
theorem t159 : after workOps V main_while0b_v159 = posV (after workOps V main_while0b_v158) := by
  rw [workLine.binary _ 13 rfl (by decide +kernel), workLine.nullary _ 12 rfl (by decide +kernel)]
  rfl
theorem t207 : after workOps V main_while0b_v207 = putV (V main_v133_7) (argV (V main_v133_6)) (V main_v133_5) := by
  refine (workLine.binaryIndexed _ 83 rfl (by decide +kernel)).trans ?_
  rw [workLine.unary _ 82 rfl (by decide +kernel), t153, workLine.keep (r := main_v133_7) _ (by decide +kernel)]
  simp -implicitDefEqProofs only [TRef.toBuf, TRef.ofBuf, cast_cast, cast_eq]
  exact putV_eq _ _ _ (congrArg (fun x : IVec S_ 32 => (x e0).toInt) (workLine.keep (r := main_v133_5) V (by decide +kernel)))
theorem t208 : after workOps V main_while0b_v208 = putV (V main_v133_8) (after workOps V main_while0b_v159) (V main_v133_5) := by
  refine (workLine.binaryIndexed _ 85 rfl (by decide +kernel)).trans ?_
  rw [workLine.unary _ 84 rfl (by decide +kernel), workLine.keep (r := main_v133_8) _ (by decide +kernel)]
  simp -implicitDefEqProofs only [TRef.toBuf, TRef.ofBuf, cast_cast, cast_eq]
  exact putV_eq _ _ _ (congrArg (fun x : IVec S_ 32 => (x e0).toInt) (workLine.keep (r := main_v133_5) V (by decide +kernel)))

/-- A trip leaves what is in neither its operations nor its copies. -/
theorem trip_keep {r : Ref sig .tc} (h : r ∉ condOps_W ∧ r ∉ workW ∧ r ∉ copyOps_W) : trip V r = V r :=
  (copyLine.keep _ h.2.2).trans ((workLine.keep _ h.2.1).trans (condLine.keep _ h.1))

/-! What the carried buffers hold after a trip. -/

theorem trip_v133_6 : trip V main_v133_6 = after workOps (after condOps V) main_while0b_v206 := by
  rw [show trip V main_v133_6 = _ from copyLine.unary _ 1 rfl (by decide +kernel), copyLine.keep _ (by decide +kernel)]
  rfl
theorem trip_v133_7 : trip V main_v133_7 = after workOps (after condOps V) main_while0b_v207 := by
  rw [show trip V main_v133_7 = _ from copyLine.unary _ 2 rfl (by decide +kernel), copyLine.keep _ (by decide +kernel)]
  rfl
theorem trip_v133_8 : trip V main_v133_8 = after workOps (after condOps V) main_while0b_v208 := by
  rw [show trip V main_v133_8 = _ from copyLine.unary _ 3 rfl (by decide +kernel), copyLine.keep _ (by decide +kernel)]
  rfl

/-! What the loop starts from. -/

/-! What the carried buffers hold before the first trip. -/

theorem v133_0_eq : after preOps V main_v133_0 = after preOps V main_v121 := by rw [preLine.unary _ 161 rfl (by decide +kernel)]; rfl
theorem v133_1_eq : after preOps V main_v133_1 = after preOps V main_v123 := by rw [preLine.unary _ 162 rfl (by decide +kernel)]; rfl
theorem v133_2_eq : after preOps V main_v133_2 = after preOps V main_v125 := by rw [preLine.unary _ 163 rfl (by decide +kernel)]; rfl
theorem v133_3_eq : after preOps V main_v133_3 = after preOps V main_v127 := by rw [preLine.unary _ 164 rfl (by decide +kernel)]; rfl
theorem v133_4_eq : after preOps V main_v133_4 = after preOps V main_v130 := by rw [preLine.unary _ 165 rfl (by decide +kernel)]; rfl
theorem v133_6_eq : after preOps V main_v133_6 = after preOps V main_values := by rw [preLine.unary _ 167 rfl (by decide +kernel)]; rfl

/-! What follows the loop. -/

/-- The kept positions, counted from the end where negative, as a column. -/
def keptV (x : IVec S100 32) : IVec S100x1 32 :=
  broadcastInDim S100x1 ![0] bcast_S100_S100x1_0 (select (cmpi .slt x (broadcastInDim S100 ![] bcast_S_S100 (constantI S_ 32 0#32)))
    (addi x (broadcastInDim S100 ![] bcast_S_S100 (constantI S_ 32 1000#32))) x)
/-- The rows of the result: corners and scores where valid, zeros elsewhere. -/
def rowsV (b : IVec S100 1) (x : FVec F S100x4 .f32) (y : FVec F S100 .f32) : FVec F S100x5 .f32 :=
  concatenate S100x5 1 [⟨S100x4, select (broadcastInDim S100x4 ![0, 1] bcast_S100x1_S100x4_0_1 (broadcastInDim S100x1 ![0] bcast_S100_S100x1_0 b))
      x (broadcastInDim S100x4 ![] bcast_S_S100x4 (constant S_ .f32 0x00000000#32))⟩,
    ⟨S100x1, broadcastInDim S100x1 ![0] bcast_S100_S100x1_0 (select b y (broadcastInDim S100 ![] bcast_S_S100 (constant S_ .f32 0x00000000#32)))⟩]
    concatenates_S100x4_S100x1_S100x5_d1

/-! After the loop: the kept positions, and the rows gathered at them. -/

theorem p140 : after postOps V main_v140 = keptV (V main_v133_7) := by
  rw [postLine.unary _ 8 rfl (by decide +kernel), postLine.ternary _ 7 rfl (by decide +kernel), postLine.binary _ 3 rfl (by decide +kernel),
    postLine.unary _ 2 rfl (by decide +kernel), postLine.nullary _ 1 rfl (by decide +kernel), postLine.binary _ 6 rfl (by decide +kernel),
    postLine.unary _ 5 rfl (by decide +kernel), postLine.nullary _ 4 rfl (by decide +kernel), postLine.keep (r := main_v133_7) _ (by decide +kernel)]
  rfl
theorem p148 : after postOps V main_v148 = keptV (V main_v133_7) := by
  rw [postLine.unary _ 22 rfl (by decide +kernel), postLine.ternary _ 21 rfl (by decide +kernel), postLine.binary _ 17 rfl (by decide +kernel),
    postLine.unary _ 16 rfl (by decide +kernel), postLine.nullary _ 15 rfl (by decide +kernel), postLine.binary _ 20 rfl (by decide +kernel),
    postLine.unary _ 19 rfl (by decide +kernel), postLine.nullary _ 18 rfl (by decide +kernel), postLine.keep (r := main_v133_7) _ (by decide +kernel)]
  rfl
theorem p141 : after postOps V main_v141 = Host.gather gather_S1000x4_S100x1_S100x4_1_0_n_n_0_1_14 (V main_v104) (keptV (V main_v133_7)) := by
  rw [postLine.binary _ 9 rfl (by decide +kernel), p140, postLine.keep (r := main_v104) _ (by decide +kernel)]
theorem p149 : after postOps V main_v149 = Host.gather gather_S1000_S100x1_S100_n_0_n_n_0_1_1 (V main_values) (keptV (V main_v133_7)) := by
  rw [postLine.binary _ 23 rfl (by decide +kernel), p148, postLine.keep (r := main_values) _ (by decide +kernel)]
theorem p152 : after postOps V main_v152 = rowsV (V main_v133_8) (after postOps V main_v141) (after postOps V main_v149) := by
  rw [postLine.binary _ 29 rfl (by decide +kernel), postLine.ternary _ 14 rfl (by decide +kernel), postLine.unary _ 12 rfl (by decide +kernel),
    postLine.unary _ 0 rfl (by decide +kernel), postLine.unary _ 13 rfl (by decide +kernel), postLine.unary _ 11 rfl (by decide +kernel),
    postLine.nullary _ 10 rfl (by decide +kernel), postLine.unary _ 28 rfl (by decide +kernel), postLine.ternary _ 27 rfl (by decide +kernel),
    postLine.unary _ 26 rfl (by decide +kernel), postLine.unary _ 25 rfl (by decide +kernel), postLine.nullary _ 24 rfl (by decide +kernel),
    postLine.keep (r := main_v133_8) _ (by decide +kernel)]
  rfl
end

end Cert.ReferenceIdeal.Hand

end
-- ==== Proof.RefLoop.lean ====
/-
  The reference's loop is the greedy selection: a hundred trips, each keeping the first greatest score left.
-/
module

public import proofs.«01_k».proof.Proof.RefTrip

@[expose] public section

noncomputable section

namespace Cert.ReferenceIdeal.Hand

open Cert.ReferenceIdeal Cert.ReferenceIdeal.Gen Cert.Spec
open Idealize.ShloMosaic Idealize.ShloMosaic.TcCoe Idealize.ShloMosaic.StableHlo

/-- The comparison of the argument-maximum, over positions in order, is `better`. -/
theorem reducer_better (w : Fin 1000 → EReal) (R : EReal × Fin 1000) (j : Fin 1000) (h : R.2 ≤ j) :
    reducer_argmax_f32_i32 (F := Ideal) (R.1, BitVec.ofNat 32 R.2.val) (w j, BitVec.ofNat 32 j.val)
      = ((Greedy.better w R j).1, BitVec.ofNat 32 (Greedy.better w R j).2.val) := by
  have hs : IntOp.cmpi .slt (BitVec.ofNat 32 R.2.val) (BitVec.ofNat 32 j.val) = BitVec.ofBool (decide (R.2 < j)) := by
    have h1 := WordCmp.cmpi_slt_ofNat_eq_one_iff (w := 32) (a := R.2.val) (b := j.val) (by omega) (by omega)
    have h0 := WordCmp.cmpi_slt_ofNat_eq_zero_iff (w := 32) (a := R.2.val) (b := j.val) (by omega) (by omega)
    by_cases hlt : R.2 < j
    · rw [h1.mpr hlt, decide_eq_true hlt]; rfl
    · rw [h0.mpr hlt, decide_eq_false hlt]; rfl
  unfold reducer_argmax_f32_i32 Greedy.better
  simp only [Ideal.cmpf_def, Ideal.cmp, hs]
  rcases lt_trichotomy (w j) R.1 with h1 | h1 | h1
  · simp [h1, h1.le, h1.ne', Scalar.select, IntOp.ori, IntOp.andi]
  · rcases h.lt_or_eq with h2 | h2
    · simp [h1, h2, Scalar.select, IntOp.ori, IntOp.andi]
    · simp [h1, h2, Scalar.select, IntOp.ori, IntOp.andi]
  · simp [h1, h1.not_ge, h1.not_gt, h1.ne, Scalar.select, IntOp.ori, IntOp.andi]

/-- A left fold that keeps the better of two candidates ends at the first of the greatest. -/
theorem foldl_better (w : Fin 1000 → EReal) : ∀ (l : List (Fin 1000)), l.Pairwise (· < ·) → ∀ R : EReal × Fin 1000, (∀ j ∈ l, R.2 ≤ j) →
    (l.map fun p => (w p, BitVec.ofNat 32 p.val)).foldl (reducer_argmax_f32_i32 (F := Ideal)) (R.1, BitVec.ofNat 32 R.2.val)
      = ((l.foldl (Greedy.better w) R).1, BitVec.ofNat 32 (l.foldl (Greedy.better w) R).2.val)
  | [], _, _, _ => rfl
  | j :: l, hl, R, hR => by
    have hl' := List.pairwise_cons.mp hl
    rw [List.map_cons, List.foldl_cons, List.foldl_cons, reducer_better w R j (hR j (List.mem_cons_self ..)),
      foldl_better w l hl'.2 (Greedy.better w R j)]
    intro k hk
    unfold Greedy.better
    split
    · exact hR k (List.mem_cons_of_mem _ hk)
    · exact (hl'.1 k hk).le

/-- The entries that the reduction to a scalar folds. -/
theorem fiber_eq (w : FVec Ideal S1000 .f32) (j : S_.Idx) :
    Host.argReduceFiber w (iotaInDim S1000 32 0) reducesTo_S1000_S_d0 j
      = (List.finRange 1000).map fun p => (w (ix1 p), BitVec.ofNat 32 p.val) := by
  unfold Host.argReduceFiber
  rw [List.filter_eq_self.mpr (fun n _ => decide_eq_true (Subsingleton.elim (α := (i : Fin 0) → Fin (S_.size i)) _ _))]
  refine List.map_congr_left (l := List.finRange 1000) fun p _ => ?_
  have e : S1000.rowMajor.symm p = ix1 p := (Equiv.symm_apply_eq _).2 (Fin.ext (Shape.rowMajor_val_one (ix1 p : S1000.Idx)).symm)
  rw [e]; rfl

/-- The argument-maximum is the first position of a greatest score. -/
theorem argV_at (w : FVec Ideal S1000 .f32) (j : S_.Idx) : argV w j = BitVec.ofNat 32 (Greedy.first fun p => w (ix1 p)).val := by
  unfold argV
  rw [Ideal.argReduce_eq_reduce2, Host.reduce2_eq_foldl_fiber, fiber_eq]
  have h := foldl_better (fun p => w (ix1 p)) (List.finRange 1000) (List.pairwise_lt_finRange 1000) (⊥, 0) (fun j _ => Fin.zero_le j)
  rw [← ninf_eq] at h
  refine (congrArg Prod.snd h).trans ?_
  rw [ninf_eq]; rfl

/-- A scalar has one index. -/
theorem e0_eq : e0 = ix0 := funext fun a => a.elim0
/-- An index that is not negative stays. -/
theorem wrapI_at (i : IVec S_ 32) (n : Fin 1000) (h : i ix0 = BitVec.ofNat 32 n.val) : (wrapI i e0).toInt = n.val := by
  unfold wrapI
  rw [e0_eq]
  show (Scalar.select (IntOp.cmpi .slt (i ix0) 0#32) _ (i ix0)).toInt = _
  rw [h, Pick.wrap_small (by omega)]
  exact toInt_ofNat_of_lt (by omega)
/-- The entry of a vector at an index word. -/
theorem pickV_at (x : FVec Ideal S1000 .f32) (i : IVec S_ 32) (n : Fin 1000) (h : i ix0 = BitVec.ofNat 32 n.val) (j) :
    pickV x i j = x (ix1 n) := by
  unfold pickV sliceV
  rw [Host.dynamicSlice_eq_extractStridedSlice S1 x _ (fun _ => n.val) _
    ⟨rfl, fun a => by obtain rfl : a = 0 := Subsingleton.elim _ _; show n.val + 1 ≤ 1000; omega⟩ (fun a => wrapI_at i n h)]
  unfold shapeCast extractStridedSlice
  refine congrArg x (funext fun a => ?_)
  obtain rfl : a = 0 := Subsingleton.elim _ _
  refine Fin.ext ?_
  show n.val + _ = n.val
  exact Nat.add_eq_left.mpr (Nat.lt_one_iff.mp (Fin.isLt _))
/-- The extent that an interval shares with the chosen one. -/
theorem edgeV_at (lo hi : FVec Ideal S1000 .f32) (l h : FVec Ideal S_ .f32) (p) :
    edgeV lo hi l h (ix1 p) = max 0 (min (hi (ix1 p)) (h ix0) - max (lo (ix1 p)) (l ix0)) := by
  pointwise [edgeV, allV]
/-- The area that two boxes share. -/
theorem sharedV_at (x y : FVec Ideal S1000 .f32) (p) : sharedV x y (ix1 p) = x (ix1 p) * y (ix1 p) := rfl
/-- Whether that area is too great a part of their union. -/
theorem sharesV_at (ar s : FVec Ideal S1000 .f32) (a : FVec Ideal S_ .f32) (p) :
    sharesV ar s a (ix1 p) = Ideal.cmp .ogt (Ideal.div (s (ix1 p)) (ar (ix1 p) + a ix0 - s (ix1 p) + Ideal.ofBits .f32 0x3089705F#32)) half := by
  pointwise [sharesV, allV]
/-- The scores that are left. -/
theorem dropV_at (b : IVec S1000 1) (w : FVec Ideal S1000 .f32) (p) : dropV b w (ix1 p) = Scalar.select (b (ix1 p)) ⊥ (w (ix1 p)) := by
  pointwise [dropV, allV]
  rw [ninf_eq]
/-- Whether a score is positive. -/
theorem posV_at (x : FVec Ideal S_ .f32) (j) : posV x j = BitVec.ofBool (decide (0 < x j)) := by
  pointwise [posV]
/-- A vector with one entry replaced. -/
theorem putV_at {α : Type} (x : S100.Idx → α) (y : S_.Idx → α) (j : IVec S_ 32) (k r : Fin 100) (h : j ix0 = BitVec.ofNat 32 k.val) :
    putV x y j (ix1 r) = if r = k then y ix0 else x (ix1 r) := by
  unfold putV Host.dynamicUpdateSlice updateSlice
  have hk : (j e0).toInt = k.val := by rw [e0_eq, h]; exact toInt_ofNat_of_lt (by omega)
  have ha : (min (max (j e0).toInt 0) ((100 - 1 : ℕ) : Int)).toNat = k.val := by rw [hk]; omega
  have hc : (∀ a : Fin 1, (min (max (j e0).toInt 0) ((S100.size a - S1.size (a.cast rfl) : ℕ) : Int)).toNat ≤ ((ix1 r : S100.Idx) a).val ∧
      ((ix1 r : S100.Idx) a).val < (min (max (j e0).toInt 0) ((S100.size a - S1.size (a.cast rfl) : ℕ) : Int)).toNat + S1.size (a.cast rfl)) ↔ r = k := by
    constructor
    · intro hin
      have h0 : (min (max (j e0).toInt 0) ((100 - 1 : ℕ) : Int)).toNat ≤ r.val ∧ r.val < (min (max (j e0).toInt 0) ((100 - 1 : ℕ) : Int)).toNat + 1 := hin 0
      rw [ha] at h0
      exact Fin.ext (by omega)
    · rintro rfl a
      obtain rfl : a = 0 := Subsingleton.elim _ _
      show (min (max (j e0).toInt 0) ((100 - 1 : ℕ) : Int)).toNat ≤ r.val ∧ r.val < (min (max (j e0).toInt 0) ((100 - 1 : ℕ) : Int)).toNat + 1
      rw [ha]; omega
  by_cases hr : r = k
  · rw [if_pos hr]
    refine (dif_pos (hc.mpr hr)).trans ?_
    exact congrArg y (funext fun a => a.elim0)
  · rw [if_neg hr]
    exact dif_neg fun hin => hr (hc.mp hin)

section
variable (V : Valuation τ sig (Elt Ideal)) (bx : Fin 1000 → Fin 4 → EReal) (lb w : Fin 1000 → EReal)

/-- The loop's scores are `w`, its corners and areas those of the shifted boxes. -/
structure Carries : Prop where
  x1 : ∀ p, (V main_v133_0 : FVec Ideal S1000 .f32) (ix1 p) = Greedy.shifted bx lb p 0
  y1 : ∀ p, (V main_v133_1 : FVec Ideal S1000 .f32) (ix1 p) = Greedy.shifted bx lb p 1
  x2 : ∀ p, (V main_v133_2 : FVec Ideal S1000 .f32) (ix1 p) = Greedy.shifted bx lb p 2
  y2 : ∀ p, (V main_v133_3 : FVec Ideal S1000 .f32) (ix1 p) = Greedy.shifted bx lb p 3
  ar : ∀ p, (V main_v133_4 : FVec Ideal S1000 .f32) (ix1 p) = Greedy.area bx lb p
  sc : ∀ p, (V main_v133_6 : FVec Ideal S1000 .f32) (ix1 p) = w p

variable {V bx lb w}

/-- The position a trip chooses is the selection's. -/
theorem Carries.arg (h : Carries V bx lb w) (j) : argV (F := Ideal) (V main_v133_6) j = BitVec.ofNat 32 (Greedy.first w).val := by
  rw [argV_at]
  exact congrArg (fun f => BitVec.ofNat 32 (Greedy.first f).val) (funext h.sc)

/-- The scores a trip leaves. -/
theorem Carries.drop (h : Carries V bx lb w) (p) : (after workOps V main_while0b_v206 : FVec Ideal S1000 .f32) (ix1 p)
    = Scalar.select (Greedy.overlaps bx lb p (Greedy.first w)) ⊥ (w p) := by
  have hs : (after workOps V main_while0b_v192 : FVec Ideal S1000 .f32) (ix1 p) = Greedy.inter bx lb p (Greedy.first w) := by
    rw [t192, sharedV_at, t189, t191, edgeV_at, edgeV_at, t164, t178, t171, t185, pickV_at _ _ _ (h.arg ix0), pickV_at _ _ _ (h.arg ix0),
      pickV_at _ _ _ (h.arg ix0), pickV_at _ _ _ (h.arg ix0), h.x1, h.x1, h.x2, h.x2, h.y1, h.y1, h.y2, h.y2]
    rfl
  rw [t206, dropV_at, t205, sharesV_at, hs, t197, pickV_at _ _ _ (h.arg ix0), h.ar, h.ar, h.sc]
  rfl

/-- Whether the score a trip keeps is positive. -/
theorem Carries.pos (h : Carries V bx lb w) (j) : (after workOps V main_while0b_v159 : IVec S_ 1) j = BitVec.ofBool (decide (0 < w (Greedy.first w))) := by
  rw [t159, posV_at, t158, pickV_at _ _ _ (h.arg ix0), h.sc]

/-- The loop's test changes nothing of this. -/
theorem Carries.cond (h : Carries V bx lb w) : Carries (after condOps V) bx lb w := by
  refine ⟨fun p => ?_, fun p => ?_, fun p => ?_, fun p => ?_, fun p => ?_, fun p => ?_⟩ <;> rw [condLine.keep _ (by decide +kernel)]
  exacts [h.x1 p, h.y1 p, h.x2 p, h.y2 p, h.ar p, h.sc p]
/-- A trip takes the scores to the selection's next scores. -/
theorem Carries.trip (h : Carries V bx lb w) :
    Carries (trip V) bx lb fun p => Scalar.select (Greedy.overlaps bx lb p (Greedy.first w)) ⊥ (w p) := by
  refine ⟨fun p => ?_, fun p => ?_, fun p => ?_, fun p => ?_, fun p => ?_, fun p => ?_⟩
  rotate_right
  · rw [trip_v133_6]; exact h.cond.drop p
  all_goals rw [trip_keep _ (by decide +kernel)]
  exacts [h.x1 p, h.y1 p, h.x2 p, h.y2 p, h.ar p]

end

variable (m : (ℓ : Loc nD τ sig) → Buf (Elt Ideal) ℓ) (c : Dev nD)

/-- The selected boxes, labels and scores of the program started at `m`. -/
abbrev mbx := rbx (launchContents m c)
abbrev mlb := rlb (launchContents m c)
abbrev mval := rval (launchContents m c)
/-- The scores left after keeping `k` boxes, and the box kept then. -/
abbrev mleft (k : ℕ) := Greedy.left (mbx m c) (mlb m c) (mval m c) k
abbrev mkept (k : ℕ) := Greedy.kept (mbx m c) (mlb m c) (mval m c) k

/-- A buffer that no trip writes holds what it held before the loop. -/
theorem atK_keep (k : ℕ) {r : Ref sig .tc} (h : r ∉ condOps_W ∧ r ∉ workW ∧ r ∉ copyOps_W) : atK m k c r = pre m c r := by
  induction k with
  | zero => rw [atK_zero]
  | succ k ih => rw [atK_succ, trip_keep _ h, ih]

/-- Before the loop the buffers hold the candidates. -/
theorem pre_carries (V : Valuation τ sig (Elt Ideal)) : Carries (after preOps V) (rbx V) (rlb V) (rval V) := by
  refine ⟨fun p => ?_, fun p => ?_, fun p => ?_, fun p => ?_, fun p => ?_, fun p => ?_⟩
  · rw [v133_0_eq]; exact v121_at _ p
  · rw [v133_1_eq]; exact v123_at _ p
  · rw [v133_2_eq]; exact v125_at _ p
  · rw [v133_3_eq]; exact v127_at _ p
  · rw [v133_4_eq]; exact v130_at _ p
  · rw [v133_6_eq]; exact values_at _ p

/-- Before trip `k` the scores are those left after keeping `k` boxes. -/
theorem atK_carries (k : ℕ) : Carries (atK m k c) (mbx m c) (mlb m c) (mleft m c k) := by
  induction k with
  | zero => rw [atK_zero]; exact pre_carries _
  | succ k ih => rw [atK_succ]; exact ih.trip

/-- Before trip `k` the first `k` kept positions and their marks are recorded. -/
theorem atK_kept (k : ℕ) : k ≤ 100 → ∀ r : Fin 100, r.val < k →
    (atK m k c main_v133_7 : IVec S100 32) (ix1 r) = BitVec.ofNat 32 (mkept m c r.val).val ∧
    (atK m k c main_v133_8 : IVec S100 1) (ix1 r) = BitVec.ofBool (decide (0 < mleft m c r.val (mkept m c r.val))) := by
  induction k with
  | zero => intro _ r hr; exact absurd hr (Nat.not_lt_zero _)
  | succ k ih =>
    intro hk r hr
    have h := (atK_carries m c k).cond
    have hc : (after condOps (atK m k c) main_v133_5 : IVec S_ 32) ix0 = BitVec.ofNat 32 (⟨k, hk⟩ : Fin 100).val := by
      rw [condLine.keep _ (by decide +kernel), atK_counter]; exact Pick.iv_eq k
    rw [atK_succ, trip_v133_7, trip_v133_8, t207, t208, putV_at _ _ _ ⟨k, hk⟩ r hc, putV_at _ _ _ ⟨k, hk⟩ r hc, h.arg, h.pos,
      condLine.keep _ (by decide +kernel), condLine.keep _ (by decide +kernel)]
    by_cases hrk : r = ⟨k, hk⟩
    · subst hrk
      rw [if_pos rfl, if_pos rfl]
      exact ⟨rfl, rfl⟩
    · rw [if_neg hrk, if_neg hrk]
      exact ih (Nat.le_of_succ_le hk) r (Nat.lt_of_le_of_ne (Nat.le_of_lt_succ hr) fun e => hrk (Fin.ext e))

/-- The kept positions as indices. -/
theorem keptV_at (x : IVec S100 32) (r) (n : Fin 1000) (h : x (ix1 r) = BitVec.ofNat 32 n.val) : keptV x (ix2 r 0) = BitVec.ofNat 32 n.val := by
  pointwise [keptV]
  rw [h]
  exact Pick.wrap_small (by omega) _
/-- A row of the result. -/
theorem rowsV_at (b : IVec S100 1) (x : FVec Ideal S100x4 .f32) (y : FVec Ideal S100 .f32) (r j) :
    rowsV b x y (ix2 r j) = Scalar.select (b (ix1 r)) (![x (ix2 r 0), x (ix2 r 1), x (ix2 r 2), x (ix2 r 3), y (ix1 r)] j) 0 := by
  fin_cases j <;> pointwise [rowsV] <;> rfl

/-- The reference's result. -/
theorem fin_at (r : Fin 100) (j : Fin 5) : (fin m c main_v152 : FVec Ideal S100x5 .f32) (ix2 r j)
    = Chosen.result (A0 (launchContents m c)) (A1 (launchContents m c)) (A2 (launchContents m c)) r j := by
  obtain ⟨h7, h8⟩ := atK_kept m c 100 le_rfl r r.isLt
  have k7 : (after condOps (atK m 100 c) main_v133_7 : IVec S100 32) (ix1 r) = BitVec.ofNat 32 (mkept m c r.val).val := by
    rw [condLine.keep _ (by decide +kernel)]; exact h7
  have h141 (k) : (after postOps (after condOps (atK m 100 c)) main_v141 : FVec Ideal S100x4 .f32) (ix2 r k) = mbx m c (mkept m c r.val) k := by
    rw [p141]
    refine (Pick.rowGather _ _ _ r k _ (by decide) (keptV_at _ r _ k7)).trans ?_
    rw [condLine.keep _ (by decide +kernel), atK_keep m c _ (by decide +kernel)]
    exact v104_at _ _ _
  have h149 : (after postOps (after condOps (atK m 100 c)) main_v149 : FVec Ideal S100 .f32) (ix1 r) = mval m c (mkept m c r.val) := by
    rw [p149]
    refine (Pick.entryGather _ _ _ r _ (by decide) (keptV_at _ r _ k7)).trans ?_
    rw [condLine.keep _ (by decide +kernel), atK_keep m c _ (by decide +kernel)]
    exact values_at _ _
  have k8 : (after condOps (atK m 100 c) main_v133_8 : IVec S100 1) (ix1 r) = BitVec.ofBool (decide (0 < mleft m c r.val (mkept m c r.val))) := by
    rw [condLine.keep _ (by decide +kernel)]; exact h8
  show (after postOps (after condOps (atK m 100 c)) main_v152 : FVec Ideal S100x5 .f32) _ = _
  rw [p152, rowsV_at, k8, WordCmp.select_decide, h141, h141, h141, h141, h149]
  unfold Chosen.result Greedy.row
  split <;> rfl

end Cert.ReferenceIdeal.Hand

end
-- ==== Proof.Tile.lean ====
/-
  A thousand entries laid out as eight rows of 128, the last positions unused: greatest entries, first positions and single
  picks read through the layout.
-/
module

public import proofs.«01_k».proof.Proof.Greedy
public import Idealize.ShloMosaic.Lib.PlanTiles.Rows

@[expose] public section

noncomputable section

namespace Cert.Tile

open Idealize.ShloMosaic Cert.Greedy

/-- The position of entry `p`. -/
def at8 (p : Fin 1000) : Fin 8 × Fin 128 := (⟨p.val / 128, by omega⟩, ⟨p.val % 128, by omega⟩)
/-- The number of a position, row by row. -/
def num (x : Fin 8 × Fin 128) : ℕ := 128 * x.1.val + x.2.val

/-- The entry of position `p` has number `p`. -/
theorem num_at8 (p : Fin 1000) : num (at8 p) = p.val := by unfold num at8; simp only; omega
/-- There are 1024 numbers. -/
theorem num_lt (x : Fin 8 × Fin 128) : num x < 1024 := by unfold num; have := x.1.isLt; have := x.2.isLt; omega
/-- An entry is known by its number. -/
theorem eq_at8 {x : Fin 8 × Fin 128} {p : Fin 1000} (h : num x = p.val) : x = at8 p := by
  unfold num at h
  have := x.2.isLt
  exact Prod.ext (Fin.ext (by unfold at8; simp only; omega)) (Fin.ext (by unfold at8; simp only; omega))

/-- The greatest entry, where the unused positions hold minus infinity. -/
theorem fold_tile {g : Fin 8 × Fin 128 → EReal} {f : Fin 1000 → EReal} (h : ∀ p, g (at8 p) = f p) (hb : ∀ x, 1000 ≤ num x → g x = ⊥) :
    Finset.univ.fold max ⊥ g = Finset.univ.fold max ⊥ f := by
  refine le_antisymm (Finset.fold_max_le _ |>.mpr ⟨bot_le, fun x _ => ?_⟩) (Finset.fold_max_le _ |>.mpr ⟨bot_le, fun p _ => ?_⟩)
  · by_cases hx : num x < 1000
    · rw [eq_at8 (x := x) (p := ⟨num x, hx⟩) rfl, h]; exact Finset.le_fold_max _ |>.mpr (Or.inr ⟨_, Finset.mem_univ _, le_rfl⟩)
    · rw [hb x (not_lt.mp hx)]; exact bot_le
  · rw [← h]; exact Finset.le_fold_max _ |>.mpr (Or.inr ⟨_, Finset.mem_univ _, le_rfl⟩)

/-- The least of a family of words below 2^31. -/
theorem fold_minsi {ι : Type} [DecidableEq ι] [Std.Commutative (IntOp.minsi (w := 32))] [Std.Associative (IntOp.minsi (w := 32))] (s : Finset ι) (g : ι → ℕ) (b : ℕ)
    (hb : b < 2 ^ 31) (hg : ∀ x, g x < 2 ^ 31) :
    s.fold IntOp.minsi (BitVec.ofNat 32 b) (fun x => BitVec.ofNat 32 (g x)) = BitVec.ofNat 32 (s.fold min b g) := by
  have hlt : ∀ s : Finset ι, s.fold min b g < 2 ^ 31 := fun s => (Finset.fold_min_le b |>.mpr (Or.inl le_rfl)).trans_lt hb
  induction s using Finset.induction_on with
  | empty => rfl
  | insert a s ha ih =>
    rw [Finset.fold_insert ha, Finset.fold_insert ha, ih, PlanTiles.minsi_word (hg a) (hlt s), min_comm]

/-- The least number among the positions of the greatest entry is the first greatest entry's. -/
theorem first_word [Std.Commutative (IntOp.minsi (w := 32))] [Std.Associative (IntOp.minsi (w := 32))]
    {w : Fin 8 × Fin 128 → EReal} {f : Fin 1000 → EReal} (h : ∀ p, w (at8 p) = f p) :
    Finset.univ.fold IntOp.minsi 2147483647#32 (fun x => if w x = f (first f) then BitVec.ofNat 32 (num x) else 1073741824#32)
      = BitVec.ofNat 32 (first f).val := by
  have e : (fun x => if w x = f (first f) then BitVec.ofNat 32 (num x) else 1073741824#32)
      = fun x => BitVec.ofNat 32 (if w x = f (first f) then num x else 1073741824) := by
    funext x; split <;> rfl
  rw [e, fold_minsi _ _ 2147483647 (by decide) (fun x => by have := num_lt x; split <;> omega)]
  congr 1
  have hF := first_isFirst f
  have hl := (first f).isLt
  refine le_antisymm (Finset.fold_min_le _ |>.mpr (Or.inr ⟨at8 (first f), Finset.mem_univ _, ?_⟩))
    (Finset.le_fold_min _ |>.mpr ⟨by omega, fun x _ => ?_⟩)
  · rw [if_pos (h _), num_at8]
  · split
    · rename_i hx
      by_contra hlt
      have hlt := not_le.mp hlt
      rw [eq_at8 (x := x) (p := ⟨num x, by omega⟩) rfl, h] at hx
      exact absurd hx (hF.2 _ hlt).ne
    · omega

/-- The sum of a table kept at one position. -/
theorem pick (g : Fin 8 → Fin 128 → EReal) (s : Fin 8 → Fin 128 → BitVec 1) (p : Fin 1000)
    (hs : ∀ a b, s a b = BitVec.ofBool (decide (num (a, b) = p.val))) :
    ∑ a, ∑ b, Scalar.select (s a b) (g a b) 0 = g (at8 p).1 (at8 p).2 := by
  have e : ∀ a b, Scalar.select (s a b) (g a b) 0 = if (a, b) = at8 p then g a b else 0 := fun a b => by
    rw [hs, WordCmp.select_decide]
    refine if_congr ⟨eq_at8, fun h => h ▸ num_at8 p⟩ rfl rfl
  simp only [e]
  rw [← Fintype.sum_prod_type' (f := fun a b => if (a, b) = at8 p then g a b else 0), Finset.sum_eq_single (at8 p)]
  · exact if_pos rfl
  · exact fun x _ hx => if_neg hx
  · exact fun hx => absurd (Finset.mem_univ _) hx

end Cert.Tile

end
-- ==== Proof.KerScores.lean ====
/-
  The first kernel read at an index: what it leaves in its result is the masked score of every proposal and class.
-/
module

public import proofs.«01_k».proof.Proof.Spec
public import proofs.«01_k».proof.Proof.KernelIdealRun
public import proofs.«01_k».proof.Proof.Ssa
public import Idealize.ShloMosaic.Lib.Pipeline.ValueKit
public import Idealize.ShloMosaic.Lib.StableHlo.ReadAt

@[expose] public section

noncomputable section

namespace Cert.KernelIdeal.Hand

open Cert.KernelIdeal Cert.KernelIdeal.Gen Cert.Spec
open Idealize.ShloMosaic

/-- The class after the background. -/
theorem one_add_eq_succ (c : Fin 80) (h : 1 + c.val < 81) : (⟨1 + c.val, h⟩ : Fin 81) = c.succ := Fin.ext (Nat.add_comm _ _)

/-- The first kernel's block at row `r` and class `c` is the masked score of that row's logits and decoded box. -/
theorem scoresOut_apply (b0 : Vec Ideal S2000x81 .f32) (b1 b2 b3 b4 : Vec Ideal S2000x80 .f32) (b5 : Vec Ideal S2000x4 .f32)
    (r : Fin 2000) (c : Fin 80) : scoresOut b0 b1 b2 b3 b4 b5 (ix2 r c) =
      masked (prob (fun k => b0 (ix2 r k)) c.succ)
        (box ![b1 (ix2 r c), b2 (ix2 r c), b3 (ix2 r c), b4 (ix2 r c)] (fun k => b5 (ix2 r k))) := by
  pointwise [scoresOut, k0_pay1, k0_pay2, k0_pay3, k0_pay4, k0_pay5, k0_pay6, k0_pay7, k0_pay8, k0_pay9, k0_pay10]
  simp only [one_add_eq_succ, ninf_eq]
  rfl

open Idealize.ShloMosaic.StableHlo Idealize.ShloMosaic.TcCoe Idealize.ShloMosaic.Pipeline

variable (m : (ℓ : Loc nD τ sig) → Buf (Elt Ideal) ℓ) (c : Dev nD)

/-- The logits, deltas and proposals the program is started from, by row and column. -/
def A0 : Fin 20000 → Fin 81 → EReal := fun n k => (m ((c : Thread nD τ).loc main_arg0) : FVec Ideal S20000x81 .f32) (ix2 n k)
def A1 : Fin 20000 → Fin 324 → EReal := fun n k => (m ((c : Thread nD τ).loc main_arg1) : FVec Ideal S20000x324 .f32) (ix2 n k)
def A2 : Fin 20000 → Fin 4 → EReal := fun n k => (m ((c : Thread nD τ).loc main_arg2) : FVec Ideal S20000x4 .f32) (ix2 n k)

/-- Each operation of the first stretch writes a buffer of its own. -/
theorem line0 : Ssa.Line (hostOps0 (F := Ideal)) hostOps0_W := by unfold Ssa.Line; rfl

/-- The deltas reshaped into groups of four, one group for each class. -/
theorem V1_v0 (n : Fin 20000) (g : Fin 81) (k : Fin 4) :
    (V1 m c main_call0_v0 : FVec Ideal S20000x81x4 .f32) (ix3 n g k) = A1 m c n ⟨4 * g + k, by omega⟩ := by
  rw [show V1 m c main_call0_v0 = _ from line0.reshape _ 0 rfl (by decide +kernel), line0.keep _ (by decide +kernel)]
  simp -implicitDefEqProofs only [TRef.toBuf, TRef.ofBuf, cast_cast, cast_eq]
  pointwise
  unfold A1
  exact congrArg _ (congrArg _ (Fin.ext (by simp only; omega)))

/-! The delta columns the first kernel reads: one array for each of the four coordinates. -/

/-- Coordinate 0. -/
theorem V1_v2 (n : Fin 20000) (k : Fin 80) : (V1 m c main_call0_v2 : FVec Ideal S20000x80 .f32) (ix2 n k) = delta (A1 m c) n k 0 := by
  rw [show V1 m c main_call0_v2 = _ from line0.reshape _ 2 rfl (by decide +kernel), line0.unary _ 1 rfl (by decide +kernel)]
  simp -implicitDefEqProofs only [TRef.toBuf, TRef.ofBuf, cast_cast, cast_eq]
  clean_types
  pointwise
  exact (V1_v0 m c ..).trans (congrArg (A1 m c n) (Fin.ext (by simp only; omega)))

/-- Coordinate 1. -/
theorem V1_v4 (n : Fin 20000) (k : Fin 80) : (V1 m c main_call0_v4 : FVec Ideal S20000x80 .f32) (ix2 n k) = delta (A1 m c) n k 1 := by
  rw [show V1 m c main_call0_v4 = _ from line0.reshape _ 4 rfl (by decide +kernel), line0.unary _ 3 rfl (by decide +kernel)]
  simp -implicitDefEqProofs only [TRef.toBuf, TRef.ofBuf, cast_cast, cast_eq]
  clean_types
  pointwise
  exact (V1_v0 m c ..).trans (congrArg (A1 m c n) (Fin.ext (by simp only; omega)))

/-- Coordinate 2. -/
theorem V1_v6 (n : Fin 20000) (k : Fin 80) : (V1 m c main_call0_v6 : FVec Ideal S20000x80 .f32) (ix2 n k) = delta (A1 m c) n k 2 := by
  rw [show V1 m c main_call0_v6 = _ from line0.reshape _ 6 rfl (by decide +kernel), line0.unary _ 5 rfl (by decide +kernel)]
  simp -implicitDefEqProofs only [TRef.toBuf, TRef.ofBuf, cast_cast, cast_eq]
  clean_types
  pointwise
  exact (V1_v0 m c ..).trans (congrArg (A1 m c n) (Fin.ext (by simp only; omega)))

/-- Coordinate 3. -/
theorem V1_v8 (n : Fin 20000) (k : Fin 80) : (V1 m c main_call0_v8 : FVec Ideal S20000x80 .f32) (ix2 n k) = delta (A1 m c) n k 3 := by
  rw [show V1 m c main_call0_v8 = _ from line0.reshape _ 8 rfl (by decide +kernel), line0.unary _ 7 rfl (by decide +kernel)]
  simp -implicitDefEqProofs only [TRef.toBuf, TRef.ofBuf, cast_cast, cast_eq]
  clean_types
  pointwise
  exact (V1_v0 m c ..).trans (congrArg (A1 m c n) (Fin.ext (by simp only; omega)))

/-- The first kernel's result: every candidate's masked score. -/
theorem out0_eq : out0 m c = fun i => maskedAt (A0 m c) (A1 m c) (A2 m c) (i 0) (i 1) := by
  unfold out0
  refine (R0.dat (fun c b => V1 m c b) c).arrAt_eq_of_covers 6 _ (by decide +kernel) fun t hf y => ?_
  blk_simp
  obtain ⟨r, k, rfl⟩ : ∃ (r : Fin 2000) (k : Fin 80), y = ix2 r k := ⟨y 0, y 1, by funext a; fin_cases a <;> rfl⟩
  refine (scoresOut_apply (R0.stg (fun c b => V1 m c b) c 0 t) (R0.stg (fun c b => V1 m c b) c 1 t) (R0.stg (fun c b => V1 m c b) c 2 t)
    (R0.stg (fun c b => V1 m c b) c 3 t) (R0.stg (fun c b => V1 m c b) c 4 t) (R0.stg (fun c b => V1 m c b) c 5 t) r k).trans ?_
  blk_simp [R0.stg]
  have ht : t.val < 10 := t.isLt
  obtain ⟨n, hn⟩ : ∃ n : Fin 20000, n.val = t.val * 2000 + r.val := ⟨⟨t.val * 2000 + r.val, by omega⟩, rfl⟩
  have e0 : ∀ t : Fin cfg0.N, win0_0.index t = ![t.val, 0] := (by decide +kernel : ∀ t : Fin grid0.N, _)
  have e1 : ∀ t : Fin cfg0.N, win0_1.index t = ![t.val, 0] := (by decide +kernel : ∀ t : Fin grid0.N, _)
  have e5 : ∀ t : Fin cfg0.N, win0_5.index t = ![t.val, 0] := (by decide +kernel : ∀ t : Fin grid0.N, _)
  have h0 : ∀ k : Fin 81, (win0_0.blk t).view.emb (ix2 r k) = ix2 n k := fun k => by blk_ext [e0]
  have h1 : (win0_1.blk t).view.emb (ix2 r k) = ix2 n k := by blk_ext [e1]
  have h5 : ∀ k : Fin 4, (win0_5.blk t).view.emb (ix2 r k) = ix2 n k := fun k => by blk_ext [e5]
  simp only [h0, h5, show (win0_2.blk t).view.emb (ix2 r k) = ix2 n k from h1, show (win0_3.blk t).view.emb (ix2 r k) = ix2 n k from h1,
    show (win0_4.blk t).view.emb (ix2 r k) = ix2 n k from h1, show (win0_6.blk t).view.emb (ix2 r k) = ix2 n k from h1, h1]
  rw [V1_v2, V1_v4, V1_v6, V1_v8]
  have hd : ![delta (A1 m c) n k 0, delta (A1 m c) n k 1, delta (A1 m c) n k 2, delta (A1 m c) n k 3] = delta (A1 m c) n k := by
    funext j; fin_cases j <;> rfl
  rw [hd]
  rfl

end Cert.KernelIdeal.Hand
-- ==== Proof.KerGather.lean ====
/-
  What the host does between the kernels, read at an index: the selected candidates' scores, deltas, proposals and labels,
  padded to 1024 and laid out as eight rows of 128.
-/
module

public import proofs.«01_k».proof.Proof.Chosen
public import proofs.«01_k».proof.Proof.KerScores
public import Idealize.ShloMosaic.Lib.Routing.Words

@[expose] public section

noncomputable section

namespace Cert.KernelIdeal.Hand

open Cert.KernelIdeal Cert.KernelIdeal.Gen Cert.Spec
open Idealize.ShloMosaic Idealize.ShloMosaic.TcCoe Idealize.ShloMosaic.StableHlo

section
variable {F : FTy → Type} [FloatOps F]

/-- One word at every position. -/
def allW (b : BitVec 32) : IVec S1000 32 := broadcastInDim S1000 ![] bcast_S_S1000 (constantI S_ 32 b)
/-- The floor of a quotient by eighty. -/
def divV (i : IVec S1000 32) : IVec S1000 32 :=
  select (andi (cmpi .ne (signi i) (broadcastInDim S1000 ![] bcast_S_S1000 (signi (constantI S_ 32 80#32)))) (cmpi .ne (Host.remsi i (allW 80#32)) (allW 0#32)))
    (subi (Host.divsi i (allW 80#32)) (allW 1#32)) (Host.divsi i (allW 80#32))
/-- The divisor of a remainder, one in place of zero. -/
def denV : IVec S_ 32 := select (cmpi .eq (constantI S_ 32 80#32) (constantI S_ 32 0#32)) (constantI S_ 32 1#32) (constantI S_ 32 80#32)
/-- The remainder by eighty, of the divisor's sign. -/
def remV (i : IVec S1000 32) : IVec S1000 32 :=
  select (andi (cmpi .ne (cmpi .slt (Host.remsi i (broadcastInDim S1000 ![] bcast_S_S1000 denV)) (allW 0#32))
      (broadcastInDim S1000 ![] bcast_S_S1000 (cmpi .slt denV (constantI S_ 32 0#32))))
      (cmpi .ne (Host.remsi i (broadcastInDim S1000 ![] bcast_S_S1000 denV)) (allW 0#32)))
    (addi (Host.remsi i (broadcastInDim S1000 ![] bcast_S_S1000 denV)) (broadcastInDim S1000 ![] bcast_S_S1000 denV))
    (Host.remsi i (broadcastInDim S1000 ![] bcast_S_S1000 denV))
/-- Index words counted from the end of `n` where negative. -/
def wrapW (n : BitVec 32) (i : IVec S1000 32) : IVec S1000 32 := select (cmpi .slt i (allW 0#32)) (addi i (allW n)) i
def colW (i : IVec S1000 32) : IVec S1000x1 32 := broadcastInDim S1000x1 ![0] bcast_S1000_S1000x1_0 i
def pairW (a b : IVec S1000x1 32) : IVec S1000x2 32 :=
  concatenate S1000x2 1 [⟨S1000x1, a⟩, ⟨S1000x1, b⟩] concatenates_S1000x1_S1000x1_S1000x2_d1
def succW (i : IVec S1000 32) : IVec S1000 32 := addi i (allW 1#32)
def deepV (x : FVec F S20000x324 .f32) : FVec F S20000x81x4 .f32 := shapeCast S20000x81x4 x shapeCasts_S20000x324_S20000x81x4
def flatV (x : FVec F S20000x80 .f32) : FVec F S1600000 .f32 := shapeCast S1600000 x shapeCasts_S20000x80_S1600000
/-- A vector, and a table, padded to 1024. -/
def pad1V (x : FVec F S1000 .f32) (b : BitVec 32) : FVec F S1024 .f32 :=
  concatenate S1024 0 [⟨S1000, x⟩, ⟨S24, broadcastInDim S24 ![] bcast_S_S24 (constant S_ .f32 b)⟩] concatenates_S1000_S24_S1024_d0
def pad4V (x : FVec F S1000x4 .f32) : FVec F S1024x4 .f32 :=
  concatenate S1024x4 0 [⟨S1000x4, x⟩, ⟨S24x4, broadcastInDim S24x4 ![] bcast_S_S24x4 (constant S_ .f32 0x00000000#32)⟩] concatenates_S1000x4_S24x4_S1024x4_d0
def colV (x : FVec F S1024x4 .f32) (k : ℕ) (h : S1024x4.Slices ![0, k] S1024x1) : FVec F S1024 .f32 :=
  shapeCast S1024 (extractStridedSlice S1024x1 ![0, k] x h) shapeCasts_S1024x1_S1024
def tileV (x : FVec F S1024 .f32) : FVec F S8x128 .f32 := shapeCast S8x128 x shapeCasts_S1024_S8x128

variable (V : Valuation τ sig (Elt F))

/-- Each operation of this stretch writes a buffer of its own. -/
theorem line1 : Ssa.Line (hostOps1 (F := F)) hostOps1_W := by unfold Ssa.Line; rfl

/-! What each buffer holds in terms of the buffers before it: the selection, the row and class of each selected candidate, the gathered
deltas and proposals, the labels, the padding, the columns and the tiles. -/

theorem v10_eq : after hostOps1 V main_call0_v10 = flatV (after hostOps1 V main_call0_v9) := by
  rw [line1.reshape _ 0 rfl (by decide +kernel)]
  rfl
theorem values_eq : after hostOps1 V main_call0_values = (Host.topK S1000 0 (FloatOps.cmpfTotal (F := F) (φ := .f32) .gt) (after hostOps1 V main_call0_v10)
    sliceFits_S1600000_S1000).1 := line1.unary _ 1 rfl (by decide +kernel)
theorem indices_eq : after hostOps1 V main_call0_indices = (Host.topK S1000 0 (FloatOps.cmpfTotal (F := F) (φ := .f32) .gt) (after hostOps1 V main_call0_v10)
    sliceFits_S1600000_S1000).2 := line1.unary _ 2 rfl (by decide +kernel)
theorem v11_eq : after hostOps1 V main_call0_v11 = divV (after hostOps1 V main_call0_indices) := by
  rw [line1.ternary _ 20 rfl (by decide +kernel), line1.binary _ 16 rfl (by decide +kernel), line1.binary _ 10 rfl (by decide +kernel), line1.unary _ 7 rfl (by decide +kernel), line1.unary _ 9 rfl (by decide +kernel), line1.unary _ 8 rfl (by decide +kernel), line1.binary _ 15 rfl (by decide +kernel), line1.binary _ 12 rfl (by decide +kernel), line1.unary _ 11 rfl (by decide +kernel), line1.unary _ 14 rfl (by decide +kernel), line1.nullary _ 13 rfl (by decide +kernel), line1.binary _ 19 rfl (by decide +kernel), line1.binary _ 6 rfl (by decide +kernel), line1.unary _ 5 rfl (by decide +kernel), line1.unary _ 4 rfl (by decide +kernel), line1.nullary _ 3 rfl (by decide +kernel), line1.unary _ 18 rfl (by decide +kernel), line1.nullary _ 17 rfl (by decide +kernel)]
  simp -implicitDefEqProofs only [TRef.toBuf, TRef.ofBuf, cast_cast, cast_eq]
  rfl
theorem v12_eq : after hostOps1 V main_call0_v12 = remV (after hostOps1 V main_call0_indices) := by
  rw [line1.ternary _ 42 rfl (by decide +kernel), line1.binary _ 39 rfl (by decide +kernel), line1.binary _ 38 rfl (by decide +kernel), line1.binary _ 34 rfl (by decide +kernel), line1.unary _ 33 rfl (by decide +kernel), line1.nullary _ 32 rfl (by decide +kernel), line1.unary _ 37 rfl (by decide +kernel), line1.binary _ 36 rfl (by decide +kernel), line1.nullary _ 35 rfl (by decide +kernel), line1.binary _ 31 rfl (by decide +kernel), line1.unary _ 30 rfl (by decide +kernel), line1.nullary _ 29 rfl (by decide +kernel), line1.binary _ 41 rfl (by decide +kernel), line1.unary _ 40 rfl (by decide +kernel), line1.binary _ 28 rfl (by decide +kernel), line1.unary _ 27 rfl (by decide +kernel), line1.ternary _ 26 rfl (by decide +kernel), line1.binary _ 24 rfl (by decide +kernel), line1.nullary _ 25 rfl (by decide +kernel), line1.nullary _ 23 rfl (by decide +kernel), line1.unary _ 22 rfl (by decide +kernel), line1.nullary _ 21 rfl (by decide +kernel)]
  simp -implicitDefEqProofs only [TRef.toBuf, TRef.ofBuf, cast_cast, cast_eq]
  rfl
theorem v13_eq : after hostOps1 V main_call0_v13 = deepV (after hostOps1 V main_arg1) := by
  rw [line1.reshape _ 43 rfl (by decide +kernel)]
  rfl
theorem v15_eq : after hostOps1 V main_call0_v15 = succW (after hostOps1 V main_call0_v12) := by
  rw [line1.binary _ 46 rfl (by decide +kernel), line1.unary _ 45 rfl (by decide +kernel), line1.nullary _ 44 rfl (by decide +kernel)]
  simp -implicitDefEqProofs only [TRef.toBuf, TRef.ofBuf, cast_cast, cast_eq]
  rfl
theorem v20_eq : after hostOps1 V main_call0_v20 = wrapW 20000#32 (after hostOps1 V main_call0_v11) := by
  rw [line1.ternary _ 53 rfl (by decide +kernel), line1.binary _ 49 rfl (by decide +kernel), line1.unary _ 48 rfl (by decide +kernel), line1.nullary _ 47 rfl (by decide +kernel), line1.binary _ 52 rfl (by decide +kernel), line1.unary _ 51 rfl (by decide +kernel), line1.nullary _ 50 rfl (by decide +kernel)]
  simp -implicitDefEqProofs only [TRef.toBuf, TRef.ofBuf, cast_cast, cast_eq]
  rfl
theorem v25_eq : after hostOps1 V main_call0_v25 = wrapW 81#32 (after hostOps1 V main_call0_v15) := by
  rw [line1.ternary _ 60 rfl (by decide +kernel), line1.binary _ 56 rfl (by decide +kernel), line1.unary _ 55 rfl (by decide +kernel), line1.nullary _ 54 rfl (by decide +kernel), line1.binary _ 59 rfl (by decide +kernel), line1.unary _ 58 rfl (by decide +kernel), line1.nullary _ 57 rfl (by decide +kernel)]
  simp -implicitDefEqProofs only [TRef.toBuf, TRef.ofBuf, cast_cast, cast_eq]
  rfl
theorem v28_eq : after hostOps1 V main_call0_v28 = pairW (colW (after hostOps1 V main_call0_v20)) (colW (after hostOps1 V main_call0_v25)) := by
  rw [line1.binary _ 63 rfl (by decide +kernel), line1.unary _ 61 rfl (by decide +kernel), line1.unary _ 62 rfl (by decide +kernel)]
  simp -implicitDefEqProofs only [TRef.toBuf, TRef.ofBuf, cast_cast, cast_eq]
  rfl
theorem v29_eq : after hostOps1 V main_call0_v29 = Host.gather gather_S20000x81x4_S1000x2_S1000x4_1_01_n_n_01_1_114 (after hostOps1 V main_call0_v13)
    (after hostOps1 V main_call0_v28) := line1.binary _ 64 rfl (by decide +kernel)
theorem v34_eq : after hostOps1 V main_call0_v34 = wrapW 20000#32 (after hostOps1 V main_call0_v11) := by
  rw [line1.ternary _ 71 rfl (by decide +kernel), line1.binary _ 67 rfl (by decide +kernel), line1.unary _ 66 rfl (by decide +kernel), line1.nullary _ 65 rfl (by decide +kernel), line1.binary _ 70 rfl (by decide +kernel), line1.unary _ 69 rfl (by decide +kernel), line1.nullary _ 68 rfl (by decide +kernel)]
  simp -implicitDefEqProofs only [TRef.toBuf, TRef.ofBuf, cast_cast, cast_eq]
  rfl
theorem v35_eq : after hostOps1 V main_call0_v35 = colW (after hostOps1 V main_call0_v34) := by
  rw [line1.unary _ 72 rfl (by decide +kernel)]
  rfl
theorem v36_eq : after hostOps1 V main_call0_v36 = Host.gather gather_S20000x4_S1000x1_S1000x4_1_0_n_n_0_1_14 (after hostOps1 V main_arg2)
    (after hostOps1 V main_call0_v35) := line1.binary _ 73 rfl (by decide +kernel)
theorem v38_eq : after hostOps1 V main_call0_v38 = succW (after hostOps1 V main_call0_v12) := by
  rw [line1.binary _ 76 rfl (by decide +kernel), line1.unary _ 75 rfl (by decide +kernel), line1.nullary _ 74 rfl (by decide +kernel)]
  simp -implicitDefEqProofs only [TRef.toBuf, TRef.ofBuf, cast_cast, cast_eq]
  rfl
theorem v39_eq : after hostOps1 V main_call0_v39 = sitofp .f32 (after hostOps1 V main_call0_v38) := by
  rw [line1.unary _ 77 rfl (by decide +kernel)]
  rfl
theorem v41_eq : after hostOps1 V main_call0_v41 = pad1V (after hostOps1 V main_call0_values) 0xBF800000#32 := by
  rw [line1.binary _ 80 rfl (by decide +kernel), line1.unary _ 79 rfl (by decide +kernel), line1.nullary _ 78 rfl (by decide +kernel)]
  simp -implicitDefEqProofs only [TRef.toBuf, TRef.ofBuf, cast_cast, cast_eq]
  rfl
theorem v43_eq : after hostOps1 V main_call0_v43 = pad4V (after hostOps1 V main_call0_v29) := by
  rw [line1.binary _ 83 rfl (by decide +kernel), line1.unary _ 82 rfl (by decide +kernel), line1.nullary _ 81 rfl (by decide +kernel)]
  simp -implicitDefEqProofs only [TRef.toBuf, TRef.ofBuf, cast_cast, cast_eq]
  rfl
theorem v45_eq : after hostOps1 V main_call0_v45 = pad4V (after hostOps1 V main_call0_v36) := by
  rw [line1.binary _ 86 rfl (by decide +kernel), line1.unary _ 85 rfl (by decide +kernel), line1.nullary _ 84 rfl (by decide +kernel)]
  simp -implicitDefEqProofs only [TRef.toBuf, TRef.ofBuf, cast_cast, cast_eq]
  rfl
theorem v47_eq : after hostOps1 V main_call0_v47 = pad1V (after hostOps1 V main_call0_v39) 0x00000000#32 := by
  rw [line1.binary _ 89 rfl (by decide +kernel), line1.unary _ 88 rfl (by decide +kernel), line1.nullary _ 87 rfl (by decide +kernel)]
  simp -implicitDefEqProofs only [TRef.toBuf, TRef.ofBuf, cast_cast, cast_eq]
  rfl
theorem v49_eq : after hostOps1 V main_call0_v49 = colV (after hostOps1 V main_call0_v43) 0 slices_S1024x4_S1024x1_0_0 := by
  rw [line1.reshape _ 91 rfl (by decide +kernel), line1.unary _ 90 rfl (by decide +kernel)]
  simp -implicitDefEqProofs only [TRef.toBuf, TRef.ofBuf, cast_cast, cast_eq]
  rfl
theorem v51_eq : after hostOps1 V main_call0_v51 = colV (after hostOps1 V main_call0_v43) 1 slices_S1024x4_S1024x1_0_1 := by
  rw [line1.reshape _ 93 rfl (by decide +kernel), line1.unary _ 92 rfl (by decide +kernel)]
  simp -implicitDefEqProofs only [TRef.toBuf, TRef.ofBuf, cast_cast, cast_eq]
  rfl
theorem v53_eq : after hostOps1 V main_call0_v53 = colV (after hostOps1 V main_call0_v43) 2 slices_S1024x4_S1024x1_0_2 := by
  rw [line1.reshape _ 95 rfl (by decide +kernel), line1.unary _ 94 rfl (by decide +kernel)]
  simp -implicitDefEqProofs only [TRef.toBuf, TRef.ofBuf, cast_cast, cast_eq]
  rfl
theorem v55_eq : after hostOps1 V main_call0_v55 = colV (after hostOps1 V main_call0_v43) 3 slices_S1024x4_S1024x1_0_3 := by
  rw [line1.reshape _ 97 rfl (by decide +kernel), line1.unary _ 96 rfl (by decide +kernel)]
  simp -implicitDefEqProofs only [TRef.toBuf, TRef.ofBuf, cast_cast, cast_eq]
  rfl
theorem v57_eq : after hostOps1 V main_call0_v57 = colV (after hostOps1 V main_call0_v45) 0 slices_S1024x4_S1024x1_0_0 := by
  rw [line1.reshape _ 99 rfl (by decide +kernel), line1.unary _ 98 rfl (by decide +kernel)]
  simp -implicitDefEqProofs only [TRef.toBuf, TRef.ofBuf, cast_cast, cast_eq]
  rfl
theorem v59_eq : after hostOps1 V main_call0_v59 = colV (after hostOps1 V main_call0_v45) 1 slices_S1024x4_S1024x1_0_1 := by
  rw [line1.reshape _ 101 rfl (by decide +kernel), line1.unary _ 100 rfl (by decide +kernel)]
  simp -implicitDefEqProofs only [TRef.toBuf, TRef.ofBuf, cast_cast, cast_eq]
  rfl
theorem v61_eq : after hostOps1 V main_call0_v61 = colV (after hostOps1 V main_call0_v45) 2 slices_S1024x4_S1024x1_0_2 := by
  rw [line1.reshape _ 103 rfl (by decide +kernel), line1.unary _ 102 rfl (by decide +kernel)]
  simp -implicitDefEqProofs only [TRef.toBuf, TRef.ofBuf, cast_cast, cast_eq]
  rfl
theorem v63_eq : after hostOps1 V main_call0_v63 = colV (after hostOps1 V main_call0_v45) 3 slices_S1024x4_S1024x1_0_3 := by
  rw [line1.reshape _ 105 rfl (by decide +kernel), line1.unary _ 104 rfl (by decide +kernel)]
  simp -implicitDefEqProofs only [TRef.toBuf, TRef.ofBuf, cast_cast, cast_eq]
  rfl
theorem v64_eq : after hostOps1 V main_call0_v64 = tileV (after hostOps1 V main_call0_v41) := by
  rw [line1.reshape _ 106 rfl (by decide +kernel)]
  rfl
theorem v65_eq : after hostOps1 V main_call0_v65 = tileV (after hostOps1 V main_call0_v49) := by
  rw [line1.reshape _ 107 rfl (by decide +kernel)]
  rfl
theorem v66_eq : after hostOps1 V main_call0_v66 = tileV (after hostOps1 V main_call0_v51) := by
  rw [line1.reshape _ 108 rfl (by decide +kernel)]
  rfl
theorem v67_eq : after hostOps1 V main_call0_v67 = tileV (after hostOps1 V main_call0_v53) := by
  rw [line1.reshape _ 109 rfl (by decide +kernel)]
  rfl
theorem v68_eq : after hostOps1 V main_call0_v68 = tileV (after hostOps1 V main_call0_v55) := by
  rw [line1.reshape _ 110 rfl (by decide +kernel)]
  rfl
theorem v69_eq : after hostOps1 V main_call0_v69 = tileV (after hostOps1 V main_call0_v57) := by
  rw [line1.reshape _ 111 rfl (by decide +kernel)]
  rfl
theorem v70_eq : after hostOps1 V main_call0_v70 = tileV (after hostOps1 V main_call0_v59) := by
  rw [line1.reshape _ 112 rfl (by decide +kernel)]
  rfl
theorem v71_eq : after hostOps1 V main_call0_v71 = tileV (after hostOps1 V main_call0_v61) := by
  rw [line1.reshape _ 113 rfl (by decide +kernel)]
  rfl
theorem v72_eq : after hostOps1 V main_call0_v72 = tileV (after hostOps1 V main_call0_v63) := by
  rw [line1.reshape _ 114 rfl (by decide +kernel)]
  rfl
theorem v73_eq : after hostOps1 V main_call0_v73 = tileV (after hostOps1 V main_call0_v47) := by
  rw [line1.reshape _ 115 rfl (by decide +kernel)]
  rfl
end

/-- The sign of a non-negative word. -/
theorem sign_word {q : ℕ} (hq : q < 1600000) :
    (if BitVec.ofNat 32 q = 0 then (0 : BitVec 32) else if (BitVec.ofNat 32 q).msb = true then -1 else 1) = if q = 0 then 0 else 1 := by
  by_cases h : q = 0
  · subst h; rfl
  · have h1 : ¬ BitVec.ofNat 32 q = 0 := fun e => h (by have := congrArg BitVec.toNat e; simp at this; omega)
    have h2 : (BitVec.ofNat 32 q).msb = false := by rw [BitVec.msb_eq_false_iff_two_mul_lt]; simp; omega
    rw [if_neg h1, if_neg h, h2]; rfl

/-- The row of a candidate, from its flat position. -/
theorem divV_at (i : IVec S1000 32) (p) (q : ℕ) (hq : q < 1600000) (h : i (ix1 p) = BitVec.ofNat 32 q) : divV i (ix1 p) = BitVec.ofNat 32 (q / 80) := by
  pointwise [divV, allW]
  rw [h, sign_word hq, Routing.divsi_word .host (by omega) (by decide : 0 < 80) (by decide), Routing.remsi_word .host (by omega) (by decide : 0 < 80) (by decide)]
  refine WordCmp.select_of_eq_zero ?_ _ _
  by_cases h0 : q = 0
  · subst h0; decide
  · rw [if_neg h0]
    show IntOp.andi 0#1 _ = 0#1
    simp [IntOp.andi]

/-- The class of a candidate, from its flat position. -/
theorem remV_at (i : IVec S1000 32) (p) (q : ℕ) (hq : q < 1600000) (h : i (ix1 p) = BitVec.ofNat 32 q) : remV i (ix1 p) = BitVec.ofNat 32 (q % 80) := by
  pointwise [remV, allW, denV]
  rw [h, show Scalar.select (IntOp.cmpi .eq 80#32 0#32) 1#32 80#32 = 80#32 from rfl,
    Routing.remsi_word .host (by omega) (by decide : 0 < 80) (by decide)]
  refine WordCmp.select_of_eq_zero ?_ _ _
  have hr : q % 80 < 80 := Nat.mod_lt _ (by decide)
  rw [(WordCmp.cmpi_slt_ofNat_eq_zero_iff (w := 32) (a := q % 80) (b := 0) (by omega) (by decide)).mpr (by omega)]
  rw [show IntOp.cmpi .ne 0#1 (IntOp.cmpi .slt 80#32 0#32) = 0#1 from rfl]
  simp [IntOp.andi]

/-- An index that is not negative stays. -/
theorem wrapW_at (n : BitVec 32) (i : IVec S1000 32) (p) (q : ℕ) (hq : q < 2147483648) (h : i (ix1 p) = BitVec.ofNat 32 q) :
    wrapW n i (ix1 p) = BitVec.ofNat 32 q := by
  pointwise [wrapW, allW]
  rw [h]
  exact Pick.wrap_small hq _
/-- A vector as a column. -/
theorem colW_at (i : IVec S1000 32) (p k) : colW i (ix2 p k) = i (ix1 p) := by pointwise [colW]
/-- The first of two columns side by side. -/
theorem pairW_0 (a b : IVec S1000x1 32) (p) : pairW a b (ix2 p 0) = a (ix2 p 0) := by pointwise [pairW]
/-- The second of two columns side by side. -/
theorem pairW_1 (a b : IVec S1000x1 32) (p) : pairW a b (ix2 p 1) = b (ix2 p 0) := by pointwise [pairW]
/-- A word plus one. -/
theorem succW_at (i : IVec S1000 32) (p) (q : ℕ) (h : i (ix1 p) = BitVec.ofNat 32 q) : succW i (ix1 p) = BitVec.ofNat 32 (q + 1) := by
  pointwise [succW, allW]
  rw [h]; exact (BitVec.ofNat_add q 1).symm
/-- The deltas of proposal `n` at group `c` of four. -/
theorem deepV_at (x : FVec Ideal S20000x324 .f32) (n c k) (h : 4 * c.val + k.val < 324) : deepV x (ix3 n c k) = x (ix2 n ⟨4 * c.val + k.val, h⟩) := by
  pointwise [deepV]
  exact congrArg (fun q => x (ix2 n q)) (Fin.ext (by simp only; omega))
/-- A table of scores read as one vector. -/
theorem flatV_at (x : FVec Ideal S20000x80 .f32) (q : Fin 1600000) : flatV x (ix1 q) = x (ix2 ⟨q.val / 80, by omega⟩ ⟨q.val % 80, by omega⟩) := by
  pointwise [flatV]
/-- One column of a table. -/
theorem colV_at (x : FVec Ideal S1024x4 .f32) (k : ℕ) (hk : k < 4) (h) (p) : colV x k h (ix1 p) = x (ix2 p ⟨k, hk⟩) := by
  pointwise [colV]
/-- The tile position of entry `p`. -/
theorem tileV_at (x : FVec Ideal S1024 .f32) (r c) (p : Fin 1024) (h : 128 * r.val + c.val = p.val) : tileV x (ix2 r c) = x (ix1 p) := by
  pointwise [tileV]
  exact congrArg (fun q => x (ix1 q)) (Fin.ext (by simp only; omega))
/-- A padded vector before its padding. -/
theorem pad1V_lt (x : FVec Ideal S1000 .f32) (b) (p : Fin 1000) (q : Fin 1024) (h : q.val = p.val) : pad1V x b (ix1 q) = x (ix1 p) := by
  pointwise [pad1V]
  rw [dif_pos (h ▸ p.isLt)]
  exact congrArg (fun q => x (ix1 q)) (Fin.ext h)
/-- A padded table before its padding. -/
theorem pad4V_lt (x : FVec Ideal S1000x4 .f32) (p : Fin 1000) (q : Fin 1024) (h : q.val = p.val) (k) : pad4V x (ix2 q k) = x (ix2 p k) := by
  pointwise [pad4V]
  rw [dif_pos (h ▸ p.isLt)]
  exact congrArg (fun q => x (ix2 q k)) (Fin.ext h)

section
variable (m : (ℓ : Loc nD τ sig) → Buf (Elt Ideal) ℓ) (c : Dev nD)

/-- The candidate, box, label and score the kernel's host stretch selects at each position. -/
abbrev ksel := Chosen.sel (A0 m c) (A1 m c) (A2 m c)
abbrev kbx := Chosen.bx (A0 m c) (A1 m c) (A2 m c)
abbrev klb := Chosen.lb (A0 m c) (A1 m c) (A2 m c)
abbrev kval := Chosen.val (A0 m c) (A1 m c) (A2 m c)

/-- The first kernel's result is still there after this stretch. -/
theorem u9 : after hostOps1 (U2 m c) main_call0_v9 = out0 m c := (line1.keep _ (by decide +kernel)).trans (U_out0 m c)
/-- So is the second argument. -/
theorem uarg1 : after hostOps1 (U2 m c) main_arg1 = m ((c : Thread nD τ).loc main_arg1) :=
  (line1.keep _ (by decide +kernel)).trans ((U_ne0 m c _ (by decide +kernel)).trans (V1_of m c _ (by decide +kernel)))
/-- So is the third. -/
theorem uarg2 : after hostOps1 (U2 m c) main_arg2 = m ((c : Thread nD τ).loc main_arg2) :=
  (line1.keep _ (by decide +kernel)).trans ((U_ne0 m c _ (by decide +kernel)).trans (V1_of m c _ (by decide +kernel)))

/-- The masked scores as one vector. -/
theorem v10_at : (after hostOps1 (U2 m c) main_call0_v10 : FVec Ideal S1600000 .f32) = cand (A0 m c) (A1 m c) (A2 m c) := by
  rw [v10_eq, u9, out0_eq]
  funext i
  obtain ⟨q, rfl⟩ : ∃ q : Fin 1600000, i = ix1 q := ⟨i 0, by funext a; obtain rfl : a = 0 := Subsingleton.elim _ _; rfl⟩
  rw [flatV_at]
  rfl
/-- The selected positions. -/
theorem indices_at (p) : (after hostOps1 (U2 m c) main_call0_indices : IVec S1000 32) (ix1 p) = BitVec.ofNat 32 (ksel m c p).val := by
  rw [indices_eq, v10_at]; exact Chosen.top_snd _ _ _ p
/-- The selected scores. -/
theorem values_at (p) : (after hostOps1 (U2 m c) main_call0_values : FVec Ideal S1000 .f32) (ix1 p) = kval m c p := by
  rw [values_eq, v10_at]; rfl
/-- The rows of the selected candidates. -/
theorem v11_at (p) : (after hostOps1 (U2 m c) main_call0_v11 : IVec S1000 32) (ix1 p) = BitVec.ofNat 32 (rowOf (ksel m c p)).val := by
  rw [v11_eq]; exact divV_at _ p _ (ksel m c p).isLt (indices_at m c p)
/-- Their classes. -/
theorem v12_at (p) : (after hostOps1 (U2 m c) main_call0_v12 : IVec S1000 32) (ix1 p) = BitVec.ofNat 32 (clsOf (ksel m c p)).val := by
  rw [v12_eq]; exact remV_at _ p _ (ksel m c p).isLt (indices_at m c p)
/-- Their groups of deltas. -/
theorem v15_at (p) : (after hostOps1 (U2 m c) main_call0_v15 : IVec S1000 32) (ix1 p) = BitVec.ofNat 32 (clsOf (ksel m c p)).succ.val := by
  rw [v15_eq]; exact succW_at _ p _ (v12_at m c p)
/-- The rows as indices. -/
theorem v20_at (p) : (after hostOps1 (U2 m c) main_call0_v20 : IVec S1000 32) (ix1 p) = BitVec.ofNat 32 (rowOf (ksel m c p)).val := by
  rw [v20_eq]; exact wrapW_at _ _ p _ (by omega) (v11_at m c p)
/-- The groups of deltas as indices. -/
theorem v25_at (p) : (after hostOps1 (U2 m c) main_call0_v25 : IVec S1000 32) (ix1 p) = BitVec.ofNat 32 (clsOf (ksel m c p)).succ.val := by
  rw [v25_eq]; exact wrapW_at _ _ p _ (by omega) (v15_at m c p)
/-- The selected deltas. -/
theorem v29_at (p k) : (after hostOps1 (U2 m c) main_call0_v29 : FVec Ideal S1000x4 .f32) (ix2 p k)
    = delta (A1 m c) (rowOf (ksel m c p)) (clsOf (ksel m c p)) k := by
  rw [v29_eq, v28_eq, v13_eq, uarg1]
  refine (Pick.pairGather _ _ _ p k (rowOf (ksel m c p)) (clsOf (ksel m c p)).succ (by decide) (by decide)
    (by rw [pairW_0, colW_at, v20_at]) (by rw [pairW_1, colW_at, v25_at])).trans ?_
  exact deepV_at _ _ _ _ (by omega)
/-- The selected proposals. -/
theorem v36_at (p k) : (after hostOps1 (U2 m c) main_call0_v36 : FVec Ideal S1000x4 .f32) (ix2 p k) = A2 m c (rowOf (ksel m c p)) k := by
  rw [v36_eq, v35_eq, v34_eq, uarg2]
  exact Pick.rowGather _ _ _ p k (rowOf (ksel m c p)) (by decide) (by rw [colW_at]; exact wrapW_at _ _ p _ (by omega) (v11_at m c p))
/-- The selected labels. -/
theorem v39_at (p) : (after hostOps1 (U2 m c) main_call0_v39 : FVec Ideal S1000 .f32) (ix1 p) = klb m c p := by
  have h : (after hostOps1 (U2 m c) main_call0_v38 : IVec S1000 32) (ix1 p) = Chosen.word (A0 m c) (A1 m c) (A2 m c) p := by
    rw [v38_eq]; exact succW_at _ p _ (v12_at m c p)
  rw [v39_eq]
  exact congrArg (FloatOps.sitofp (F := Ideal) .f32) h

/-! The ten operands of the second kernel at the position of entry `p`. -/

variable {r : Fin 8} {l : Fin 128} {p : Fin 1000} (h : 128 * r.val + l.val = p.val)
include h

/-- The tile of scores. -/
theorem v64_at : (U3 m c main_call0_v64 : FVec Ideal S8x128 .f32) (ix2 r l) = kval m c p := by
  unfold U3
  rw [v64_eq, tileV_at _ r l ⟨p.val, by omega⟩ h, v41_eq, pad1V_lt _ _ p _ rfl, values_at]
/-- The tile of labels. -/
theorem v73_at : (U3 m c main_call0_v73 : FVec Ideal S8x128 .f32) (ix2 r l) = klb m c p := by
  unfold U3
  rw [v73_eq, tileV_at _ r l ⟨p.val, by omega⟩ h, v47_eq, pad1V_lt _ _ p _ rfl, v39_at]

/-! The four tiles of deltas, and the four of proposals. -/

theorem v65_at : (U3 m c main_call0_v65 : FVec Ideal S8x128 .f32) (ix2 r l) = delta (A1 m c) (rowOf (ksel m c p)) (clsOf (ksel m c p)) 0 := by
  unfold U3
  rw [v65_eq, tileV_at _ r l ⟨p.val, by omega⟩ h, v49_eq, colV_at _ 0 (by decide), v43_eq, pad4V_lt _ p _ rfl, v29_at]
  rfl
theorem v66_at : (U3 m c main_call0_v66 : FVec Ideal S8x128 .f32) (ix2 r l) = delta (A1 m c) (rowOf (ksel m c p)) (clsOf (ksel m c p)) 1 := by
  unfold U3
  rw [v66_eq, tileV_at _ r l ⟨p.val, by omega⟩ h, v51_eq, colV_at _ 1 (by decide), v43_eq, pad4V_lt _ p _ rfl, v29_at]
  rfl
theorem v67_at : (U3 m c main_call0_v67 : FVec Ideal S8x128 .f32) (ix2 r l) = delta (A1 m c) (rowOf (ksel m c p)) (clsOf (ksel m c p)) 2 := by
  unfold U3
  rw [v67_eq, tileV_at _ r l ⟨p.val, by omega⟩ h, v53_eq, colV_at _ 2 (by decide), v43_eq, pad4V_lt _ p _ rfl, v29_at]
  rfl
theorem v68_at : (U3 m c main_call0_v68 : FVec Ideal S8x128 .f32) (ix2 r l) = delta (A1 m c) (rowOf (ksel m c p)) (clsOf (ksel m c p)) 3 := by
  unfold U3
  rw [v68_eq, tileV_at _ r l ⟨p.val, by omega⟩ h, v55_eq, colV_at _ 3 (by decide), v43_eq, pad4V_lt _ p _ rfl, v29_at]
  rfl
theorem v69_at : (U3 m c main_call0_v69 : FVec Ideal S8x128 .f32) (ix2 r l) = A2 m c (rowOf (ksel m c p)) 0 := by
  unfold U3
  rw [v69_eq, tileV_at _ r l ⟨p.val, by omega⟩ h, v57_eq, colV_at _ 0 (by decide), v45_eq, pad4V_lt _ p _ rfl, v36_at]
  rfl
theorem v70_at : (U3 m c main_call0_v70 : FVec Ideal S8x128 .f32) (ix2 r l) = A2 m c (rowOf (ksel m c p)) 1 := by
  unfold U3
  rw [v70_eq, tileV_at _ r l ⟨p.val, by omega⟩ h, v59_eq, colV_at _ 1 (by decide), v45_eq, pad4V_lt _ p _ rfl, v36_at]
  rfl
theorem v71_at : (U3 m c main_call0_v71 : FVec Ideal S8x128 .f32) (ix2 r l) = A2 m c (rowOf (ksel m c p)) 2 := by
  unfold U3
  rw [v71_eq, tileV_at _ r l ⟨p.val, by omega⟩ h, v61_eq, colV_at _ 2 (by decide), v45_eq, pad4V_lt _ p _ rfl, v36_at]
  rfl
theorem v72_at : (U3 m c main_call0_v72 : FVec Ideal S8x128 .f32) (ix2 r l) = A2 m c (rowOf (ksel m c p)) 3 := by
  unfold U3
  rw [v72_eq, tileV_at _ r l ⟨p.val, by omega⟩ h, v63_eq, colV_at _ 3 (by decide), v45_eq, pad4V_lt _ p _ rfl, v36_at]
  rfl

end

end Cert.KernelIdeal.Hand

end
-- ==== Proof.Nms.lean ====
/-
  The second kernel read at an index: its result is the rows the greedy suppression keeps.
-/
module

public import proofs.«01_k».proof.Proof.Tile
public import proofs.«01_k».proof.Proof.KerGather

@[expose] public section

noncomputable section

namespace Cert.KernelIdeal.Hand

open Cert.KernelIdeal Cert.KernelIdeal.Gen Cert.Spec Cert.Tile Cert.Greedy
open Idealize.ShloMosaic Idealize.ShloMosaic.TcCoe

/-- A tile holds an entry of `f` at each of the thousand positions. -/
def Holds (T : FVec Ideal S8x128 .f32) (f : Fin 1000 → EReal) : Prop := ∀ p, T (ix2 (at8 p).1 (at8 p).2) = f p

/-- The greatest coordinate the kernel finds. -/
def envMax (e : LoopEnv Ideal) : EReal :=
  max e.v66 (max e.v72 (max e.v78 (Finset.univ.fold max (Ideal.ofBits .f32 0xFF800000#32) fun x : Fin 8 × Fin 128 => e.v80 (ix2 x.1 x.2))))

/-- What the loop's trips read, for boxes `bx` and labels `lb`. -/
structure EnvOf (e : LoopEnv Ideal) (bx : Fin 1000 → Fin 4 → EReal) (lb : Fin 1000 → EReal) : Prop where
  pos : ∀ a b, e.v4 (ix2 a b) = BitVec.ofNat 32 (num (a, b))
  x1 : Holds e.v51 fun p => bx p 0
  y1 : Holds e.v54 fun p => bx p 1
  x2 : Holds e.v57 fun p => bx p 2
  y2 : Holds e.v60 fun p => bx p 3
  lb : Holds e.v89 lb
  mx : envMax e = maxCoord bx
  col : ∀ r c, e.v104 (ix2 r c) = BitVec.ofNat 32 c.val

/-- The offset of a class. -/
theorem pay1_at (e : LoopEnv Ideal) (a b) : k1_pay1 e.v66 e.v72 e.v78 e.v80 e.v89 (ix2 a b) = e.v89 (ix2 a b) * (envMax e + Ideal.ofBits .f32 0x3F800000#32) := by
  unfold envMax
  pointwise [k1_pay1]

/-! The four shifted corners and the shifted area, one position at a time. -/

theorem pay2_at (e : LoopEnv Ideal) (a b) : k1_pay2 e.v51 e.v66 e.v72 e.v78 e.v80 e.v89 (ix2 a b) = e.v51 (ix2 a b) + k1_pay1 e.v66 e.v72 e.v78 e.v80 e.v89 (ix2 a b) := by
  pointwise [k1_pay2]
theorem pay3_at (e : LoopEnv Ideal) (a b) : k1_pay3 e.v54 e.v66 e.v72 e.v78 e.v80 e.v89 (ix2 a b) = e.v54 (ix2 a b) + k1_pay1 e.v66 e.v72 e.v78 e.v80 e.v89 (ix2 a b) := by
  pointwise [k1_pay3]
theorem pay4_at (e : LoopEnv Ideal) (a b) : k1_pay4 e.v57 e.v66 e.v72 e.v78 e.v80 e.v89 (ix2 a b) = e.v57 (ix2 a b) + k1_pay1 e.v66 e.v72 e.v78 e.v80 e.v89 (ix2 a b) := by
  pointwise [k1_pay4]
theorem pay5_at (e : LoopEnv Ideal) (a b) : k1_pay5 e.v60 e.v66 e.v72 e.v78 e.v80 e.v89 (ix2 a b) = e.v60 (ix2 a b) + k1_pay1 e.v66 e.v72 e.v78 e.v80 e.v89 (ix2 a b) := by
  pointwise [k1_pay5]
/-- The shifted area. -/
theorem pay6_at (e : LoopEnv Ideal) (a b) : k1_pay6 e.v51 e.v54 e.v57 e.v60 e.v66 e.v72 e.v78 e.v80 e.v89 (ix2 a b)
    = (k1_pay4 e.v57 e.v66 e.v72 e.v78 e.v80 e.v89 (ix2 a b) - k1_pay2 e.v51 e.v66 e.v72 e.v78 e.v80 e.v89 (ix2 a b))
      * (k1_pay5 e.v60 e.v66 e.v72 e.v78 e.v80 e.v89 (ix2 a b) - k1_pay3 e.v54 e.v66 e.v72 e.v78 e.v80 e.v89 (ix2 a b)) := by
  pointwise [k1_pay6]
/-- Whether a box with an area overlaps another by more than a half. -/
def suppress (x1 y1 x2 y2 ar x1' y1' x2' y2' ar' : EReal) : BitVec 1 :=
  Ideal.cmp .ogt (Ideal.div (max 0 (min x2 x2' - max x1 x1') * max 0 (min y2 y2' - max y1 y1'))
    (ar + ar' - max 0 (min x2 x2' - max x1 x1') * max 0 (min y2 y2' - max y1 y1') + Ideal.ofBits .f32 0x3089705F#32)) half
/-- The scores after one round: minus infinity where the overlap with the chosen box is too great. -/
theorem pay10_at (e : LoopEnv Ideal) (w : FVec Ideal S8x128 .f32) (x1 y1 x2 y2 ar : EReal) (a b) :
    k1_pay10 e.v51 e.v54 e.v57 e.v60 e.v66 e.v72 e.v78 e.v80 e.v89 w x1 y1 x2 y2 ar (ix2 a b)
    = Scalar.select (suppress (k1_pay2 e.v51 e.v66 e.v72 e.v78 e.v80 e.v89 (ix2 a b)) (k1_pay3 e.v54 e.v66 e.v72 e.v78 e.v80 e.v89 (ix2 a b))
        (k1_pay4 e.v57 e.v66 e.v72 e.v78 e.v80 e.v89 (ix2 a b)) (k1_pay5 e.v60 e.v66 e.v72 e.v78 e.v80 e.v89 (ix2 a b))
        (k1_pay6 e.v51 e.v54 e.v57 e.v60 e.v66 e.v72 e.v78 e.v80 e.v89 (ix2 a b)) x1 y1 x2 y2 ar) ⊥ (w (ix2 a b)) := by
  unfold suppress half
  rw [← ninf_eq]
  pointwise [k1_pay10]
/-- The greatest remaining score. -/
theorem pay12_eq (w : FVec Ideal S8x128 .f32) : k1_pay12 w = Finset.univ.fold max ⊥ fun x : Fin 8 × Fin 128 => w (ix2 x.1 x.2) := by
  pointwise [k1_pay12]
  rw [ninf_eq]
/-- The mask of the smallest position that holds it. -/
theorem pay13_at (v4 : IVec S8x128 32) (w : FVec Ideal S8x128 .f32) (a b) : k1_pay13 v4 w (ix2 a b)
    = IntOp.cmpi .eq (v4 (ix2 a b)) (Finset.univ.fold IntOp.minsi 2147483647#32 fun x : Fin 8 × Fin 128 =>
      if w (ix2 x.1 x.2) = k1_pay12 w then v4 (ix2 x.1 x.2) else 1073741824#32) := by
  pointwise [k1_pay13]
/-- The sum of a tile kept where `sel` is one. -/
def picked (sel : IVec S8x128 1) (x : FVec Ideal S8x128 .f32) : EReal := ∑ a, ∑ b, Scalar.select (sel (ix2 a b)) (x (ix2 a b)) 0

/-! Each coordinate of the chosen box is read by a sum over that mask. -/

theorem pay14_eq (v4) (x w : FVec Ideal S8x128 .f32) : k1_pay14 v4 x w = picked (k1_pay13 v4 w) x := by unfold picked; pointwise [k1_pay14]
theorem pay15_eq (v4) (x w : FVec Ideal S8x128 .f32) : k1_pay15 v4 x w = picked (k1_pay13 v4 w) x := by unfold picked; pointwise [k1_pay15]
theorem pay16_eq (v4) (x w : FVec Ideal S8x128 .f32) : k1_pay16 v4 x w = picked (k1_pay13 v4 w) x := by unfold picked; pointwise [k1_pay16]
theorem pay17_eq (v4) (x w : FVec Ideal S8x128 .f32) : k1_pay17 v4 x w = picked (k1_pay13 v4 w) x := by unfold picked; pointwise [k1_pay17]
theorem pay18_eq (v4) (x w : FVec Ideal S8x128 .f32) : k1_pay18 v4 x w = picked (k1_pay13 v4 w) x := by unfold picked; pointwise [k1_pay18]
theorem pay20_eq (x : FVec Ideal S8x128 .f32) (sel) : k1_pay20 x sel = picked sel x := by unfold picked; pointwise [k1_pay20]
/-- The first two columns of the row that a round records. -/
theorem pay21_at (x y : FVec Ideal S8x128 .f32) (v104 : IVec S128x8 32) (m : EReal) (sel) (r c) : k1_pay21 x y v104 m sel (k1_pay19 (F := Ideal)) (ix2 r c)
    = Scalar.select (IntOp.cmpi .eq (v104 (ix2 r c)) 0#32) (if 0 < m then picked sel x else 0) 0
      + Scalar.select (IntOp.cmpi .eq (v104 (ix2 r c)) 1#32) (if 0 < m then picked sel y else 0) 0 := by
  unfold picked
  pointwise [k1_pay21, k1_pay19]
/-- Its third column. -/
theorem pay22_at (x : FVec Ideal S8x128 .f32) (v104 : IVec S128x8 32) (m : EReal) (sel) (r c) : k1_pay22 x v104 m sel (ix2 r c)
    = Scalar.select (IntOp.cmpi .eq (v104 (ix2 r c)) 2#32) (if 0 < m then picked sel x else 0) 0 := by
  unfold picked
  pointwise [k1_pay22]
/-- The table of results after a round: row `j` is the row recorded, the others stay. -/
theorem pay9_at (acc p q : FVec Ideal S128x8 .f32) (j : BitVec 32) (m y : EReal) (r c) :
    k1_pay9 acc j m y (Scalar.cmpf (F := Ideal) (φ := .f32) .ogt m (Scalar.ofBits .f32 0x00000000#32)) p q (ix2 r c)
    = Scalar.select (IntOp.cmpi .eq (BitVec.ofNat 32 r.val) j)
        (p (ix2 r c) + q (ix2 r c) + Scalar.select (IntOp.cmpi .eq (BitVec.ofNat 32 c.val) 3#32) (if 0 < m then y else 0) 0
          + Scalar.select (IntOp.cmpi .eq (BitVec.ofNat 32 c.val) 4#32) (if 0 < m then m else 0) 0)
        (acc (ix2 r c)) := by
  pointwise [k1_pay9]
/-- The result is the table's first hundred rows and five columns. -/
theorem pay11_at (acc : FVec Ideal S128x8 .f32) (r : Fin 100) (j : Fin 5) :
    k1_pay11 acc (ix2 r j) = acc (ix2 ⟨r.val, by omega⟩ ⟨j.val, by omega⟩) := by
  pointwise [k1_pay11]

section
variable {e : LoopEnv Ideal} {bx : Fin 1000 → Fin 4 → EReal} {lb val : Fin 1000 → EReal} (h : EnvOf e bx lb)
include h

/-- The offset of candidate `p`. -/
theorem EnvOf.off (p) : k1_pay1 e.v66 e.v72 e.v78 e.v80 e.v89 (ix2 (at8 p).1 (at8 p).2) = lb p * (maxCoord bx + Ideal.ofBits .f32 0x3F800000#32) := by
  rw [pay1_at, h.mx, h.lb]

/-! The shifted corners and areas of the thousand candidates. -/

theorem EnvOf.sx1 : Holds (k1_pay2 e.v51 e.v66 e.v72 e.v78 e.v80 e.v89) fun p => shifted bx lb p 0 := fun p => by
  rw [pay2_at, h.off, h.x1]; rfl
theorem EnvOf.sy1 : Holds (k1_pay3 e.v54 e.v66 e.v72 e.v78 e.v80 e.v89) fun p => shifted bx lb p 1 := fun p => by
  rw [pay3_at, h.off, h.y1]; rfl
theorem EnvOf.sx2 : Holds (k1_pay4 e.v57 e.v66 e.v72 e.v78 e.v80 e.v89) fun p => shifted bx lb p 2 := fun p => by
  rw [pay4_at, h.off, h.x2]; rfl
theorem EnvOf.sy2 : Holds (k1_pay5 e.v60 e.v66 e.v72 e.v78 e.v80 e.v89) fun p => shifted bx lb p 3 := fun p => by
  rw [pay5_at, h.off, h.y2]; rfl
theorem EnvOf.ar : Holds (k1_pay6 e.v51 e.v54 e.v57 e.v60 e.v66 e.v72 e.v78 e.v80 e.v89) fun p => area bx lb p := fun p => by
  rw [pay6_at, h.sx1 p, h.sy1 p, h.sx2 p, h.sy2 p]; rfl

variable {w : FVec Ideal S8x128 .f32} {f : Fin 1000 → EReal} (hw : Holds w f) (hb : ∀ x, 1000 ≤ num x → w (ix2 x.1 x.2) = ⊥)
include hw hb

/-- The greatest score left is the first greatest position's. -/
theorem EnvOf.best : k1_pay12 w = f (first f) := by
  rw [pay12_eq, fold_tile (g := fun x : Fin 8 × Fin 128 => w (ix2 x.1 x.2)) hw hb, fold_first]
/-- The kernel marks that position alone. -/
theorem EnvOf.mark (a b) : k1_pay13 e.v4 w (ix2 a b) = BitVec.ofBool (decide (num (a, b) = (first f).val)) := by
  rw [pay13_at, h.best hw hb]
  simp only [h.pos]
  rw [show (Finset.univ.fold IntOp.minsi 2147483647#32 fun x : Fin 8 × Fin 128 => if w (ix2 x.1 x.2) = f (first f) then
    BitVec.ofNat 32 (num (x.1, x.2)) else 1073741824#32) = _ from first_word (w := fun x : Fin 8 × Fin 128 => w (ix2 x.1 x.2)) hw]
  have hn := num_lt (a, b)
  have hf := (first f).isLt
  by_cases hc : num (a, b) = (first f).val
  · rw [decide_eq_true hc]
    exact (WordCmp.cmpi_eq_ofNat_eq_one_iff (by omega) (by omega)).mpr hc
  · rw [decide_eq_false hc]
    exact (WordCmp.cmpi_eq_ofNat_eq_zero_iff (by omega) (by omega)).mpr hc
/-- What it picks from a tile is that position's entry. -/
theorem EnvOf.pick {T : FVec Ideal S8x128 .f32} {g : Fin 1000 → EReal} (hT : Holds T g) : picked (k1_pay13 e.v4 w) T = g (first f) :=
  (Tile.pick (fun a b => T (ix2 a b)) _ _ (h.mark hw hb)).trans (hT _)

end

/-- What the loop carries before trip `k`. -/
structure IterAt (acc : FVec Ideal S8x128 .f32 × FVec Ideal S128x8 .f32) (bx : Fin 1000 → Fin 4 → EReal) (lb val : Fin 1000 → EReal) (k : ℕ) : Prop where
  left : Holds acc.1 (left bx lb val k)
  pad : ∀ x, 1000 ≤ num x → acc.1 (ix2 x.1 x.2) = ⊥
  rows : ∀ (r : Fin 128) (j : Fin 5), r.val < k → acc.2 (ix2 r ⟨j.val, by omega⟩) = row bx lb val r.val j

/-- Five columns, each put in place by its number. -/
theorem assemble (a b c d s : EReal) (j : Fin 5) :
    Scalar.select (IntOp.cmpi .eq (BitVec.ofNat 32 j.val) 0#32) a 0 + Scalar.select (IntOp.cmpi .eq (BitVec.ofNat 32 j.val) 1#32) b 0
      + Scalar.select (IntOp.cmpi .eq (BitVec.ofNat 32 j.val) 2#32) c 0 + Scalar.select (IntOp.cmpi .eq (BitVec.ofNat 32 j.val) 3#32) d 0
      + Scalar.select (IntOp.cmpi .eq (BitVec.ofNat 32 j.val) 4#32) s 0 = ![a, b, c, d, s] j := by
  fin_cases j <;> simp [Scalar.select, IntOp.cmpi]

/-- One round of the loop is one round of the selection. -/
theorem IterAt.trip {e : LoopEnv Ideal} {bx : Fin 1000 → Fin 4 → EReal} {lb val : Fin 1000 → EReal} (h : EnvOf e bx lb)
    {acc : FVec Ideal S8x128 .f32 × FVec Ideal S128x8 .f32} {k : ℕ} (hk : k < 100) (ha : IterAt acc bx lb val k) :
    IterAt (nmsTrip e (Scf.iv 0#32 1#32 k) acc) bx lb val (k + 1) := by
  refine ⟨fun p => ?_, fun x hx => ?_, fun r j hr => ?_⟩
  · show k1_pay10 _ _ _ _ _ _ _ _ _ _ _ _ _ _ _ _ = _
    rw [pay10_at, pay14_eq, pay15_eq, pay16_eq, pay17_eq, pay18_eq, h.pick ha.left ha.pad h.sx1, h.pick ha.left ha.pad h.sy1,
      h.pick ha.left ha.pad h.sx2, h.pick ha.left ha.pad h.sy2, h.pick ha.left ha.pad h.ar, h.sx1 p, h.sy1 p, h.sx2 p, h.sy2 p, h.ar p, ha.left p]
    rfl
  · show k1_pay10 _ _ _ _ _ _ _ _ _ _ _ _ _ _ _ _ = _
    rw [pay10_at, ha.pad x hx]
    unfold Scalar.select
    split <;> rfl
  · show k1_pay9 _ _ _ _ _ _ _ _ = _
    rw [pay9_at, Pick.iv_eq, pay21_at, pay22_at, pay20_eq, h.best ha.left ha.pad, h.pick ha.left ha.pad h.x1, h.pick ha.left ha.pad h.y1,
      h.pick ha.left ha.pad h.x2, h.pick ha.left ha.pad h.y2]
    by_cases hrk : r.val = k
    · rw [WordCmp.select_of_eq_one ((WordCmp.cmpi_eq_ofNat_eq_one_iff (by omega) (by omega)).mpr hrk), h.col]
      refine (assemble _ _ _ _ _ j).trans ?_
      rw [hrk]
      unfold row kept
      by_cases hp : 0 < Greedy.left bx lb val k (first (Greedy.left bx lb val k))
      · simp only [if_pos hp]
        rw [left_of_pos bx lb val hp]
      · simp only [if_neg hp]
        fin_cases j <;> rfl
    · rw [WordCmp.select_of_eq_zero ((WordCmp.cmpi_eq_ofNat_eq_zero_iff (by omega) (by omega)).mpr hrk)]
      exact ha.rows r j (by omega)

/-- So after `k` rounds the loop holds the selection's state after `k`. -/
theorem iterAt {e : LoopEnv Ideal} {bx : Fin 1000 → Fin 4 → EReal} {lb val : Fin 1000 → EReal} (h : EnvOf e bx lb)
    {init : FVec Ideal S8x128 .f32 × FVec Ideal S128x8 .f32} (h0 : IterAt init bx lb val 0) :
    ∀ k, k ≤ 100 → IterAt (nmsIter e init k) bx lb val k
  | 0, _ => h0
  | k + 1, hk => (iterAt h h0 k (Nat.le_of_succ_le hk)).trip h hk

/-! The corners the kernel decodes, at one position. -/

/-! The decoded corners, one position at a time. -/

theorem corX1_at (a b c d : Vec Ideal S8x128 .f32) (r l) : corX1 (F := Ideal) a b c d (ix2 r l) = low (a (ix2 r l)) (b (ix2 r l)) (c (ix2 r l)) (d (ix2 r l)) := by
  unfold low mid ext half clip
  pointwise [corX1, k1_pay37, k1_pay26, k1_pay28, k1_pay30, k1_pay33, k1_pay35]
theorem corX2_at (a b c d : Vec Ideal S8x128 .f32) (r l) : corX2 (F := Ideal) a b c d (ix2 r l) = high (a (ix2 r l)) (b (ix2 r l)) (c (ix2 r l)) (d (ix2 r l)) := by
  unfold high mid ext half clip
  pointwise [corX2, k1_pay39, k1_pay26, k1_pay28, k1_pay30, k1_pay33, k1_pay35]
theorem corY1_at (a b c d : Vec Ideal S8x128 .f32) (r l) : corY1 (F := Ideal) a b c d (ix2 r l) = low (a (ix2 r l)) (b (ix2 r l)) (c (ix2 r l)) (d (ix2 r l)) := by
  unfold low mid ext half clip
  pointwise [corY1, k1_pay38, k1_pay27, k1_pay29, k1_pay31, k1_pay32, k1_pay34, k1_pay36]
theorem corY2_at (a b c d : Vec Ideal S8x128 .f32) (r l) : corY2 (F := Ideal) a b c d (ix2 r l) = high (a (ix2 r l)) (b (ix2 r l)) (c (ix2 r l)) (d (ix2 r l)) := by
  unfold high mid ext half clip
  pointwise [corY2, k1_pay40, k1_pay27, k1_pay29, k1_pay31, k1_pay32, k1_pay34, k1_pay36]

/-- A tile at the positions in use, minus infinity elsewhere. -/
def used (T : FVec Ideal S8x128 .f32) (x : Fin 8 × Fin 128) : EReal := Scalar.select (k1_pay24 (ix2 x.1 x.2)) (T (ix2 x.1 x.2)) ⊥

/-- The position number of an entry of the tile. -/
theorem pay23_at (a b) : k1_pay23 (ix2 a b) = BitVec.ofNat 32 (num (a, b)) := by
  pointwise [k1_pay23]
  unfold num
  simp only
  show BitVec.ofNat 32 a.val * BitVec.ofNat 32 128 + BitVec.ofNat 32 b.val = _
  rw [← BitVec.ofNat_mul, ← BitVec.ofNat_add, Nat.mul_comm]
/-- The mask of the thousand positions in use. -/
theorem pay24_at (x : Fin 8 × Fin 128) : k1_pay24 (ix2 x.1 x.2) = BitVec.ofBool (decide (num x < 1000)) := by
  have e : k1_pay24 (ix2 x.1 x.2) = IntOp.cmpi .slt (k1_pay23 (ix2 x.1 x.2)) 1000#32 := by pointwise [k1_pay24]
  have hn := num_lt x
  rw [e, pay23_at]
  show IntOp.cmpi .slt (BitVec.ofNat 32 (num x)) 1000#32 = _
  by_cases h : num x < 1000
  · rw [decide_eq_true h]; exact (WordCmp.cmpi_slt_ofNat_eq_one_iff (w := 32) (by omega) (by decide)).mpr h
  · rw [decide_eq_false h]; exact (WordCmp.cmpi_slt_ofNat_eq_zero_iff (w := 32) (by omega) (by decide)).mpr (by omega)
/-- A tile at a position in use. -/
theorem used_at {T : FVec Ideal S8x128 .f32} {f : Fin 1000 → EReal} (h : Holds T f) (p) : used T (at8 p) = f p := by
  unfold used
  rw [pay24_at, WordCmp.select_decide, if_pos (by rw [num_at8]; exact p.isLt)]
  exact h p
/-- A tile at a padded position. -/
theorem used_pad (T : FVec Ideal S8x128 .f32) (x) (hx : 1000 ≤ num x) : used T x = ⊥ := by
  unfold used
  rw [pay24_at, WordCmp.select_decide, if_neg (by omega)]
/-- The greatest entry in use. -/
theorem used_max {T : FVec Ideal S8x128 .f32} {f : Fin 1000 → EReal} (h : Holds T f) : Finset.univ.fold max ⊥ (used T) = Finset.univ.fold max ⊥ f :=
  fold_tile (used_at h) (used_pad T)

/-! The greatest coordinate on each side, over the positions in use. -/

theorem maxX1 (a b c d : Vec Ideal S8x128 .f32) : k1_pay41 k1_pay24 (k1_pay26 d c) (k1_pay28 d c c) (k1_pay30 b) a
    = Finset.univ.fold max ⊥ (used (corX1 a b c d)) := by
  unfold used corX1
  rw [← ninf_eq]
  pointwise [k1_pay41]
theorem maxY1 (a b c d : Vec Ideal S8x128 .f32) : k1_pay42 k1_pay24 (k1_pay27 d c) (k1_pay29 d c c) (k1_pay31 b) k1_pay32 a
    = Finset.univ.fold max ⊥ (used (corY1 a b c d)) := by
  unfold used corY1
  rw [← ninf_eq]
  pointwise [k1_pay42]
theorem maxX2 (a b c d : Vec Ideal S8x128 .f32) : k1_pay43 k1_pay24 (k1_pay26 d c) (k1_pay28 d c c) (k1_pay30 b) a
    = Finset.univ.fold max ⊥ (used (corX2 a b c d)) := by
  unfold used corX2
  rw [← ninf_eq]
  pointwise [k1_pay43]
theorem pay44_at (a b c d : Vec Ideal S8x128 .f32) (x : Fin 8 × Fin 128) : k1_pay44 k1_pay24 (k1_pay27 d c) (k1_pay29 d c c) (k1_pay31 b) k1_pay32 a (ix2 x.1 x.2)
    = used (corY2 a b c d) x := by
  unfold used corY2
  rw [← ninf_eq]
  pointwise [k1_pay44]

/-- The greatest of the four greatest corners is the greatest coordinate. -/
theorem max_corners (bx : Fin 1000 → Fin 4 → EReal) :
    max (Finset.univ.fold max ⊥ fun p => bx p 0) (max (Finset.univ.fold max ⊥ fun p => bx p 1)
      (max (Finset.univ.fold max ⊥ fun p => bx p 2) (Finset.univ.fold max ⊥ fun p => bx p 3))) = maxCoord bx := by
  have hle : ∀ k, (Finset.univ.fold max ⊥ fun p => bx p k) ≤ maxCoord bx := fun k => by
    refine (Finset.fold_max_le _).mpr ⟨bot_le, fun p _ => (Finset.le_fold_max _).mpr (Or.inr ⟨(p, k), ?_, le_rfl⟩)⟩
    simp only [Finset.mem_univ]
  have hge : ∀ p k, bx p k ≤ Finset.univ.fold max ⊥ fun p => bx p k := fun p k =>
    Finset.le_fold_max _ |>.mpr (Or.inr ⟨p, Finset.mem_univ _, le_rfl⟩)
  refine le_antisymm (max_le (hle 0) (max_le (hle 1) (max_le (hle 2) (hle 3)))) (Finset.fold_max_le _ |>.mpr ⟨bot_le, fun x _ => ?_⟩)
  obtain ⟨p, k⟩ := x
  refine (hge p k).trans ?_
  fin_cases k
  · exact le_max_left _ _
  · exact (le_max_left _ _).trans (le_max_right _ _)
  · exact (le_max_left _ _).trans ((le_max_right _ _).trans (le_max_right _ _))
  · exact (le_max_right _ _).trans ((le_max_right _ _).trans (le_max_right _ _))

/-- The loop's operands, from ten tiles that hold scores, deltas, proposals and labels. -/
theorem nmsEnv_of {b1 b2 b3 b4 b5 b6 b7 b8 b9 : Vec Ideal S8x128 .f32} {d a : Fin 1000 → Fin 4 → EReal} {lb : Fin 1000 → EReal}
    (h1 : Holds b1 fun p => d p 0) (h2 : Holds b2 fun p => d p 1) (h3 : Holds b3 fun p => d p 2) (h4 : Holds b4 fun p => d p 3)
    (h5 : Holds b5 fun p => a p 0) (h6 : Holds b6 fun p => a p 1) (h7 : Holds b7 fun p => a p 2) (h8 : Holds b8 fun p => a p 3) (h9 : Holds b9 lb) :
    EnvOf (nmsEnv b1 b2 b3 b4 b5 b6 b7 b8 b9) (fun p => box (d p) (a p)) lb := by
  have x1 : Holds (corX1 b1 b3 b5 b7) fun p => box (d p) (a p) 0 := fun p => by rw [corX1_at, h1 p, h3 p, h5 p, h7 p]; rfl
  have y1 : Holds (corY1 b2 b4 b6 b8) fun p => box (d p) (a p) 1 := fun p => by rw [corY1_at, h2 p, h4 p, h6 p, h8 p]; rfl
  have x2 : Holds (corX2 b1 b3 b5 b7) fun p => box (d p) (a p) 2 := fun p => by rw [corX2_at, h1 p, h3 p, h5 p, h7 p]; rfl
  have y2 : Holds (corY2 b2 b4 b6 b8) fun p => box (d p) (a p) 3 := fun p => by rw [corY2_at, h2 p, h4 p, h6 p, h8 p]; rfl
  refine ⟨pay23_at, x1, y1, x2, y2, h9, ?_, fun r c => ?_⟩
  · rw [← max_corners, ← used_max x1, ← used_max y1, ← used_max x2, ← used_max y2, ← maxX1, ← maxY1, ← maxX2]
    unfold envMax
    rw [ninf_eq]
    simp only [nmsEnv, pay44_at]
  · show iota .tc S128x8 32 [1] iota_S128x8_d1_w32 (ix2 r c) = _
    pointwise

/-- The second kernel's block, from such tiles. -/
theorem nmsOut_at {b0 b1 b2 b3 b4 b5 b6 b7 b8 b9 : Vec Ideal S8x128 .f32} {d a : Fin 1000 → Fin 4 → EReal} {lb val : Fin 1000 → EReal}
    (h0 : Holds b0 val) (h1 : Holds b1 fun p => d p 0) (h2 : Holds b2 fun p => d p 1) (h3 : Holds b3 fun p => d p 2) (h4 : Holds b4 fun p => d p 3)
    (h5 : Holds b5 fun p => a p 0) (h6 : Holds b6 fun p => a p 1) (h7 : Holds b7 fun p => a p 2) (h8 : Holds b8 fun p => a p 3) (h9 : Holds b9 lb)
    (r : Fin 100) (j : Fin 5) : nmsOut b0 b1 b2 b3 b4 b5 b6 b7 b8 b9 (ix2 r j) = row (fun p => box (d p) (a p)) lb val r.val j := by
  have e : ∀ x : Fin 8 × Fin 128, k1_pay7 k1_pay24 (k1_pay25 b0) (ix2 x.1 x.2) = used b0 x := fun x => by
    unfold used
    rw [← ninf_eq]
    pointwise [k1_pay7, k1_pay25]
  have hi : IterAt (k1_pay7 k1_pay24 (k1_pay25 b0), k1_pay8 (F := Ideal)) (fun p => box (d p) (a p)) lb val 0 :=
    ⟨fun p => (e _).trans (used_at h0 p), fun x hx => (e x).trans (used_pad b0 x hx), fun _ _ h => absurd h (Nat.not_lt_zero _)⟩
  unfold nmsOut
  rw [pay11_at, show k1_t1_loop.trips = 100 by decide +kernel]
  exact (iterAt (nmsEnv_of h1 h2 h3 h4 h5 h6 h7 h8 h9) hi 100 le_rfl).rows ⟨r.val, by omega⟩ j r.isLt

section
variable (m : (ℓ : Loc nD τ sig) → Buf (Elt Ideal) ℓ) (c : Dev nD)

/-- Every input window of the second kernel is its whole array: a block's coordinate is the array's own. -/
theorem emb_whole (t : Fin cfg1.N) (y : S8x128.Idx) : (win1_0.blk t).view.emb y = y := by
  have e : ∀ t : Fin cfg1.N, win1_0.index t = ![0, 0] := (by decide +kernel : ∀ t : Fin grid1.N, _)
  obtain ⟨r, k, rfl⟩ : ∃ (r : Fin 8) (k : Fin 128), y = ix2 r k := ⟨y 0, y 1, by funext a; fin_cases a <;> rfl⟩
  blk_ext [e]

/-! What the second kernel reads of each operand is the operand. -/

theorem stg1_0 (t : Fin cfg1.N) : R1.stg (fun c b => U3 m c b) c 0 t = U3 m c main_call0_v64 :=
  funext fun y => congrArg (U3 m c main_call0_v64) (emb_whole t y)
theorem stg1_1 (t : Fin cfg1.N) : R1.stg (fun c b => U3 m c b) c 1 t = U3 m c main_call0_v65 :=
  funext fun y => congrArg (U3 m c main_call0_v65) (emb_whole t y)
theorem stg1_2 (t : Fin cfg1.N) : R1.stg (fun c b => U3 m c b) c 2 t = U3 m c main_call0_v66 :=
  funext fun y => congrArg (U3 m c main_call0_v66) (emb_whole t y)
theorem stg1_3 (t : Fin cfg1.N) : R1.stg (fun c b => U3 m c b) c 3 t = U3 m c main_call0_v67 :=
  funext fun y => congrArg (U3 m c main_call0_v67) (emb_whole t y)
theorem stg1_4 (t : Fin cfg1.N) : R1.stg (fun c b => U3 m c b) c 4 t = U3 m c main_call0_v68 :=
  funext fun y => congrArg (U3 m c main_call0_v68) (emb_whole t y)
theorem stg1_5 (t : Fin cfg1.N) : R1.stg (fun c b => U3 m c b) c 5 t = U3 m c main_call0_v69 :=
  funext fun y => congrArg (U3 m c main_call0_v69) (emb_whole t y)
theorem stg1_6 (t : Fin cfg1.N) : R1.stg (fun c b => U3 m c b) c 6 t = U3 m c main_call0_v70 :=
  funext fun y => congrArg (U3 m c main_call0_v70) (emb_whole t y)
theorem stg1_7 (t : Fin cfg1.N) : R1.stg (fun c b => U3 m c b) c 7 t = U3 m c main_call0_v71 :=
  funext fun y => congrArg (U3 m c main_call0_v71) (emb_whole t y)
theorem stg1_8 (t : Fin cfg1.N) : R1.stg (fun c b => U3 m c b) c 8 t = U3 m c main_call0_v72 :=
  funext fun y => congrArg (U3 m c main_call0_v72) (emb_whole t y)
theorem stg1_9 (t : Fin cfg1.N) : R1.stg (fun c b => U3 m c b) c 9 t = U3 m c main_call0_v73 :=
  funext fun y => congrArg (U3 m c main_call0_v73) (emb_whole t y)

/-- The second kernel's result is its block. -/
theorem out1_eq : out1 m c = nmsOut (U3 m c main_call0_v64) (U3 m c main_call0_v65) (U3 m c main_call0_v66) (U3 m c main_call0_v67) (U3 m c main_call0_v68)
    (U3 m c main_call0_v69) (U3 m c main_call0_v70) (U3 m c main_call0_v71) (U3 m c main_call0_v72) (U3 m c main_call0_v73) := by
  unfold out1
  refine (R1.dat (fun c b => U3 m c b) c).arrAt_eq_of_covers 10 _ (by decide +kernel) fun t hf y => ?_
  blk_simp
  have e : ∀ t : Fin cfg1.N, win1_10.index t = ![0, 0] := (by decide +kernel : ∀ t : Fin grid1.N, _)
  obtain ⟨r, k, rfl⟩ : ∃ (r : Fin 100) (k : Fin 5), y = ix2 r k := ⟨y 0, y 1, by funext a; fin_cases a <;> rfl⟩
  rw [show (win1_10.blk t).view.emb (ix2 r k) = ix2 r k by blk_ext [e]]
  rw [← stg1_0 m c t, ← stg1_1 m c t, ← stg1_2 m c t, ← stg1_3 m c t, ← stg1_4 m c t, ← stg1_5 m c t, ← stg1_6 m c t, ← stg1_7 m c t,
    ← stg1_8 m c t, ← stg1_9 m c t]
  rfl

/-- The second kernel's result: the rows the greedy suppression keeps of the selected candidates. -/
theorem out1_at (r : Fin 100) (j : Fin 5) : (out1 m c : FVec Ideal S100x5 .f32) (ix2 r j) = Chosen.result (A0 m c) (A1 m c) (A2 m c) r j := by
  rw [out1_eq]
  have hp : ∀ p : Fin 1000, 128 * (at8 p).1.val + (at8 p).2.val = p.val := num_at8
  exact nmsOut_at (d := fun p => delta (A1 m c) (rowOf (ksel m c p)) (clsOf (ksel m c p))) (a := fun p => A2 m c (rowOf (ksel m c p)))
    (fun p => v64_at m c (hp p)) (fun p => v65_at m c (hp p)) (fun p => v66_at m c (hp p)) (fun p => v67_at m c (hp p)) (fun p => v68_at m c (hp p))
    (fun p => v69_at m c (hp p)) (fun p => v70_at m c (hp p)) (fun p => v71_at m c (hp p)) (fun p => v72_at m c (hp p)) (fun p => v73_at m c (hp p)) r j
end

end Cert.KernelIdeal.Hand

end
-- ==== Proof.lean ====
/-
  The proof of `Cert.Claim`: the runs of the three programs and the equation of the two idealized results are proved in
  the modules imported below; here they are put together.
-/
module

public import proofs.«01_k».proof.Defs
public import proofs.«01_k».proof.Proof.KernelRun
public import proofs.«01_k».proof.Proof.KernelIdealRun
public import proofs.«01_k».proof.Proof.RefRun
public import proofs.«01_k».proof.Proof.RefLoop
public import proofs.«01_k».proof.Proof.Nms

@[expose] public section

noncomputable section

namespace Cert.Proof

open Idealize.ShloMosaic Idealize.ShloMosaic.TcCoe Idealize.ShloMosaic.StableHlo Idealize.SL.Sem

/-- The kernel as printed runs, leaves its arguments as they were and every counter at zero. -/
theorem kernel_frame : Cert.quiescent_Kernel := fun m g _ =>
  (θ_run _ _ _).mono (fun _ h => ⟨fun c => (h.1 c).2, h.2⟩) (Cert.Kernel.Hand.run_value (F := Bits) m g)

/-- So does its idealization. -/
theorem kernelIdeal_frame : Cert.quiescent_KernelIdeal := fun m g _ =>
  (θ_run _ _ _).mono (fun _ h => ⟨fun c => (h.1 c).2, h.2⟩) (Cert.KernelIdeal.Hand.run_value (F := Ideal) m g)

/-- So does the idealized reference. -/
theorem referenceIdeal_frame : Cert.quiescent_ReferenceIdeal := fun m g _ =>
  (θ_run _ _ _).mono (fun _ h => ⟨fun c => (h.1 c).2, h.2⟩) (Cert.ReferenceIdeal.Hand.run_value (F := Ideal) m g)

section
open Cert.KernelIdeal (nD τ)
variable (m : (ℓ : Loc nD τ Cert.KernelIdeal.sig) → Buf (Elt Ideal) ℓ)
  (m' : (ℓ : Loc Cert.ReferenceIdeal.nD Cert.ReferenceIdeal.τ Cert.ReferenceIdeal.sig) → Buf (Elt Ideal) ℓ) (c : Dev nD)

/-- Both programs report the greedy selection over one table of candidates, so from equal arguments their results are
one array. -/
theorem results_eq
    (h0 : m' ((c.tc : Thread nD Cert.ReferenceIdeal.τ).loc Cert.ReferenceIdeal.main_arg0) = m ((c.tc : Thread nD τ).loc Cert.KernelIdeal.main_arg0))
    (h1 : m' ((c.tc : Thread nD Cert.ReferenceIdeal.τ).loc Cert.ReferenceIdeal.main_arg1) = m ((c.tc : Thread nD τ).loc Cert.KernelIdeal.main_arg1))
    (h2 : m' ((c.tc : Thread nD Cert.ReferenceIdeal.τ).loc Cert.ReferenceIdeal.main_arg2) = m ((c.tc : Thread nD τ).loc Cert.KernelIdeal.main_arg2)) :
    Cert.ReferenceIdeal.Hand.fin m' c Cert.ReferenceIdeal.main_v152 = Cert.KernelIdeal.Hand.out1 m c := by
  have e0 : Cert.ReferenceIdeal.Hand.A0 (launchContents m' c) = Cert.KernelIdeal.Hand.A0 m c :=
    funext fun n => funext fun k => congrFun h0 (ix2 n k)
  have e1 : Cert.ReferenceIdeal.Hand.A1 (launchContents m' c) = Cert.KernelIdeal.Hand.A1 m c :=
    funext fun n => funext fun k => congrFun h1 (ix2 n k)
  have e2 : Cert.ReferenceIdeal.Hand.A2 (launchContents m' c) = Cert.KernelIdeal.Hand.A2 m c :=
    funext fun n => funext fun k => congrFun h2 (ix2 n k)
  funext i
  obtain ⟨r, j, rfl⟩ : ∃ (r : Fin 100) (j : Fin 5), i = ix2 r j := ⟨i 0, i 1, by funext a; fin_cases a <;> rfl⟩
  exact (Cert.ReferenceIdeal.Hand.fin_at m' c r j).trans (by rw [e0, e1, e2]; exact (Cert.KernelIdeal.Hand.out1_at m c r j).symm)

end

/-- From equal arguments the idealized kernel and the idealized reference end with equal results. -/
theorem algebraic : Cert.algebraic_KernelIdeal_ReferenceIdeal := fun m g m' g' _ hargs =>
  ⟨fun c => Cert.KernelIdeal.Hand.out1 m c,
    (θ_run _ _ _).mono (fun _ h c => h.1 c) (Cert.KernelIdeal.Hand.run_value (F := Ideal) m g),
    (θ_run _ _ _).mono (fun _ h c => ⟨(h.1 c).1.trans (results_eq m m' c (hargs c).1 (hargs c).2.1 (hargs c).2.2), (h.1 c).2⟩)
      (Cert.ReferenceIdeal.Hand.run_value (F := Ideal) m' g')⟩

theorem claim : Cert.Claim := ⟨Cert.Kernel.Gen.facts, Cert.KernelIdeal.Gen.facts, Cert.ReferenceIdeal.Gen.facts,
  kernel_frame, kernelIdeal_frame, referenceIdeal_frame, trivial, algebraic⟩

end Cert.Proof

end
